-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v33) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v59) = v0 c
          ∧ r.2.mem ((c.tc : Thread Cert.Reference4Ideal.nD Cert.Reference4Ideal.τ).loc Cert.Reference4Ideal.main_v61) = v1 c
          ∧ r.2.mem ((c.tc : Thread Cert.Reference4Ideal.nD Cert.Reference4Ideal.τ).loc Cert.Reference4Ideal.main_v18) = v2 c
          ∧ r.2.mem ((c.tc : Thread Cert.Reference4Ideal.nD Cert.Reference4Ideal.τ).loc Cert.Reference4Ideal.main_v68) = v3 c
          ∧ r.2.mem ((c.tc : Thread Cert.Reference4Ideal.nD Cert.Reference4Ideal.τ).loc Cert.Reference4Ideal.main_v71) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8192x2048 : Shape := ⟨2, ![8192, 2048]⟩
abbrev S2x2048x2048 : Shape := ⟨3, ![2, 2048, 2048]⟩
abbrev S2x1024x2048 : Shape := ⟨3, ![2, 1024, 2048]⟩
abbrev S1x2048x2048 : Shape := ⟨3, ![1, 2048, 2048]⟩
abbrev S2048x2048 : Shape := ⟨2, ![2048, 2048]⟩
abbrev S1x1024x2048 : Shape := ⟨3, ![1, 1024, 2048]⟩
abbrev S1024x2048 : Shape := ⟨2, ![1024, 2048]⟩
abbrev S11264x2048 : Shape := ⟨2, ![11264, 2048]⟩
abbrev S_ : Shape := ⟨0, ![]⟩

class Facts : Prop where
  bitsLt_bf16_f32 : FTy.bits .bf16 < FTy.bits .f32
  slices_S2x2048x2048_S1x2048x2048_0_0_0 : S2x2048x2048.Slices ![0, 0, 0] S1x2048x2048
  shapeCasts_S1x2048x2048_S2048x2048 : S1x2048x2048.ShapeCasts S2048x2048
  slices_S2x1024x2048_S1x1024x2048_0_0_0 : S2x1024x2048.Slices ![0, 0, 0] S1x1024x2048
  shapeCasts_S1x1024x2048_S1024x2048 : S1x1024x2048.ShapeCasts S1024x2048
  concatenates_S8192x2048_S2048x2048_S1024x2048_S11264x2048_d0 : Shape.Concatenates [S8192x2048, S2048x2048, S1024x2048] S11264x2048 0
  bcast_S_S11264x2048 : S_.BroadcastsInDim S11264x2048 (![] : Fin 0 → Fin S11264x2048.rank)

variable [Facts]

def fn {F : FTy → Type} [FloatOps F] (main_arg0 : FVec F S8192x2048 .bf16) (main_arg1 : FVec F S2x2048x2048 .f32) (main_arg2 : FVec F S2x1024x2048 .bf16) (main_arg3 : FVec F S2x1024x2048 .bf16) : IVec S11264x2048 1 :=
  let main_v0 : FVec F S8192x2048 .f32 := (extf .f32 · bitsLt_bf16_f32) main_arg0
  let main_v1 : FVec F S1x2048x2048 .f32 := (extractStridedSlice S1x2048x2048 ![0, 0, 0] · slices_S2x2048x2048_S1x2048x2048_0_0_0) main_arg1
  let main_v2 : FVec F S2048x2048 .f32 := shapeCast S2048x2048 main_v1 shapeCasts_S1x2048x2048_S2048x2048
  let main_v3 : FVec F S1x1024x2048 .bf16 := (extractStridedSlice S1x1024x2048 ![0, 0, 0] · slices_S2x1024x2048_S1x1024x2048_0_0_0) main_arg2
  let main_v4 : FVec F S1024x2048 .bf16 := shapeCast S1024x2048 main_v3 shapeCasts_S1x1024x2048_S1024x2048
  let main_v5 : FVec F S1024x2048 .f32 := (extf .f32 · bitsLt_bf16_f32) main_v4
  let main_v6 : FVec F S11264x2048 .f32 := concatenate S11264x2048 0 [⟨S8192x2048, main_v0⟩, ⟨S2048x2048, main_v2⟩, ⟨S1024x2048, main_v5⟩] concatenates_S8192x2048_S2048x2048_S1024x2048_S11264x2048_d0
  let main_v7 : FVec F S11264x2048 .f32 := Host.absf main_v6
  let main_cst : FVec F S_ .f32 := constant S_ .f32 0x7F800000#32
  let main_v8 : FVec F S11264x2048 .f32 := broadcastInDim S11264x2048 ![] bcast_S_S11264x2048 main_cst
  let main_v9 : IVec S11264x2048 1 := cmpf .olt main_v7 main_v8
  main_v9
-- ==== Kernel.lean ====
abbrev S8192x2048 : Shape := ⟨2, ![8192, 2048]⟩
abbrev S2x2048x2048 : Shape := ⟨3, ![2, 2048, 2048]⟩
abbrev S2x1024x2048 : Shape := ⟨3, ![2, 1024, 2048]⟩
abbrev S512x2048 : Shape := ⟨2, ![512, 2048]⟩
abbrev S1x256x2048 : Shape := ⟨3, ![1, 256, 2048]⟩
abbrev S2048x2048 : Shape := ⟨2, ![2048, 2048]⟩
abbrev S2x256x2048 : Shape := ⟨3, ![2, 256, 2048]⟩
abbrev S2 : Shape := ⟨1, ![2]⟩
abbrev S1 : Shape := ⟨1, ![1]⟩
abbrev S_ : Shape := ⟨0, ![]⟩
abbrev S256x2048 : Shape := ⟨2, ![256, 2048]⟩
abbrev S512x256 : Shape := ⟨2, ![512, 256]⟩
abbrev S512x512 : Shape := ⟨2, ![512, 512]⟩
abbrev S1x256x512 : Shape := ⟨3, ![1, 256, 512]⟩
abbrev S256x512 : Shape := ⟨2, ![256, 512]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S2x1024x2048, .bf16⟩
  | .hbm, ⟨3, _⟩ => ⟨S2x1024x2048, .bf16⟩
  | .hbm, ⟨4, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S512x2048, .bf16⟩
  | .local _ .vmem, ⟨7, _⟩ => ⟨S512x2048, .bf16⟩
  | .local _ .vmem, ⟨8, _⟩ => ⟨S2048x2048, .bf16⟩
  | .local _ .vmem, ⟨9, _⟩ => ⟨S2x256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8192x2048 : Shape := ⟨2, ![8192, 2048]⟩
abbrev S2x2048x2048 : Shape := ⟨3, ![2, 2048, 2048]⟩
abbrev S2x1024x2048 : Shape := ⟨3, ![2, 1024, 2048]⟩
abbrev S4x2048x2048 : Shape := ⟨3, ![4, 2048, 2048]⟩
abbrev S1x1024x2048 : Shape := ⟨3, ![1, 1024, 2048]⟩
abbrev S1024x2048 : Shape := ⟨2, ![1024, 2048]⟩
abbrev S4x256x4x512 : Shape := ⟨4, ![4, 256, 4, 512]⟩
abbrev S1x2048x2048 : Shape := ⟨3, ![1, 2048, 2048]⟩
abbrev S2048x2048 : Shape := ⟨2, ![2048, 2048]⟩
abbrev S4x2048x4x512 : Shape := ⟨4, ![4, 2048, 4, 512]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x512x2048 : Shape := ⟨4, ![4, 4, 512, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S2x1024x2048, .bf16⟩
  | .hbm, ⟨3, _⟩ => ⟨S2x1024x2048, .bf16⟩
  | .hbm, ⟨4, _⟩ => ⟨S8192x2048, .f32⟩
  | .hbm, ⟨5, _⟩ => ⟨S4x2048x2048, .f32⟩
  | .hbm, ⟨6, _⟩ => ⟨S1x1024x2048, .bf16⟩
  | .hbm, ⟨7, _⟩ => ⟨S1024x2048, .bf16⟩
  | .hbm, ⟨8, _⟩ => ⟨S1024x2048, .f32⟩
  | .hbm, ⟨9, _⟩ => ⟨S4x256x4x512, .f32⟩
  | .hbm, ⟨10, _⟩ => ⟨S1x1024x2048, .bf16⟩
  | .hbm, ⟨11, _⟩ => ⟨S1024x2048, .bf16⟩
  | .hbm, ⟨12, _⟩ => ⟨S1024x2048, .f32⟩
  | .hbm, ⟨13, _⟩ => ⟨S4x256x4x512, .f32⟩
  | .hbm, ⟨14, _⟩ => ⟨S1x2048x2048, .f32⟩
  | .hbm, ⟨15, _⟩ => ⟨S2048x2048, .f32⟩
  | .hbm, ⟨16, _⟩ => ⟨S4x2048x2048, .f32⟩
  | .hbm, ⟨17, _⟩ => ⟨S4x2048x4x512, .f32⟩
  | .hbm, ⟨18, _⟩ => ⟨S4x4x2048x256, .f32⟩
  | .hbm, ⟨19, _⟩ => ⟨S_, .f32⟩
  | .hbm, ⟨20, _⟩ => ⟨S4x4x2048x256, .f32⟩
  | .hbm, ⟨21, _⟩ => ⟨S4x4x2048x256, .f32⟩
  | .hbm, ⟨22, _⟩ => ⟨S_, .f32⟩
  | .hbm, ⟨23, _⟩ => ⟨S4x4x2048, .f32⟩
  | .hbm, ⟨24, _⟩ => ⟨S_, .f32⟩
  | .hbm, ⟨25, _⟩ => ⟨S4x4x2048, .f32⟩
  | .hbm, ⟨26, _⟩ => ⟨S4x4x2048, .f32⟩
  | .hbm, ⟨27, _⟩ => ⟨S4x4x2048x1, .f32⟩
  | .hbm, ⟨28, _⟩ => ⟨S4x4x2048x256, .f32⟩
  | .hbm, ⟨29, _⟩ => ⟨S4x4x2048x256, .f32⟩
  | .hbm, ⟨30, _⟩ => ⟨S4x4x2048x256, .f32⟩
  | .hbm, ⟨31, _⟩ => ⟨S_, .f32⟩
  | .hbm, ⟨32, _⟩ => ⟨S4x4x2048, .f32⟩
  | .hbm, ⟨33, _⟩ => ⟨S4x4x2048x1, .f32⟩
  | .hbm, ⟨34, _⟩ => ⟨S4x4x2048x256, .f32⟩
  | .hbm, ⟨35, _⟩ => ⟨S4x4x2048x256, .f32⟩
  | .hbm, ⟨36, _⟩ => ⟨S4x4x512x2048, .f32⟩
  | .hbm, ⟨37, _⟩ => ⟨S4x2048x4x512, .f32⟩
  | .hbm, ⟨38, _⟩ => ⟨S8192x2048, .f32⟩
  | .hbm, ⟨39, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Kernel2.lean ====
abbrev S8192x2048 : Shape := ⟨2, ![8192, 2048]⟩
abbrev S16x2048x512 : Shape := ⟨3, ![16, 2048, 512]⟩
abbrev S2x1x2048 : Shape := ⟨3, ![2, 1, 2048]⟩
abbrev S1024x2048 : Shape := ⟨2, ![1024, 2048]⟩
abbrev S1x1x2048 : Shape := ⟨3, ![1, 1, 2048]⟩
abbrev S2x2048x512 : Shape := ⟨3, ![2, 2048, 512]⟩
abbrev S2x512x2048 : Shape := ⟨3, ![2, 512, 2048]⟩
abbrev S2x2 : Shape := ⟨2, ![2, 2]⟩
abbrev S1 : Shape := ⟨1, ![1]⟩
abbrev S1x1 : Shape := ⟨2, ![1, 1]⟩
abbrev S_ : Shape := ⟨0, ![]⟩
abbrev S1x2048x512 : Shape := ⟨3, ![1, 2048, 512]⟩
abbrev S2048x512 : Shape := ⟨2, ![2048, 512]⟩
abbrev S1x512x2048 : Shape := ⟨3, ![1, 512, 2048]⟩
abbrev S512x2048 : Shape := ⟨2, ![512, 2048]⟩
abbrev S1024x512 : Shape := ⟨2, ![1024, 512]⟩
abbrev S256x2048 : Shape := ⟨2, ![256, 2048]⟩
abbrev S256x512 : Shape := ⟨2, ![256, 512]⟩
abbrev S1x2048 : Shape := ⟨2, ![1, 2048]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S16x2048x512, .bf16⟩
  | .hbm, ⟨2, _⟩ => ⟨S8192x2048, .bf16⟩
  | .hbm, ⟨3, _⟩ => ⟨S8192x2048, .f32⟩
  | .hbm, ⟨4, _⟩ => ⟨S2x1x2048, .f32⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048, .f32⟩
  | .local _ .vmem, ⟨3, _⟩ => ⟨S1024x2048, .f32⟩
  | .local _ .vmem, ⟨4, _⟩ => ⟨S1024x2048, .f32⟩
  | .local _ .vmem, ⟨5, _⟩ => ⟨S2x2048x512, .bf16⟩
  | .local _ .vmem, ⟨6, _⟩ => ⟨S2x512x2048, .bf16⟩
  | .local _ .vmem, ⟨7, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch4 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_251 : BitVec 32 := 0#32
  c0_i32_251
def k0_mult2 (i : grid0.Coords) : BitVec 32 :=
  let arg0 : BitVec 32 := BitVec.ofNat 32 (i 0).val
  let c1024_i32 : BitVec 32 := 1024#32
  let v3 : BitVec 32 := Scalar.muli arg0 c1024_i32
  v3
def k0_off1 (i : grid0.Coords) : Fin 2 → Nat :=
  let arg0 : BitVec 32 := BitVec.ofNat 32 (i 0).val
  let c1024_i32 : BitVec 32 := 1024#32
  let v3 : BitVec 32 := Scalar.muli arg0 c1024_i32
  let v4 : BitVec 32 := v3
  let c0_i32_2 : BitVec 32 := 0#32
  ![v4.toNat, 0]
def k0_mult3 : BitVec 32 :=
  let c512_i32 : BitVec 32 := 512#32
  c512_i32
def k0_mult4 : BitVec 32 :=
  let c0_i32_16 : BitVec 32 := 0#32
  c0_i32_16
def k0_mult5 : BitVec 32 :=
  let c1024_i32_42 : BitVec 32 := 1024#32
  c1024_i32_42
def k0_mult6 : BitVec 32 :=
  let c512_i32_56 : BitVec 32 := 512#32
  c512_i32_56
@[reducible] def k0_t1_loop : Scf.Loop 32 :=
  let c1_i32_85 : BitVec 32 := 1#32
  let c6_i32 : BitVec 32 := 6#32
  let v86 : BitVec 32 := Scalar.addi c1_i32_85 c6_i32
  let c1_i32_86 : BitVec 32 := 1#32
  ⟨c1_i32_85, v86, c1_i32_86⟩
def k0_mult7 (k0_t1 : Fin k0_t1_loop.trips) : BitVec 32 :=
  let c2_i32_251 : BitVec 32 := 2#32
  let c1_i32_85 : BitVec 32 := 1#32
  let c1_i32_86 : BitVec 32 := 1#32
  let arg12 : BitVec 32 := Scf.iv c1_i32_85 c1_i32_86 k0_t1
  let v281 : BitVec 32 := Scalar.muli c2_i32_251 arg12
  let c0_i32_252 : BitVec 32 := 0#32
  let v282 : BitVec 32 := Scalar.addi v281 c0_i32_252
  let c1_i32_253 : BitVec 32 := 1#32
  let v283 : BitVec 32 := Scalar.addi v282 c1_i32_253
  let c16_i32 : BitVec 32 := 16#32
  let c0_i32_254 : BitVec 32 := 0#32
  let v284 : BitVec 1 := Scalar.cmpi .eq c16_i32 c0_i32_254
  let c1_i32_255 : BitVec 32 := 1#32
  let v285 : BitVec 32 := Scalar.select v284 c1_i32_255 c16_i32
  let v286 : BitVec 32 := Scalar.remsi v283 v285
  let c0_i32_257 : BitVec 32 := 0#32
  let v288 : BitVec 1 := Scalar.cmpi .slt v286 c0_i32_257
  let c0_i32_258 : BitVec 32 := 0#32
  let v289 : BitVec 1 := Scalar.cmpi .slt v285 c0_i32_258
  let v290 : BitVec 1 := Scalar.xori v288 v289
  let c0_i32_256 : BitVec 32 := 0#32
  let v287 : BitVec 1 := Scalar.cmpi .ne v286 c0_i32_256
  let v291 : BitVec 1 := Scalar.andi v290 v287
  let v292 : BitVec 32 := Scalar.addi v286 v285
  let v293 : BitVec 32 := Scalar.select v291 v292 v286
  let c512_i32_259 : BitVec 32 := 512#32
  let v294 : BitVec 32 := Scalar.muli v293 c512_i32_259
  v294
def k0_off2 (k0_t1 : Fin k0_t1_loop.trips) (c0_i32_252 : BitVec 32) : Fin 3 → Nat :=
  let c2_i32_251 : BitVec 32 := 2#32
  let c1_i32_85 : BitVec 32 := 1#32
  let c1_i32_86 : BitVec 32 := 1#32
  let arg12 : BitVec 32 := Scf.iv c1_i32_85 c1_i32_86 k0_t1
  let v281 : BitVec 32 := Scalar.muli c2_i32_251 arg12
  let v282 : BitVec 32 := Scalar.addi v281 c0_i32_252
  let c1_i32_253 : BitVec 32 := 1#32
  let v283 : BitVec 32 := Scalar.addi v282 c1_i32_253
  let c16_i32 : BitVec 32 := 16#32
  let c0_i32_254 : BitVec 32 := 0#32
  let v284 : BitVec 1 := Scalar.cmpi .eq c16_i32 c0_i32_254
  let c1_i32_255 : BitVec 32 := 1#32
  let v285 : BitVec 32 := Scalar.select v284 c1_i32_255 c16_i32
  let v286 : BitVec 32 := Scalar.remsi v283 v285
  let c0_i32_257 : BitVec 32 := 0#32
  let v288 : BitVec 1 := Scalar.cmpi .slt v286 c0_i32_257
  let c0_i32_258 : BitVec 32 := 0#32
  let v289 : BitVec 1 := Scalar.cmpi .slt v285 c0_i32_258
  let v290 : BitVec 1 := Scalar.xori v288 v289
  let c0_i32_256 : BitVec 32 := 0#32
  let v287 : BitVec 1 := Scalar.cmpi .ne v286 c0_i32_256
  let v291 : BitVec 1 := Scalar.andi v290 v287
  let v292 : BitVec 32 := Scalar.addi v286 v285
  let v293 : BitVec 32 := Scalar.select v291 v292 v286
  let c0_i32_265 : BitVec 32 := 0#32
  let c0_i32_266 : BitVec 32 := 0#32
  ![v293.toNat, 0, 0]
def k0_off3 (k0_t1 : Fin k0_t1_loop.trips) (c0_i32_252 : BitVec 32) : Fin 2 → Nat :=
  let c2_i32_251 : BitVec 32 := 2#32
  let c1_i32_85 : BitVec 32 := 1#32
  let c1_i32_86 : BitVec 32 := 1#32
  let arg12 : BitVec 32 := Scf.iv c1_i32_85 c1_i32_86 k0_t1
  let v281 : BitVec 32 := Scalar.muli c2_i32_251 arg12
  let v282 : BitVec 32 := Scalar.addi v281 c0_i32_252
  let c1_i32_253 : BitVec 32 := 1#32
  let v283 : BitVec 32 := Scalar.addi v282 c1_i32_253
  let c16_i32 : BitVec 32 := 16#32
  let c0_i32_254 : BitVec 32 := 0#32
  let v284 : BitVec 1 := Scalar.cmpi .eq c16_i32 c0_i32_254
  let c1_i32_255 : BitVec 32 := 1#32
  let v285 : BitVec 32 := Scalar.select v284 c1_i32_255 c16_i32
  let v286 : BitVec 32 := Scalar.remsi v283 v285
  let c0_i32_257 : BitVec 32 := 0#32
  let v288 : BitVec 1 := Scalar.cmpi .slt v286 c0_i32_257
  let c0_i32_258 : BitVec 32 := 0#32
  let v289 : BitVec 1 := Scalar.cmpi .slt v285 c0_i32_258
  let v290 : BitVec 1 := Scalar.xori v288 v289
  let c0_i32_256 : BitVec 32 := 0#32
  let v287 : BitVec 1 := Scalar.cmpi .ne v286 c0_i32_256
  let v291 : BitVec 1 := Scalar.andi v290 v287
  let v292 : BitVec 32 := Scalar.addi v286 v285
  let v293 : BitVec 32 := Scalar.select v291 v292 v286
  let c512_i32_259 : BitVec 32 := 512#32
  let v294 : BitVec 32 := Scalar.muli v293 c512_i32_259
  let v295 : BitVec 32 := v294
  let c0_i32_272 : BitVec 32 := 0#32
  ![v295.toNat, 0]
def k0_mult8 (k0_t1 : Fin k0_t1_loop.trips) : BitVec 32 :=
  let c2_i32_251 : BitVec 32 := 2#32
  let c1_i32_85 : BitVec 32 := 1#32
  let c1_i32_86 : BitVec 32 := 1#32
  let arg12 : BitVec 32 := Scf.iv c1_i32_85 c1_i32_86 k0_t1
  let v281 : BitVec 32 := Scalar.muli c2_i32_251 arg12
  let c0_i32_252 : BitVec 32 := 0#32
  let v282 : BitVec 32 := Scalar.addi v281 c0_i32_252
  let c512_i32_273 : BitVec 32 := 512#32
  let v307 : BitVec 32 := Scalar.muli v282 c512_i32_273
  v307
def k0_off4 (k0_t1 : Fin k0_t1_loop.trips) (c0_i32_252 : BitVec 32) : Fin 3 → Nat :=
  let c2_i32_251 : BitVec 32 := 2#32
  let c1_i32_85 : BitVec 32 := 1#32
  let c1_i32_86 : BitVec 32 := 1#32
  let arg12 : BitVec 32 := Scf.iv c1_i32_85 c1_i32_86 k0_t1
  let v281 : BitVec 32 := Scalar.muli c2_i32_251 arg12
  let v282 : BitVec 32 := Scalar.addi v281 c0_i32_252
  let c0_i32_279 : BitVec 32 := 0#32
  let c0_i32_280 : BitVec 32 := 0#32
  ![v282.toNat, 0, 0]
def k0_off5 (k0_t1 : Fin k0_t1_loop.trips) (c0_i32_252 : BitVec 32) : Fin 2 → Nat :=
  let c2_i32_251 : BitVec 32 := 2#32
  let c1_i32_85 : BitVec 32 := 1#32
  let c1_i32_86 : BitVec 32 := 1#32
  let arg12 : BitVec 32 := Scf.iv c1_i32_85 c1_i32_86 k0_t1
  let v281 : BitVec 32 := Scalar.muli c2_i32_251 arg12
  let v282 : BitVec 32 := Scalar.addi v281 c0_i32_252
  let c512_i32_273 : BitVec 32 := 512#32
  let v307 : BitVec 32 := Scalar.muli v282 c512_i32_273
  let v308 : BitVec 32 := v307
  let c0_i32_286 : BitVec 32 := 0#32
  ![v308.toNat, 0]
def k0_mult9 (k0_t1 : Fin k0_t1_loop.trips) : BitVec 32 :=
  let c2_i32_302 : BitVec 32 := 2#32
  let c1_i32_85 : BitVec 32 := 1#32
  let c1_i32_86 : BitVec 32 := 1#32
  let arg12 : BitVec 32 := Scf.iv c1_i32_85 c1_i32_86 k0_t1
  let v336 : BitVec 32 := Scalar.muli c2_i32_302 arg12
  let c1_i32_303 : BitVec 32 := 1#32
  let v337 : BitVec 32 := Scalar.addi v336 c1_i32_303
  let c1_i32_304 : BitVec 32 := 1#32
  let v338 : BitVec 32 := Scalar.addi v337 c1_i32_304
  let c16_i32_305 : BitVec 32 := 16#32
  let c0_i32_306 : BitVec 32 := 0#32
  let v339 : BitVec 1 := Scalar.cmpi .eq c16_i32_305 c0_i32_306
  let c1_i32_307 : BitVec 32 := 1#32
  let v340 : BitVec 32 := Scalar.select v339 c1_i32_307 c16_i32_305
  let v341 : BitVec 32 := Scalar.remsi v338 v340
  let c0_i32_309 : BitVec 32 := 0#32
  let v343 : BitVec 1 := Scalar.cmpi .slt v341 c0_i32_309
  let c0_i32_310 : BitVec 32 := 0#32
  let v344 : BitVec 1 := Scalar.cmpi .slt v340 c0_i32_310
  let v345 : BitVec 1 := Scalar.xori v343 v344
  let c0_i32_308 : BitVec 32 := 0#32
  let v342 : BitVec 1 := Scalar.cmpi .ne v341 c0_i32_308
  let v346 : BitVec 1 := Scalar.andi v345 v342
  let v347 : BitVec 32 := Scalar.addi v341 v340
  let v348 : BitVec 32 := Scalar.select v346 v347 v341
  let c512_i32_311 : BitVec 32 := 512#32
  let v349 : BitVec 32 := Scalar.muli v348 c512_i32_311
  v349
def k0_mult10 (k0_t1 : Fin k0_t1_loop.trips) : BitVec 32 :=
  let c2_i32_302 : BitVec 32 := 2#32
  let c1_i32_85 : BitVec 32 := 1#32
  let c1_i32_86 : BitVec 32 := 1#32
  let arg12 : BitVec 32 := Scf.iv c1_i32_85 c1_i32_86 k0_t1
  let v336 : BitVec 32 := Scalar.muli c2_i32_302 arg12
  let c1_i32_303 : BitVec 32 := 1#32
  let v337 : BitVec 32 := Scalar.addi v336 c1_i32_303
  let c512_i32_325 : BitVec 32 := 512#32
  let v362 : BitVec 32 := Scalar.muli v337 c512_i32_325
  v362
def k0_mult11 : BitVec 32 :=
  let c7680_i32 : BitVec 32 := 7680#32
  c7680_i32
def k0_mult12 : BitVec 32 :=
  let c7168_i32 : BitVec 32 := 7168#32
  c7168_i32
def k0_mult13 : BitVec 32 :=
  let c0_i32_129 : BitVec 32 := 0#32
  c0_i32_129
def k0_mult14 : BitVec 32 :=
  let c7680_i32_144 : BitVec 32 := 7680#32
  c7680_i32_144
def k0_cond2 (i : grid0.Coords) : BitVec 1 :=
  let arg0 : BitVec 32 := BitVec.ofNat 32 (i 0).val
  let c7_i32 : BitVec 32 := 7#32
  let v278 : BitVec 1 := Scalar.cmpi .eq arg0 c7_i32
  let v279 : BitVec 32 := Scalar.extui v278
  let c0_i32_250 : BitVec 32 := 0#32
  let v280 : BitVec 1 := Scalar.cmpi .ne v279 c0_i32_250
  v280

def k0_mult15 : BitVec 32 :=
  let c0_i32_251 : BitVec 32 := 0#32
  c0_i32_251
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S8192x2048 : Shape := ⟨2, ![8192, 2048]⟩
abbrev S16x2048x512 : Shape := ⟨3, ![16, 2048, 512]⟩
abbrev S2x1x2048 : Shape := ⟨3, ![2, 1, 2048]⟩
abbrev S2048x16x512 : Shape := ⟨3, ![2048, 16, 512]⟩
abbrev S2048x8192 : Shape := ⟨2, ![2048, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x1x2048 : Shape := ⟨3, ![1, 1, 2048]⟩
abbrev S1x2048 : Shape := ⟨2, ![1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S16x2048x512, .bf16⟩
  | .hbm, ⟨2, _⟩ => ⟨S8192x2048, .bf16⟩
  | .hbm, ⟨3, _⟩ => ⟨S8192x2048, .f32⟩
  | .hbm, ⟨4, _⟩ => ⟨S2x1x2048, .f32⟩
  | .hbm, ⟨5, _⟩ => ⟨S16x2048x512, .f32⟩
  | .hbm, ⟨6, _⟩ => ⟨S2048x16x512, .f32⟩
  | .hbm, ⟨7, _⟩ => ⟨S2048x8192, .f32⟩
  | .hbm, ⟨8, _⟩ => ⟨S8192x2048, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S1x1x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel3.lean ====
abbrev S8192x2048 : Shape := ⟨2, ![8192, 2048]⟩
abbrev S2x2048x2048 : Shape := ⟨3, ![2, 2048, 2048]⟩
abbrev S2x1x2048 : Shape := ⟨3, ![2, 1, 2048]⟩
abbrev S512x2048 : Shape := ⟨2, ![512, 2048]⟩
abbrev S1x1x2048 : Shape := ⟨3, ![1, 1, 2048]⟩
abbrev S2048x2048 : Shape := ⟨2, ![2048, 2048]⟩
abbrev S2x256x2048 : Shape := ⟨3, ![2, 256, 2048]⟩
abbrev S2 : Shape := ⟨1, ![2]⟩
abbrev S1 : Shape := ⟨1, ![1]⟩
abbrev S_ : Shape := ⟨0, ![]⟩
abbrev S1x256x2048 : Shape := ⟨3, ![1, 256, 2048]⟩
abbrev S256x2048 : Shape := ⟨2, ![256, 2048]⟩
abbrev S512x256 : Shape := ⟨2, ![512, 256]⟩
abbrev S1x2048 : Shape := ⟨2, ![1, 2048]⟩
abbrev S512 : Shape := ⟨1, ![512]⟩
abbrev S512x1 : Shape := ⟨2, ![512, 1]⟩
abbrev S128x2048 : Shape := ⟨2, ![128, 2048]⟩
abbrev S128 : Shape := ⟨1, ![128]⟩
abbrev S128x1 : Shape := ⟨2, ![128, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S2x1x2048, .f32⟩
  | .hbm, ⟨4, _⟩ => ⟨S2x1x2048, .f32⟩
  | .hbm, ⟨5, _⟩ => ⟨S8192x2048, .f32⟩
  | .hbm, ⟨6, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x1x2048, .f32⟩
  | .local _ .vmem, ⟨5, _⟩ => ⟨S1x1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S2048x2048, .bf16⟩
  | .local _ .vmem, ⟨11, _⟩ => ⟨S2x256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8192x2048 : Shape := ⟨2, ![8192, 2048]⟩
abbrev S2x2048x2048 : Shape := ⟨3, ![2, 2048, 2048]⟩
abbrev S2x1x2048 : Shape := ⟨3, ![2, 1, 2048]⟩
abbrev S1x2048x2048 : Shape := ⟨3, ![1, 2048, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x1x2048 : Shape := ⟨3, ![1, 1, 2048]⟩
abbrev S1x2048 : Shape := ⟨2, ![1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S2x1x2048, .f32⟩
  | .hbm, ⟨4, _⟩ => ⟨S2x1x2048, .f32⟩
  | .hbm, ⟨5, _⟩ => ⟨S8192x2048, .f32⟩
  | .hbm, ⟨6, _⟩ => ⟨S1x2048x2048, .f32⟩
  | .hbm, ⟨7, _⟩ => ⟨S2048x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x1x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S1x1x2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel4.lean ====
abbrev S8192x2048 : Shape := ⟨2, ![8192, 2048]⟩
abbrev S2x1x2048 : Shape := ⟨3, ![2, 1, 2048]⟩
abbrev S2x2048x3584 : Shape := ⟨3, ![2, 2048, 3584]⟩
abbrev S2x1x1024 : Shape := ⟨3, ![2, 1, 1024]⟩
abbrev S2x8192x2048 : Shape := ⟨3, ![2, 8192, 2048]⟩
abbrev S8192x1024 : Shape := ⟨2, ![8192, 1024]⟩
abbrev S8192x512 : Shape := ⟨2, ![8192, 512]⟩
abbrev S512x2048 : Shape := ⟨2, ![512, 2048]⟩
abbrev S1x1x2048 : Shape := ⟨3, ![1, 1, 2048]⟩
abbrev S1x1x1024 : Shape := ⟨3, ![1, 1, 1024]⟩
abbrev S1x512x2048 : Shape := ⟨3, ![1, 512, 2048]⟩
abbrev S512x1024 : Shape := ⟨2, ![512, 1024]⟩
abbrev S512x512 : Shape := ⟨2, ![512, 512]⟩
abbrev S2048x3584 : Shape := ⟨2, ![2048, 3584]⟩
abbrev S2x128x3584 : Shape := ⟨3, ![2, 128, 3584]⟩
abbrev S2 : Shape := ⟨1, ![2]⟩
abbrev S1 : Shape := ⟨1, ![1]⟩
abbrev S_ : Shape := ⟨0, ![]⟩
abbrev S1x128x3584 : Shape := ⟨3, ![1, 128, 3584]⟩
abbrev S128x3584 : Shape := ⟨2, ![128, 3584]⟩
abbrev S1x2048 : Shape := ⟨2, ![1, 2048]⟩
abbrev S512 : Shape := ⟨1, ![512]⟩
abbrev S512x1 : Shape := ⟨2, ![512, 1]⟩
abbrev S2048x1024 : Shape := ⟨2, ![2048, 1024]⟩
abbrev S512x128 : Shape := ⟨2, ![512, 128]⟩
abbrev S1x1x128 : Shape := ⟨3, ![1, 1, 128]⟩
abbrev S1x128 : Shape := ⟨2, ![1, 128]⟩
abbrev S2048x512 : Shape := ⟨2, ![2048, 512]⟩

abbrev nBuf : Space → Nat
  | .hbm => 10
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S2x1x2048, .f32⟩
  | .hbm, ⟨2, _⟩ => ⟨S2x2048x3584, .f32⟩
  | .hbm, ⟨3, _⟩ => ⟨S2x1x1024, .f32⟩
  | .hbm, ⟨4, _⟩ => ⟨S2x8192x2048, .f32⟩
  | .hbm, ⟨5, _⟩ => ⟨S8192x1024, .bf16⟩
  | .hbm, ⟨6, _⟩ => ⟨S8192x1024, .bf16⟩
  | .hbm, ⟨7, _⟩ => ⟨S8192x512, .f32⟩
  | .hbm, ⟨8, _⟩ => ⟨S8192x512, .f32⟩
  | .hbm, ⟨9, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x1024, .f32⟩
  | .local _ .vmem, ⟨4, _⟩ => ⟨S1x512x2048, .f32⟩
  | .local _ .vmem, ⟨5, _⟩ => ⟨S1x512x2048, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x2048, .bf16⟩
  | .local _ .vmem, ⟨15, _⟩ => ⟨S512x2048, .bf16⟩
  | .local _ .vmem, ⟨16, _⟩ => ⟨S2048x3584, .bf16⟩
  | .local _ .vmem, ⟨17, _⟩ => ⟨S2x128x3584, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S8192x2048 : Shape := ⟨2, ![8192, 2048]⟩
abbrev S2x1x2048 : Shape := ⟨3, ![2, 1, 2048]⟩
abbrev S2x2048x3584 : Shape := ⟨3, ![2, 2048, 3584]⟩
abbrev S2x1x1024 : Shape := ⟨3, ![2, 1, 1024]⟩
abbrev S2x8192x2048 : Shape := ⟨3, ![2, 8192, 2048]⟩
abbrev S_ : Shape := ⟨0, ![]⟩
abbrev S8192 : Shape := ⟨1, ![8192]⟩
abbrev S8192x1 : Shape := ⟨2, ![8192, 1]⟩
abbrev S1x1x2048 : Shape := ⟨3, ![1, 1, 2048]⟩
abbrev S1x2048 : Shape := ⟨2, ![1, 2048]⟩
abbrev S1x2048x3584 : Shape := ⟨3, ![1, 2048, 3584]⟩
abbrev S2048x3584 : Shape := ⟨2, ![2048, 3584]⟩
abbrev S8192x3584 : Shape := ⟨2, ![8192, 3584]⟩
abbrev S8192x512 : Shape := ⟨2, ![8192, 512]⟩
abbrev S8192x1024 : Shape := ⟨2, ![8192, 1024]⟩
abbrev S8192x8x128 : Shape := ⟨3, ![8192, 8, 128]⟩
abbrev S8192x8 : Shape := ⟨2, ![8192, 8]⟩
abbrev S8192x8x1 : Shape := ⟨3, ![8192, 8, 1]⟩
abbrev S1x1x1024 : Shape := ⟨3, ![1, 1, 1024]⟩
abbrev S1x1024 : Shape := ⟨2, ![1, 1024]⟩
abbrev S8x128 : Shape := ⟨2, ![8, 128]⟩
abbrev S1x8x128 : Shape := ⟨3, ![1, 8, 128]⟩
abbrev S1x8192x2048 : Shape := ⟨3, ![1, 8192, 2048]⟩

abbrev nBuf : Space → Nat
  | .hbm => 91
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x1x2048, .f32⟩
  | .hbm, ⟨2, _⟩ => ⟨S2x2048x3584, .f32⟩
  | .hbm, ⟨3, _⟩ => ⟨S2x1x1024, .f32⟩
  | .hbm, ⟨4, _⟩ => ⟨S2x8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x1x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x3584, .f32⟩
  | .hbm, ⟨23, _⟩ => ⟨S2048x3584, .f32⟩
  | .hbm, ⟨24, _⟩ => ⟨S8192x3584, .f32⟩
  | .hbm, ⟨25, _⟩ => ⟨S8192x2048, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x1024, .f32⟩
  | .hbm, ⟨47, _⟩ => ⟨S8192x1024, .f32⟩
  | .hbm, ⟨48, _⟩ => ⟨S8192x8x128, .f32⟩
  | .hbm, ⟨49, _⟩ => ⟨S_, .f32⟩
  | .hbm, ⟨50, _⟩ => ⟨S8192x8, .f32⟩
  | .hbm, ⟨51, _⟩ => ⟨S8192x8x1, .f32⟩
  | .hbm, ⟨52, _⟩ => ⟨S_, .f32⟩
  | .hbm, ⟨53, _⟩ => ⟨S8192x8x1, .f32⟩
  | .hbm, ⟨54, _⟩ => ⟨S8192x8x1, .f32⟩
  | .hbm, ⟨55, _⟩ => ⟨S8192x8x128, .f32⟩
  | .hbm, ⟨56, _⟩ => ⟨S8192x8x128, .f32⟩
  | .hbm, ⟨57, _⟩ => ⟨S8192x8x128, .f32⟩
  | .hbm, ⟨58, _⟩ => ⟨S_, .f32⟩
  | .hbm, ⟨59, _⟩ => ⟨S8192x8, .f32⟩
  | .hbm, ⟨60, _⟩ => ⟨S8192x8x1, .f32⟩
  | .hbm, ⟨61, _⟩ => ⟨S_, .f32⟩
  | .hbm, ⟨62, _⟩ => ⟨S8192x8x1, .f32⟩
  | .hbm, ⟨63, _⟩ => ⟨S8192x8x1, .f32⟩
  | .hbm, ⟨64, _⟩ => ⟨S_, .f32⟩
  | .hbm, ⟨65, _⟩ => ⟨S8192x8x1, .f32⟩
  | .hbm, ⟨66, _⟩ => ⟨S8192x8x1, .f32⟩
  | .hbm, ⟨67, _⟩ => ⟨S8192x8x1, .f32⟩
  | .hbm, ⟨68, _⟩ => ⟨S8192x8x128, .f32⟩
  | .hbm, ⟨69, _⟩ => ⟨S8192x8x128, .f32⟩
  | .hbm, ⟨70, _⟩ => ⟨S1x1x1024, .f32⟩
  | .hbm, ⟨71, _⟩ => ⟨S1x1024, .f32⟩
  | .hbm, ⟨72, _⟩ => ⟨S8x128, .f32⟩
  | .hbm, ⟨73, _⟩ => ⟨S1x8x128, .f32⟩
  | .hbm, ⟨74, _⟩ => ⟨S8192x8x128, .f32⟩
  | .hbm, ⟨75, _⟩ => ⟨S8192x8x128, .f32⟩
  | .hbm, ⟨76, _⟩ => ⟨S8192x1024, .bf16⟩
  | .hbm, ⟨77, _⟩ => ⟨S8192x1024, .f32⟩
  | .hbm, ⟨78, _⟩ => ⟨S8192x1024, .bf16⟩
  | .hbm, ⟨79, _⟩ => ⟨S8192x512, .f32⟩
  | .hbm, ⟨80, _⟩ => ⟨S8192x512, .f32⟩
  | .hbm, ⟨81, _⟩ => ⟨S_, .f32⟩
  | .hbm, ⟨82, _⟩ => ⟨S8192x512, .f32⟩
  | .hbm, ⟨83, _⟩ => ⟨S8192x512, .f32⟩
  | .hbm, ⟨84, _⟩ => ⟨S_, .f32⟩
  | .hbm, ⟨85, _⟩ => ⟨S8192x512, .f32⟩
  | .hbm, ⟨86, _⟩ => ⟨S8192x512, .f32⟩
  | .hbm, ⟨87, _⟩ => ⟨S8192x512, .f32⟩
  | .hbm, ⟨88, _⟩ => ⟨S1x8192x2048, .f32⟩
  | .hbm, ⟨89, _⟩ => ⟨S8192x2048, .f32⟩
  | .hbm, ⟨90, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_11 : Ref sig .tc := ⟨.hbm, 81, rfl⟩
abbrev main_v64 : Ref sig .tc := ⟨.hbm, 82, rfl⟩
abbrev main_v65 : Ref sig .tc := ⟨.hbm, 83, rfl⟩
abbrev main_cst_12 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩

abbrev nD : Nat := 1
abbrev τ : Topo := Topo.v7x

variable {F : FTy → Type} [FloatOps F]
-- ==== Kernel5.lean ====
abbrev S1024x2048 : Shape := ⟨2, ![1024, 2048]⟩
abbrev S2x1x2048 : Shape := ⟨3, ![2, 1, 2048]⟩
abbrev S2x2048x2048 : Shape := ⟨3, ![2, 2048, 2048]⟩
abbrev S2x1024x2048 : Shape := ⟨3, ![2, 1024, 2048]⟩
abbrev S1x1x2048 : Shape := ⟨3, ![1, 1, 2048]⟩
abbrev S1x2048x256 : Shape := ⟨3, ![1, 2048, 256]⟩
abbrev S1x1024x256 : Shape := ⟨3, ![1, 1024, 256]⟩
abbrev S1x2048 : Shape := ⟨2, ![1, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩

abbrev nBuf : Space → Nat
  | .hbm => 6
  | .vmem => 12
  | .smem => 0
  | _ => 0

abbrev bufTy : (tb : Table) → Fin (tcTables nBuf tb) → BufTy
  | .hbm, ⟨0, _⟩ => ⟨S1024x2048, .f32⟩
  | .hbm, ⟨1, _⟩ => ⟨S2x1x2048, .f32⟩
  | .hbm, ⟨2, _⟩ => ⟨S2x2048x2048, .f32⟩
  | .hbm, ⟨3, _⟩ => ⟨S2x2048x2048, .f32⟩
  | .hbm, ⟨4, _⟩ => ⟨S2x1024x2048, .bf16⟩
  | .hbm, ⟨5, _⟩ => ⟨S2x1024x2048, .bf16⟩
  | .local _ .vmem, ⟨0, _⟩ => ⟨S1024x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S1024x2048 : Shape := ⟨2, ![1024, 2048]⟩
abbrev S2x1x2048 : Shape := ⟨3, ![2, 1, 2048]⟩
abbrev S2x2048x2048 : Shape := ⟨3, ![2, 2048, 2048]⟩
abbrev S_ : Shape := ⟨0, ![]⟩
abbrev S1024 : Shape := ⟨1, ![1024]⟩
abbrev S1024x1 : Shape := ⟨2, ![1024, 1]⟩
abbrev S1x1024x2048 : Shape := ⟨3, ![1, 1024, 2048]⟩
abbrev S2x1024x2048 : Shape := ⟨3, ![2, 1024, 2048]⟩

abbrev nBuf : Space → Nat
  | .hbm => 25
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2x1x2048, .f32⟩
  | .hbm, ⟨2, _⟩ => ⟨S2x2048x2048, .f32⟩
  | .hbm, ⟨3, _⟩ => ⟨S2x2048x2048, .f32⟩
  | .hbm, ⟨4, _⟩ => ⟨S1024x2048, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x2048, .f32⟩
  | .hbm, ⟨16, _⟩ => ⟨S1024x2048, .f32⟩
  | .hbm, ⟨17, _⟩ => ⟨S1x1024x2048, .f32⟩
  | .hbm, ⟨18, _⟩ => ⟨S2x1024x2048, .f32⟩
  | .hbm, ⟨19, _⟩ => ⟨S2x1024x2048, .f32⟩
  | .hbm, ⟨20, _⟩ => ⟨S2x1024x2048, .f32⟩
  | .hbm, ⟨21, _⟩ => ⟨S2x1024x2048, .f32⟩
  | .hbm, ⟨22, _⟩ => ⟨S2x1024x2048, .bf16⟩
  | .hbm, ⟨23, _⟩ => ⟨S2x1024x2048, .f32⟩
  | .hbm, ⟨24, _⟩ => ⟨S2x1024x2048, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Attn.Kit.lean ====
/- The set-up the attention call's hand proof at the ideal elements is stated over: the windows' blocks, the
   closed forms of the body's two conditions, the staging and scratch memrefs, the invariant listed. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .bf16 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S2048x2048 .bf16 := Memref.whole cc0_scratch0
abbrev scM0_1 : Memref sig .tc .vmem S2x256x2048 .f32 := Memref.whole cc0_scratch1
/-- The operands left in HBM that the body copies into scratch itself, whole. -/
abbrev hbM0_0 : Memref sig .tc .hbm S2x2048x2048 .f32 := Memref.whole main_arg1
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 8, SemLoc.dma 9] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0) := by
  rw [Pipeline.ownSems0_eq_of_list c osem0 [0, 1] (by decide) (by decide)]; rfl
/-- The HBM operands the body moves, as references: unscoped, no window's array (`Pipeline.restRefs`). -/
def H0 : Finset (Ref sig .tc) := {main_arg1}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg1)) := by
  rw [BI.bigSep_eq_bigSepL_of_eq [main_arg1] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 8) 0 ∗ semVal ((c : Thread nD τ), SemLoc.dma 9) 0) ∗ iprop(hbPt0 c hbM0_0 (V m c main_arg1))) := by
  rw [Pipeline.ΦD_eq, scopedRest0_eq, ownSems00_eq, hbmPts0_eq]; simp only [scM0_0, scM0_1, owns_whole]; try rfl

end Attn

end
-- ==== Proof.Attn.Spec.lean ====
/- What the attention call's body leaves, as plain functions of what it reads: the weight's cast, one head's block,
   the whole output block; and how the run's terms (slots filled by copies, listed stores) read as those functions. -/
module

public import proofs.«01_k».proof.Proof.Attn.Kit
public import Idealize.ShloMosaic.Lib.Pointwise
public import Idealize.ShloMosaic.Lib.WholeRead
public import Idealize.ShloMosaic.Lib.Pipeline.Value

@[expose] public section

set_option maxRecDepth 16384

noncomputable section

namespace Attn

open Cert.KernelIdeal Cert.KernelIdeal.Gen
open Idealize.ShloMosaic Idealize.ShloMosaic.TcCoe Idealize.ShloMosaic.Tactic

variable {F : FTy → Type} [FloatOps F]

/-- The weight of layer 0 cast to the scratch's element type. -/
def wcast (w : S2x2048x2048.Idx → Elt F .f32) : Vec F S2048x2048 .bf16 :=
  truncf .bf16 (fun i : S2048x2048.Idx => w (ix3 0 (i 0) (i 1))) bitsLt_bf16_f32

/-- Head `h`'s columns of a block of queries. -/
def qHead (q : Vec F S512x2048 .bf16) (h : Fin 4) : FVec F S512x512 .bf16 :=
  fun i => q (ix2 (i 0) ⟨512 * h.val + (i 1).val, by have := (i 1).isLt; have : S512x512.size 1 = 512 := rfl; have := h.isLt; omega⟩)

/-- Head `h`'s columns of a block of keys or values. -/
def kvHead (x : Vec F S1x256x2048 .bf16) (h : Fin 4) : Vec F S1x256x512 .bf16 :=
  fun i => x (ix3 (i 0) (i 1) ⟨512 * h.val + (i 2).val, by have := (i 2).isLt; have : S1x256x512.size 2 = 512 := rfl; have := h.isLt; omega⟩)

/-- One head of the block: scaled scores, the exponentials of their distance from the row's maximum, the values
    weighted by them, divided by their sum. -/
def headOut (q : FVec F S512x512 .bf16) (k v : Vec F S1x256x512 .bf16) : FVec F S512x512 .bf16 :=
  have s : FVec F S512x256 .f32 := mulf (matmul dot_S512x512_S256x512_S512x256_1_1_0_0_n_n none q (shapeCast S256x512 k shapeCasts_S1x256x512_S256x512) (constant S512x256 .f32 0x00000000#32))
    (broadcast S512x256 (Scalar.ofBits .f32 0x3D3504F3#32))
  have e : FVec F S512x256 .f32 := exp (subf s (broadcastTo S512x256 (shapeCast S512x1 (multiReduction .maximumf [1] S512 s 0xFF800000#32 reduces_S512x256_S512 (.inl rfl) rfl) shapeCasts_S512_S512x1) broadcasts_S512x1_S512x256))
  truncf .bf16 (divf (matmul dot_S512x256_S256x512_S512x512_1_0_0_1_n_n none (truncf .bf16 e bitsLt_bf16_f32) (shapeCast S256x512 v shapeCasts_S1x256x512_S256x512) (constant S512x512 .f32 0x00000000#32))
    (broadcastTo S512x512 (shapeCast S512x1 (multiReduction .add [1] S512 e 0x00000000#32 reduces_S512x256_S512 (.inl rfl) rfl) shapeCasts_S512_S512x1) broadcasts_S512x1_S512x512)) bitsLt_bf16_f32

/-- The whole output block: head by head. -/
def attnBlk (q : Vec F S512x2048 .bf16) (k v : Vec F S1x256x2048 .bf16) : Vec F S512x2048 .bf16 := fun i =>
  have hi : (i 1).val < 2048 := (i 1).isLt
  have h : Fin 4 := ⟨(i 1).val / 512, by omega⟩
  headOut (qHead q h) (kvHead k h) (kvHead v h) (ix2 (i 0) ⟨(i 1).val % 512, by omega⟩)

/-- The queries as the first point computes them, from eight partial products. -/
def qFirst (x : Vec F S512x2048 .bf16) (w : Vec F S2048x2048 .bf16) : FVec F S512x2048 .bf16 :=
  k0_pay15 (k0_pay13 (k0_pay10 (k0_pay8 (k0_pay6 (k0_pay4
      (View.ld (Val := Elt F) x (Rect.unit (s := S512x2048) ![0, 0] S512x256.size inb_S512x2048_S512x256_0_0)) (View.ld (Val := Elt F) w (Rect.unit (s := S2048x2048) ![0, 0] S256x2048.size inb_S2048x2048_S256x2048_0_0))
      (View.ld (Val := Elt F) x (Rect.unit (s := S512x2048) ![0, 256] S512x256.size inb_S512x2048_S512x256_0_256)) (View.ld (Val := Elt F) w (Rect.unit (s := S2048x2048) ![256, 0] S256x2048.size inb_S2048x2048_S256x2048_256_0)))
      (View.ld (Val := Elt F) x (Rect.unit (s := S512x2048) ![0, 512] S512x256.size inb_S512x2048_S512x256_0_512)) (View.ld (Val := Elt F) w (Rect.unit (s := S2048x2048) ![512, 0] S256x2048.size inb_S2048x2048_S256x2048_512_0)))
      (View.ld (Val := Elt F) x (Rect.unit (s := S512x2048) ![0, 768] S512x256.size inb_S512x2048_S512x256_0_768)) (View.ld (Val := Elt F) w (Rect.unit (s := S2048x2048) ![768, 0] S256x2048.size inb_S2048x2048_S256x2048_768_0)))
      (View.ld (Val := Elt F) x (Rect.unit (s := S512x2048) ![0, 1024] S512x256.size inb_S512x2048_S512x256_0_1024)) (View.ld (Val := Elt F) w (Rect.unit (s := S2048x2048) ![1024, 0] S256x2048.size inb_S2048x2048_S256x2048_1024_0)))
      (View.ld (Val := Elt F) x (Rect.unit (s := S512x2048) ![0, 1280] S512x256.size inb_S512x2048_S512x256_0_1280)) (View.ld (Val := Elt F) w (Rect.unit (s := S2048x2048) ![1280, 0] S256x2048.size inb_S2048x2048_S256x2048_1280_0))
      (View.ld (Val := Elt F) x (Rect.unit (s := S512x2048) ![0, 1536] S512x256.size inb_S512x2048_S512x256_0_1536)) (View.ld (Val := Elt F) w (Rect.unit (s := S2048x2048) ![1536, 0] S256x2048.size inb_S2048x2048_S256x2048_1536_0)))
      (View.ld (Val := Elt F) x (Rect.unit (s := S512x2048) ![0, 1792] S512x256.size inb_S512x2048_S512x256_0_1792)) (View.ld (Val := Elt F) w (Rect.unit (s := S2048x2048) ![1792, 0] S256x2048.size inb_S2048x2048_S256x2048_1792_0))

/-- The first point's queries, the weight's rows given as equal to the cast weight's. -/
theorem qFirst_of (x : Vec F S512x2048 .bf16) (w : Vec F S2048x2048 .bf16) (d0 d1 d2 d3 d4 d5 d6 d7 : Vec F S256x2048 .bf16)
    (h0 : d0 = View.ld (Val := Elt F) w (Rect.unit (s := S2048x2048) ![0, 0] S256x2048.size inb_S2048x2048_S256x2048_0_0))
    (h1 : d1 = View.ld (Val := Elt F) w (Rect.unit (s := S2048x2048) ![256, 0] S256x2048.size inb_S2048x2048_S256x2048_256_0))
    (h2 : d2 = View.ld (Val := Elt F) w (Rect.unit (s := S2048x2048) ![512, 0] S256x2048.size inb_S2048x2048_S256x2048_512_0))
    (h3 : d3 = View.ld (Val := Elt F) w (Rect.unit (s := S2048x2048) ![768, 0] S256x2048.size inb_S2048x2048_S256x2048_768_0))
    (h4 : d4 = View.ld (Val := Elt F) w (Rect.unit (s := S2048x2048) ![1024, 0] S256x2048.size inb_S2048x2048_S256x2048_1024_0))
    (h5 : d5 = View.ld (Val := Elt F) w (Rect.unit (s := S2048x2048) ![1280, 0] S256x2048.size inb_S2048x2048_S256x2048_1280_0))
    (h6 : d6 = View.ld (Val := Elt F) w (Rect.unit (s := S2048x2048) ![1536, 0] S256x2048.size inb_S2048x2048_S256x2048_1536_0))
    (h7 : d7 = View.ld (Val := Elt F) w (Rect.unit (s := S2048x2048) ![1792, 0] S256x2048.size inb_S2048x2048_S256x2048_1792_0)) :
    k0_pay15 (k0_pay13 (k0_pay10 (k0_pay8 (k0_pay6 (k0_pay4
          (View.ld (Val := Elt F) x (Rect.unit (s := S512x2048) ![0, 0] S512x256.size inb_S512x2048_S512x256_0_0)) d0
          (View.ld (Val := Elt F) x (Rect.unit (s := S512x2048) ![0, 256] S512x256.size inb_S512x2048_S512x256_0_256)) d1)
          (View.ld (Val := Elt F) x (Rect.unit (s := S512x2048) ![0, 512] S512x256.size inb_S512x2048_S512x256_0_512)) d2)
          (View.ld (Val := Elt F) x (Rect.unit (s := S512x2048) ![0, 768] S512x256.size inb_S512x2048_S512x256_0_768)) d3)
          (View.ld (Val := Elt F) x (Rect.unit (s := S512x2048) ![0, 1024] S512x256.size inb_S512x2048_S512x256_0_1024)) d4)
          (View.ld (Val := Elt F) x (Rect.unit (s := S512x2048) ![0, 1280] S512x256.size inb_S512x2048_S512x256_0_1280)) d5
          (View.ld (Val := Elt F) x (Rect.unit (s := S512x2048) ![0, 1536] S512x256.size inb_S512x2048_S512x256_0_1536)) d6)
          (View.ld (Val := Elt F) x (Rect.unit (s := S512x2048) ![0, 1792] S512x256.size inb_S512x2048_S512x256_0_1792)) d7 = qFirst x w := by
  subst h0 h1 h2 h3 h4 h5 h6 h7
  rfl

/-- A head's columns cut out by the strided slice are `qHead`. -/
theorem slice_qHead (q : Vec F S512x2048 .bf16) (h : Fin 4) (o : Fin 2 → ℕ) (ho : o = ![0, 512 * h.val]) (hs : S512x2048.Slices o S512x512) :
    extractStridedSlice S512x512 o q hs = qHead q h := by
  subst ho; funext j
  refine extractStridedSlice_apply _ _ _ _ _ fun a => ?_
  match a with
  | ⟨0, _⟩ => show (j 0).val = 0 + (j 0).val; omega
  | ⟨1, _⟩ => rfl

/-- A load of a head's columns of the keys or the values is `kvHead`. -/
theorem load_kvHead {arg : Memref sig .tc .vmem S1x256x2048 .bf16} (harg : arg.IsWhole) (x : Vec F S1x256x2048 .bf16) (h : Fin 4)
    (o : Fin 3 → ℕ) (ho : o = ![0, 0, 512 * h.val]) (inb : ∀ a, o a + S1x256x512.size a ≤ S1x256x2048.size a) :
    View.readAt (Elt F) arg.view (Rect.unit (s := S1x256x2048) o S1x256x512.size inb).toLoadRect (harg.unread x) = kvHead x h := by
  subst ho; funext j
  rw [harg.readAt_unread]
  refine congrArg x (funext fun a => Fin.ext ?_)
  match a with
  | ⟨0, _⟩ => show 0 + 1 * (j 0).val = (j 0).val; omega
  | ⟨1, _⟩ => show 0 + 1 * (j 1).val = (j 1).val; omega
  | ⟨2, _⟩ => show 512 * h.val + 1 * (j 2).val = 512 * h.val + (j 2).val; omega

/-- A load of a whole memref held at contents that read `x`, at a rectangle. -/
theorem load_ld {sp : Space} {s : Shape} {e : EltTy} {arg : Memref sig .tc sp s e} (harg : arg.IsWhole) (x : s.Idx → Elt F e) (r : Rect s) :
    View.readAt (Elt F) arg.view r.toLoadRect (harg.unread x) = View.ld (Val := Elt F) x r :=
  funext fun j => harg.readAt_unread x _ j

/-- A slot of the stage filled by a copy, loaded through the stage and freed of its unit axis, is what was copied. -/
theorem slot_load (M : Memref sig .tc .vmem S2x256x2048 .f32) (r : Rect S2x256x2048) (hr : ∀ a, r.stride a = 1) (hq : r.shape.Squeezes S256x2048)
    (hc : r.shape.ShapeCasts S256x2048) (f : M.view.ty.Contents (Elt F)) (d : S256x2048.Idx → Elt F .f32) :
    shapeCast S256x2048 (M.view.readAt (Elt F) r.toLoadRect (((M.slice r hr).squeeze S256x2048 hq).view.write (Elt F) f d Finset.univ)) hc = d := by
  rw [← Memref.read_squeeze_slice M r hr hq hc]
  exact View.read_write_univ _ _

/-- The rows of the weight of layer 0 that a copy brings. -/
theorem src_read (o : ℕ) (inb : ∀ a, (![0, o, 0] : Fin 3 → ℕ) a + S1x256x2048.size a ≤ S2x2048x2048.size a) (hr) (hq : S1x256x2048.Squeezes S256x2048)
    {c : Dev nD} (w : HbBuf0 (F := F) c hbM0_0) (j : S256x2048.Idx) :
    View.read (Elt F) ((hbM0_0.slice (Rect.unit (s := S2x2048x2048) ![0, o, 0] S1x256x2048.size inb) hr).squeeze S256x2048 hq).view w j
      = (w : S2x2048x2048.Idx → Elt F .f32) (ix3 0 ⟨o + (j 0).val, by have := inb 1; have : (j 0).val < 256 := (j 0).isLt; simp at *; omega⟩ (j 1)) := by
  refine (congrFun (Memref.read_squeeze_slice _ _ hr hq shapeCasts_S1x256x2048_S256x2048 _) j).trans ?_
  refine (shapeCast_apply _ _ j (ix3 (0 : Fin 1) (j 0 : Fin 256) (j 1 : Fin 2048)) ?_).trans ?_
  · rw [Shape.rowMajor_val_two, Shape.rowMajor_val_three]
    show (0 * 256 + (j 0).val) * 2048 + (j 1).val = (j 0).val * 2048 + (j 1).val
    omega
  refine congrArg (w : S2x2048x2048.Idx → Elt F .f32) (funext fun a => Fin.ext ?_)
  match a with
  | ⟨0, _⟩ => rfl
  | ⟨1, _⟩ => show o + 1 * (j 0).val = o + (j 0).val; omega
  | ⟨2, _⟩ => show 0 + 1 * (j 1).val = (j 1).val; omega

/-- A copy into one slot of the stage does not change what a load of the other slot reads. -/
theorem slot_skip (M : Memref sig .tc .vmem S2x256x2048 .f32) (a b : ℕ) (hab : a ≠ b)
    (ia : ∀ x, (![a, 0, 0] : Fin 3 → ℕ) x + S1x256x2048.size x ≤ S2x256x2048.size x) (ib : ∀ x, (![b, 0, 0] : Fin 3 → ℕ) x + S1x256x2048.size x ≤ S2x256x2048.size x)
    (hr) (hq : S1x256x2048.Squeezes S256x2048) (f : M.view.ty.Contents (Elt F)) (d : S256x2048.Idx → Elt F .f32) :
    M.view.readAt (Elt F) (Rect.unit (s := S2x256x2048) ![a, 0, 0] S1x256x2048.size ia).toLoadRect
        (((M.slice (Rect.unit (s := S2x256x2048) ![b, 0, 0] S1x256x2048.size ib) hr).squeeze S256x2048 hq).view.write (Elt F) f d Finset.univ)
      = M.view.readAt (Elt F) (Rect.unit (s := S2x256x2048) ![a, 0, 0] S1x256x2048.size ia).toLoadRect f := by
  funext j
  rw [View.readAt_apply, View.readAt_apply]
  show View.read (Elt F) M.view (((M.view.slice (Rect.unit (s := S2x256x2048) ![b, 0, 0] S1x256x2048.size ib)).reshape S256x2048 hq.numel_eq).write (Elt F) f d Finset.univ) _ = _
  rw [View.write_reshape_univ, View.read_slice_write_of_not_mem]
  rw [Rect.map_emb_univ, Rect.mem_set_unit]
  intro h
  have h0 := h 0
  have hj : (j 0).val < 1 := (j 0).isLt
  change b ≤ a + 1 * (j 0).val ∧ a + 1 * (j 0).val < b + 1 at h0
  omega

/-- The rows a copy left in a slot, loaded and cast, are the cast of what was copied. -/
theorem pay_slot (M : Memref sig .tc .vmem S2x256x2048 .f32) (a : ℕ)
    (ia : ∀ x, (![a, 0, 0] : Fin 3 → ℕ) x + S1x256x2048.size x ≤ S2x256x2048.size x) (hr) (hq : S1x256x2048.Squeezes S256x2048)
    (f : M.view.ty.Contents (Elt F)) (d : S256x2048.Idx → Elt F .f32) :
    k0_pay2 (M.view.readAt (Elt F) (Rect.unit (s := S2x256x2048) ![a, 0, 0] S1x256x2048.size ia).toLoadRect
        (((M.slice (Rect.unit (s := S2x256x2048) ![a, 0, 0] S1x256x2048.size ia) hr).squeeze S256x2048 hq).view.write (Elt F) f d Finset.univ))
      = truncf .bf16 (d : FVec F S256x2048 .f32) bitsLt_bf16_f32 := by
  unfold k0_pay2
  dsimp only
  rw [shapeCast_self, slot_load M _ hr hq]

/-- The cast of the rows a copy brings is the weight's cast at those rows. -/
theorem chunk_ld (o : ℕ) (inb : ∀ a, (![0, o, 0] : Fin 3 → ℕ) a + S1x256x2048.size a ≤ S2x2048x2048.size a) (hr') (hq' : S1x256x2048.Squeezes S256x2048)
    (inb' : ∀ x, (![o, 0] : Fin 2 → ℕ) x + S256x2048.size x ≤ S2048x2048.size x)
    {c : Dev nD} (w : HbBuf0 (F := F) c hbM0_0) :
    truncf .bf16 (ReadAs.same.apply (View.read (Elt F) ((hbM0_0.slice (Rect.unit (s := S2x2048x2048) ![0, o, 0] S1x256x2048.size inb) hr').squeeze S256x2048 hq').view w) : FVec F S256x2048 .f32) bitsLt_bf16_f32
      = View.ld (Val := Elt F) (wcast w) (Rect.unit (s := S2048x2048) ![o, 0] S256x2048.size inb') := by
  funext j
  refine congrArg (FloatOps.truncf (F := F) (φ := .f32) .bf16 bitsLt_bf16_f32) ((src_read o inb hr' hq' w j).trans (congrArg w (funext fun a => Fin.ext ?_)))
  match a with
  | ⟨0, _⟩ => rfl
  | ⟨1, _⟩ => show o + (j 0).val = o + 1 * (j 0).val; omega
  | ⟨2, _⟩ => show (j 1).val = 0 + 1 * (j 1).val; omega

/-- The eight chunks' casts are one function. -/
theorem pay_casts : k0_pay3 (F := F) = k0_pay2 ∧ k0_pay5 (F := F) = k0_pay2 ∧ k0_pay7 (F := F) = k0_pay2 ∧ k0_pay9 (F := F) = k0_pay2
    ∧ k0_pay11 (F := F) = k0_pay2 ∧ k0_pay12 (F := F) = k0_pay2 ∧ k0_pay14 (F := F) = k0_pay2 := ⟨rfl, rfl, rfl, rfl, rfl, rfl, rfl⟩

/-- One head of the attention block, its query columns cut out by the strided slice. -/
theorem attnBlk_head (q : Vec F S512x2048 .bf16) (k v : Vec F S1x256x2048 .bf16) (h : Fin 4) (o : ℕ) (ho : o = 512 * h.val)
    (hs : S512x2048.Slices ![0, o] S512x512) (inb : ∀ a, (![0, o] : Fin 2 → ℕ) a + S512x512.size a ≤ S512x2048.size a) (x : S512x512.Idx) :
    headOut (extractStridedSlice S512x512 ![0, o] q hs) (kvHead k h) (kvHead v h) x
      = attnBlk q k v ((Rect.unit (s := S512x2048) ![0, o] S512x512.size inb).emb x) := by
  subst ho
  rw [slice_qHead q h _ rfl]
  have h1 : ((((Rect.unit (s := S512x2048) ![0, 512 * h.val] S512x512.size inb).emb x) 1).val) = 512 * h.val + 1 * (x 1).val := rfl
  have hx : (x 1).val < 512 := (x 1).isLt
  have e1 : (⟨(((Rect.unit (s := S512x2048) ![0, 512 * h.val] S512x512.size inb).emb x) 1).val / 512, by rw [h1]; omega⟩ : Fin 4) = h := Fin.ext (by show _ / 512 = _; rw [h1]; omega)
  unfold attnBlk
  dsimp only
  rw [e1]
  refine congrArg _ (funext fun a => Fin.ext ?_)
  match a with
  | ⟨0, _⟩ => show (x 0).val = 0 + 1 * (x 0).val; omega
  | ⟨1, _⟩ => show (x 1).val = (512 * h.val + 1 * (x 1).val) % 512; omega

/-- The four heads stored, whatever the block held before, are the whole attention block. -/
theorem out_pieces (arg5 : Memref sig .tc .vmem S512x2048 .bf16) (f : arg5.view.ty.Contents (Elt F)) (q : Vec F S512x2048 .bf16) (k v : Vec F S1x256x2048 .bf16) :
    View.read (Elt F) arg5.view (arg5.view.writes (Elt F) f
      [⟨Rect.unit (s := S512x2048) ![0, 1536] S512x512.size inb_S512x2048_S512x512_0_1536, headOut (extractStridedSlice S512x512 ![0, 1536] q slices_S512x2048_o0_1536_S512x512) (kvHead k 3) (kvHead v 3)⟩,
       ⟨Rect.unit (s := S512x2048) ![0, 1024] S512x512.size inb_S512x2048_S512x512_0_1024, headOut (extractStridedSlice S512x512 ![0, 1024] q slices_S512x2048_o0_1024_S512x512) (kvHead k 2) (kvHead v 2)⟩,
       ⟨Rect.unit (s := S512x2048) ![0, 512] S512x512.size inb_S512x2048_S512x512_0_512, headOut (extractStridedSlice S512x512 ![0, 512] q slices_S512x2048_o0_512_S512x512) (kvHead k 1) (kvHead v 1)⟩,
       ⟨Rect.unit (s := S512x2048) ![0, 0] S512x512.size inb_S512x2048_S512x512_0_0, headOut (extractStridedSlice S512x512 ![0, 0] q slices_S512x2048_o0_0_S512x512) (kvHead k 0) (kvHead v 0)⟩]) = attnBlk q k v := by
  refine funext fun y => View.read_writes_apply_of_pieces _ _ (attnBlk q k v) _ ?_ y ?_
  · intro p hp x
    simp only [List.mem_cons, List.not_mem_nil, or_false] at hp
    rcases hp with rfl | rfl | rfl | rfl
    · exact attnBlk_head q k v 3 1536 rfl slices_S512x2048_o0_1536_S512x512 inb_S512x2048_S512x512_0_1536 x
    · exact attnBlk_head q k v 2 1024 rfl slices_S512x2048_o0_1024_S512x512 inb_S512x2048_S512x512_0_1024 x
    · exact attnBlk_head q k v 1 512 rfl slices_S512x2048_o0_512_S512x512 inb_S512x2048_S512x512_0_512 x
    · exact attnBlk_head q k v 0 0 rfl slices_S512x2048_o0_0_S512x512 inb_S512x2048_S512x512_0_0 x
  · refine View.cover_of_tiled (s := S512x2048) _ S512x512.size ?_ y; rfl

/-! Each stored payload is one head's output. -/

theorem pay19_eq (a : FVec F S512x2048 .f32) (x : Vec F S512x256 .bf16) (w : Vec F S256x2048 .bf16) (k v : Vec F S1x256x512 .bf16) : k0_pay19 (k0_pay17 a x w k v) (k0_pay18 a x w k) = headOut (extractStridedSlice S512x512 ![0, 0] (k0_pay15 a x w) slices_S512x2048_o0_0_S512x512) k v := rfl

theorem pay20_eq (q : FVec F S512x2048 .bf16) (k v : Vec F S1x256x512 .bf16) : k0_pay20 q k v = headOut (extractStridedSlice S512x512 ![0, 512] (q) slices_S512x2048_o0_512_S512x512) k v := rfl

theorem pay23_eq (q : FVec F S512x2048 .bf16) (k v : Vec F S1x256x512 .bf16) : k0_pay23 (k0_pay21 q k) (k0_pay22 q k) v = headOut (extractStridedSlice S512x512 ![0, 1024] (q) slices_S512x2048_o0_1024_S512x512) k v := rfl

theorem pay24_eq (q : FVec F S512x2048 .bf16) (k v : Vec F S1x256x512 .bf16) : k0_pay24 q k v = headOut (extractStridedSlice S512x512 ![0, 1536] (q) slices_S512x2048_o0_1536_S512x512) k v := rfl

theorem pay26_eq (x : Vec F S512x2048 .bf16) (w : Vec F S2048x2048 .bf16) (k v : Vec F S1x256x512 .bf16) : k0_pay26 x w k v = headOut (extractStridedSlice S512x512 ![0, 0] (k0_pay25 x w) slices_S512x2048_o0_0_S512x512) k v := rfl

theorem pay28_eq (x : Vec F S512x2048 .bf16) (w : Vec F S2048x2048 .bf16) (k v : Vec F S1x256x512 .bf16) : k0_pay28 (k0_pay27 x w k) v = headOut (extractStridedSlice S512x512 ![0, 512] (k0_pay25 x w) slices_S512x2048_o0_512_S512x512) k v := rfl

theorem pay29_eq (q : FVec F S512x2048 .bf16) (k v : Vec F S1x256x512 .bf16) : k0_pay29 q k v = headOut (extractStridedSlice S512x512 ![0, 1024] (q) slices_S512x2048_o0_1024_S512x512) k v := rfl

theorem pay1_eq (q : FVec F S512x2048 .bf16) (k v : Vec F S1x256x512 .bf16) : k0_pay1 (k0_pay30 q) (k0_pay31 k) v = headOut (extractStridedSlice S512x512 ![0, 1536] (q) slices_S512x2048_o0_1536_S512x512) k v := rfl

/-- A load of the whole block of queries' input, or of the whole cast weight, reads the contents. -/
theorem ld_whole (x : Vec F S512x2048 .bf16) : View.ld (Val := Elt F) x (Rect.unit (s := S512x2048) ![0, 0] S512x2048.size inb_S512x2048_S512x2048_0_0) = x :=
  View.ld_unit_zero (by decide) _ _

theorem ld_whole_w (w : Vec F S2048x2048 .bf16) : View.ld (Val := Elt F) w (Rect.unit (s := S2048x2048) ![0, 0] S2048x2048.size inb_S2048x2048_S2048x2048_0_0) = w :=
  View.ld_unit_zero (by decide) _ _

end Attn

end
-- ==== Proof.Attn.RunA.lean ====
module

public import proofs.«01_k».proof.Proof.Attn.Spec

@[expose] public section

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 400000 in set_option sl_exec.dmaWindow true in set_option sl_exec.dmaWindowSet true in
/-- The body at the first point: it copies the weight in, leaves the cast weight in the scratch, and writes the attention block of the queries of eight partial products. -/
theorem runA (c : Dev nD) (i : grid0.Coords) (arg1 : Memref sig .tc .vmem S512x2048 .bf16) (harg1 : arg1.IsWhole) (arg2 : Memref sig .tc .vmem S1x256x2048 .bf16) (harg2 : arg2.IsWhole) (arg3 : Memref sig .tc .vmem S1x256x2048 .bf16) (harg3 : arg3.IsWhole) (arg5 : Memref sig .tc .vmem S512x2048 .bf16) (harg5 : arg5.IsWhole) (arg6 : Memref sig .tc .vmem S2048x2048 .bf16) (harg6 : arg6.IsWhole) (arg7 : Memref sig .tc .vmem S2x256x2048 .f32) (harg7 : arg7.IsWhole) (hc0 : cond0_0 i) (hc1 : ¬cond0_1 i)
    (x0 : Vec F S512x2048 .bf16) (x1 : Vec F S1x256x2048 .bf16) (x2 : Vec F S1x256x2048 .bf16) (fh0 : HbBuf0 (F := F) c hbM0_0) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg5 fullShare d) ∗ (∃ d, owns (c : Thread nD τ) arg6 fullShare d) ∗ (∃ d, owns (c : Thread nD τ) arg7 fullShare d) ∗ semVal ((c : Thread nD τ), SemLoc.dma 8) 0 ∗ semVal ((c : Thread nD τ), SemLoc.dma 9) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg5 fullShare (attnBlk (qFirst x0 (wcast fh0)) x1 x2) ∗ owns (c : Thread nD τ) arg6 fullShare (wcast fh0) ∗ (∃ d, owns (c : Thread nD τ) arg7 fullShare d) ∗ semVal ((c : Thread nD τ), SemLoc.dma 8) 0 ∗ semVal ((c : Thread nD τ), SemLoc.dma 9) 0 ∗ hbPt0 c hbM0_0 fh0 ∗ (∃ W', owes (c : Thread nD τ) 0 W')) -∗ K ⟨⟩))
          ⊢ wp frame (wpE (defs₀ (F := F)) Variants.none c none) Set.univ (cc0_attention i arg1 harg1 arg2 harg2 arg3 harg3 (Memref.whole main_arg1) (Memref.isWhole_whole _) arg5 harg5 arg6 harg6 arg7 harg7 cc0_scratch2) K := by
    intro W K
    simp only [cc0_attention_eq_skeleton]; unfold cc0_attention_skel
    simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hq0, Hq1, Hh0, HW, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      sl_unfold_words
      simp -proj (disch := decide) only [pay_casts, slot_skip, pay_slot, View.readCov_cons_toLoadRect, load_ld, load_kvHead harg2 x1 0 ![0, 0, 0] rfl, load_kvHead harg2 x1 1 ![0, 0, 512] rfl, load_kvHead harg2 x1 2 ![0, 0, 1024] rfl, load_kvHead harg2 x1 3 ![0, 0, 1536] rfl, load_kvHead harg3 x2 0 ![0, 0, 0] rfl, load_kvHead harg3 x2 1 ![0, 0, 512] rfl, load_kvHead harg3 x2 2 ![0, 0, 1024] rfl, load_kvHead harg3 x2 3 ![0, 0, 1536] rfl, pay19_eq, pay20_eq, pay23_eq, pay24_eq]
      refine (out_pieces arg5 f3 _ x1 x2).trans (congrArg (attnBlk · x1 x2) ?_)
      apply qFirst_of
      · exact chunk_ld 0 _ _ _ inb_S2048x2048_S256x2048_0_0 fh0
      · exact chunk_ld 256 _ _ _ inb_S2048x2048_S256x2048_256_0 fh0
      · exact chunk_ld 512 _ _ _ inb_S2048x2048_S256x2048_512_0 fh0
      · exact chunk_ld 768 _ _ _ inb_S2048x2048_S256x2048_768_0 fh0
      · exact chunk_ld 1024 _ _ _ inb_S2048x2048_S256x2048_1024_0 fh0
      · exact chunk_ld 1280 _ _ _ inb_S2048x2048_S256x2048_1280_0 fh0
      · exact chunk_ld 1536 _ _ _ inb_S2048x2048_S256x2048_1536_0 fh0
      · exact chunk_ld 1792 _ _ _ inb_S2048x2048_S256x2048_1792_0 fh0
    isplitl [HS0]
    · iexists _; isplitr; swap; · iexact HS0
      ipureintro
      sl_unfold_words
      simp -proj (disch := decide) only [pay_casts, slot_skip, pay_slot]
      refine funext fun y => View.read_writes_apply_of_pieces _ _ (wcast fh0) _ ?_ y ?_
      · intro p hp x
        fin_cases hp
        · exact congrFun (chunk_ld 1792 _ _ _ inb_S2048x2048_S256x2048_1792_0 fh0) x
        · exact congrFun (chunk_ld 1536 _ _ _ inb_S2048x2048_S256x2048_1536_0 fh0) x
        · exact congrFun (chunk_ld 1280 _ _ _ inb_S2048x2048_S256x2048_1280_0 fh0) x
        · exact congrFun (chunk_ld 1024 _ _ _ inb_S2048x2048_S256x2048_1024_0 fh0) x
        · exact congrFun (chunk_ld 768 _ _ _ inb_S2048x2048_S256x2048_768_0 fh0) x
        · exact congrFun (chunk_ld 512 _ _ _ inb_S2048x2048_S256x2048_512_0 fh0) x
        · exact congrFun (chunk_ld 256 _ _ _ inb_S2048x2048_S256x2048_256_0 fh0) x
        · exact congrFun (chunk_ld 0 _ _ _ inb_S2048x2048_S256x2048_0_0 fh0) x
      · refine View.cover_of_tiled (s := S2048x2048) _ S256x2048.size ?_ y; rfl
    isplitl [HS1]
    · iexists _, _; isplitr; swap; · iexact HS1
      ipureintro; rfl
    isplitl [Hq0]; · iexact Hq0
    isplitl [Hq1]; · iexact Hq1
    isplitl [Hh0]; · iexact Hh0
    iexists _; iexact HW

end Attn

end
-- ==== Proof.Attn.RunB.lean ====
module

public import proofs.«01_k».proof.Proof.Attn.Spec

@[expose] public section

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 400000 in set_option sl_exec.dmaWindow true in set_option sl_exec.dmaWindowSet true in
/-- The body at a later point: the scratch holds the cast weight and keeps it; the block written is the attention of the queries of one product. -/
theorem runB (c : Dev nD) (i : grid0.Coords) (arg1 : Memref sig .tc .vmem S512x2048 .bf16) (harg1 : arg1.IsWhole) (arg2 : Memref sig .tc .vmem S1x256x2048 .bf16) (harg2 : arg2.IsWhole) (arg3 : Memref sig .tc .vmem S1x256x2048 .bf16) (harg3 : arg3.IsWhole) (arg5 : Memref sig .tc .vmem S512x2048 .bf16) (harg5 : arg5.IsWhole) (arg6 : Memref sig .tc .vmem S2048x2048 .bf16) (harg6 : arg6.IsWhole) (arg7 : Memref sig .tc .vmem S2x256x2048 .f32) (harg7 : arg7.IsWhole) (hc0 : ¬cond0_0 i) (hc1 : cond0_1 i)
    (x0 : Vec F S512x2048 .bf16) (x1 : Vec F S1x256x2048 .bf16) (x2 : Vec F S1x256x2048 .bf16) (w : Vec F S2048x2048 .bf16) (fh0 : HbBuf0 (F := F) c hbM0_0) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg5 fullShare d) ∗ owns (c : Thread nD τ) arg6 fullShare w ∗ (∃ d, owns (c : Thread nD τ) arg7 fullShare d) ∗ semVal ((c : Thread nD τ), SemLoc.dma 8) 0 ∗ semVal ((c : Thread nD τ), SemLoc.dma 9) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg5 fullShare (attnBlk (k0_pay25 x0 w) x1 x2) ∗ owns (c : Thread nD τ) arg6 fullShare w ∗ (∃ d, owns (c : Thread nD τ) arg7 fullShare d) ∗ semVal ((c : Thread nD τ), SemLoc.dma 8) 0 ∗ semVal ((c : Thread nD τ), SemLoc.dma 9) 0 ∗ hbPt0 c hbM0_0 fh0 ∗ (∃ W', owes (c : Thread nD τ) 0 W')) -∗ K ⟨⟩))
          ⊢ wp frame (wpE (defs₀ (F := F)) Variants.none c none) Set.univ (cc0_attention i arg1 harg1 arg2 harg2 arg3 harg3 (Memref.whole main_arg1) (Memref.isWhole_whole _) arg5 harg5 arg6 harg6 arg7 harg7 cc0_scratch2) K := by
    intro W K
    simp only [cc0_attention_eq_skeleton]; unfold cc0_attention_skel
    simp only [k0_part10_eq_skeleton, k0_part11_eq_skeleton]
    unfold owns
    iintro ⟨⟨%f0, %hf0, H0⟩, ⟨%f1, %hf1, H1⟩, ⟨%f2, %hf2, H2⟩, ⟨%d3, %f3, -, H3⟩, ⟨%fs0, %hfs, HS0⟩, ⟨%ds1, %fs1, -, HS1⟩, Hq0, Hq1, Hh0, HW, Hk⟩
    obtain rfl := harg1.eq_unread hf0; obtain rfl := harg2.eq_unread hf1; obtain rfl := harg3.eq_unread hf2; obtain rfl := harg6.eq_unread hfs
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      sl_unfold_words
      simp -proj (disch := decide) only [load_ld, ld_whole, ld_whole_w, load_kvHead harg2 x1 0 ![0, 0, 0] rfl, load_kvHead harg2 x1 1 ![0, 0, 512] rfl, load_kvHead harg2 x1 2 ![0, 0, 1024] rfl, load_kvHead harg2 x1 3 ![0, 0, 1536] rfl, load_kvHead harg3 x2 0 ![0, 0, 0] rfl, load_kvHead harg3 x2 1 ![0, 0, 512] rfl, load_kvHead harg3 x2 2 ![0, 0, 1024] rfl, load_kvHead harg3 x2 3 ![0, 0, 1536] rfl, pay26_eq, pay28_eq, pay29_eq, pay1_eq]
      exact out_pieces arg5 f3 _ x1 x2
    isplitl [HS0]
    · iexists _; isplitr; swap; · iexact HS0
      ipureintro; exact harg6.read_unread _
    isplitl [HS1]
    · iexists _, _; isplitr; swap; · iexact HS1
      ipureintro; rfl
    isplitl [Hq0]; · iexact Hq0
    isplitl [Hq1]; · iexact Hq1
    isplitl [Hh0]; · iexact Hh0
    iexists _; iexact HW

end Attn

end
-- ==== Proof.Attn.Launch.lean ====
module

public import proofs.«01_k».proof.Proof.Attn.RunA
public import proofs.«01_k».proof.Proof.Attn.RunB
public import Idealize.ShloMosaic.Lib.Claim

@[expose] public section

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The output is written at every point. -/
theorem live3 (t : Fin cfg0.N) : cfg0.idle 3 (grid0.coords t) = false := by
  have hN : t.val < 16 := lt_of_lt_of_eq t.isLt (show cfg0.N = 16 from N_0)
  show (!(k0_cond1 (grid0.coords t) == 1#1) && !(k0_cond2 (grid0.coords t) == 1#1)) = false
  by_cases h0 : t.val % 16 = 0
  · have h : k0_cond1 (grid0.coords t) = 1#1 := (hcond0_0 t).mpr h0
    simp [h]
  · have h : k0_cond2 (grid0.coords t) = 1#1 := (hcond0_1 t).mpr (by omega)
    simp [h]

/-! ## The pipeline's proof data -/

/-- The cast weight of layer 0. -/
def wAt (c : Dev nD) : Vec F S2048x2048 .bf16 := wcast (V m c main_arg1)

/-- The queries a point computes: at the first point from eight partial products, later from one. -/
def qAt (c : Dev nD) (t : Fin cfg0.N) : Vec F S512x2048 .bf16 :=
  if t.val = 0 then qFirst (iblk m c 0 t) (wAt m c) else k0_pay25 (iblk m c 0 t) (wAt m c)

/-- The weight scratch before point `n`: anything at the first point, the cast weight later. -/
def scratchAt (c : Dev nD) (n : ℕ) : sProp 𝕄 :=
  if n = 0 then iprop(∃ d, owns (c : Thread nD τ) scM0_0 fullShare d) else owns (c : Thread nD τ) scM0_0 fullShare (wAt m c)

/-- The invariant between points: the weight scratch, the stage at anything, the generator register, the body's own
    counters at zero and the weight array as launched. -/
def PhiV (c : Dev nD) (n : ℕ) : sProp 𝕄 :=
  iprop(iprop(scratchAt m c n ∗ (∃ d, owns (c : Thread nD τ) scM0_1 fullShare d)) ∗ (∃ r, prngReg c r) ∗ iprop(semVal ((c : Thread nD τ), SemLoc.dma 8) 0 ∗ semVal ((c : Thread nD τ), SemLoc.dma 9) 0) ∗ iprop(hbPt0 c hbM0_0 (V m c main_arg1)))

/-- The proof data of the pipeline: each input's buffer keeps its block, the output's is the point's attention block. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => attnBlk (qAt m c t) (iblk m c 1 t) (iblk m c 2 t)
  Φ t := PhiV m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_3 (c : Dev nD) (t : Fin cfg0.N) : (dats m 0 c).after 3 t = attnBlk (qAt m c t) (iblk m c 1 t) (iblk m c 2 t) := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 800000 in
/-- The body at any point: the inputs' memrefs hold their blocks (`before0_W`); the closed forms say which case the point is in (`by_cases`), an output the case reads before covering holds what the point before left (`before0_W_κ`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = PhiV m c (t.val + 1) from rfl, show (dats m 0 c).Φ t.castSucc = PhiV m c t.val from rfl]
  unfold PhiV
  rw [scratchAt, scratchAt, if_neg (show ¬ (t.val + 1 = 0) by omega)]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases h1 : 1 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
        unfold Dat.leavesExact; rw [live3 t], after0_3]
      rw [qAt, if_pos (show t.val = 0 by omega), if_pos (show t.val = 0 by omega)]
      iintro ⟨⟨⟨HS0, HS1⟩, Hg, ⟨Hq0, Hq1⟩, Hh0⟩, ⟨%W, -, HW⟩, ⟨%d0, H0⟩, ⟨%d1, H1⟩, ⟨%d2, H2⟩, ⟨%d3, H3⟩⟩
      iapply ((runA c (grid0.coords t) _ _ _ _ _ _ _ _ _ _ _ _ ((hcond0_0 t).mpr h0) (fun h => h1 ((hcond0_1 t).mp h)) (iblk m c 0 t) (iblk m c 1 t) (iblk m c 2 t) (V m c main_arg1)) W _)
      isplitl [H0]; · iexact H0
      isplitl [H1]; · iexact H1
      isplitl [H2]; · iexact H2
      isplitl [H3]; · iexists _; iexact H3
      isplitl [HS0]; · iexact HS0
      isplitl [HS1]; · iexact HS1
      isplitl [Hq0]; · iexact Hq0
      isplitl [Hq1]; · iexact Hq1
      isplitl [Hh0]; · iexact Hh0
      isplitl [HW]; · iexact HW
      iintro ⟨H0, H1, H2, H3, HS0, HS1, Hq0, Hq1, Hh0, ⟨%W', HW'⟩⟩
      isplitl [HS0 HS1 Hg Hq0 Hq1 Hh0]
      · isplitl [HS0 HS1]
        · isplitl [HS0]; · iexact HS0
          iexact HS1
        isplitl [Hg]
        · iexact Hg
        isplitl [Hq0 Hq1]
        · isplitl [Hq0]; · iexact Hq0
          iexact Hq1
        iexact Hh0
      isplitl [HW']
      · iexists W'; isplitr; · ipureintro; exact fun _ _ => Or.inl trivial
        iexact HW'
      isplitl [H0]; · iexact H0
      isplitl [H1]; · iexact H1
      isplitl [H2]; · iexact H2
      iexact H3
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
        unfold Dat.leavesExact; rw [live3 t], after0_3]
      rw [qAt, if_neg (show ¬ (t.val = 0) by omega), if_neg (show ¬ (t.val = 0) by omega)]
      iintro ⟨⟨⟨HS0, HS1⟩, Hg, ⟨Hq0, Hq1⟩, Hh0⟩, ⟨%W, -, HW⟩, ⟨%d0, H0⟩, ⟨%d1, H1⟩, ⟨%d2, H2⟩, ⟨%d3, H3⟩⟩
      iapply ((runB c (grid0.coords t) _ _ _ _ _ _ _ _ _ _ _ _ (fun h => h0 ((hcond0_0 t).mp h)) ((hcond0_1 t).mpr h1) (iblk m c 0 t) (iblk m c 1 t) (iblk m c 2 t) (wAt m c) (V m c main_arg1)) W _)
      isplitl [H0]; · iexact H0
      isplitl [H1]; · iexact H1
      isplitl [H2]; · iexact H2
      isplitl [H3]; · iexists _; iexact H3
      isplitl [HS0]; · iexact HS0
      isplitl [HS1]; · iexact HS1
      isplitl [Hq0]; · iexact Hq0
      isplitl [Hq1]; · iexact Hq1
      isplitl [Hh0]; · iexact Hh0
      isplitl [HW]; · iexact HW
      iintro ⟨H0, H1, H2, H3, HS0, HS1, Hq0, Hq1, Hh0, ⟨%W', HW'⟩⟩
      isplitl [HS0 HS1 Hg Hq0 Hq1 Hh0]
      · isplitl [HS0 HS1]
        · isplitl [HS0]; · iexact HS0
          iexact HS1
        isplitl [Hg]
        · iexact Hg
        isplitl [Hq0 Hq1]
        · isplitl [Hq0]; · iexact Hq0
          iexact Hq1
        iexact Hh0
      isplitl [HW']
      · iexists W'; isplitr; · ipureintro; exact fun _ _ => Or.inl trivial
        iexact HW'
      isplitl [H0]; · iexact H0
      isplitl [H1]; · iexact H1
      isplitl [H2]; · iexact H2
      iexact H3
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The invariant before the first point is what the launch hands over. -/
theorem phi_in (c : Dev nD) : Pipeline.ΦD osem0 spec0 H0 (V m) c ⊢ (dats m 0 c).Φ 0 := by
  rw [show (dats m 0 c).Φ 0 = PhiV m c 0 from rfl, PhiD0_eq]
  exact .rfl

/-- The invariant after the last point gives back what the launch takes. -/
theorem phi_out (c : Dev nD) : (dats m 0 c).Φ (Fin.last cfg0.N) ⊢ Pipeline.ΦD osem0 spec0 H0 (V m) c := by
  rw [show (dats m 0 c).Φ (Fin.last cfg0.N) = PhiV m c 16 from rfl, PhiD0_eq]
  unfold PhiV
  rw [scratchAt, if_neg (by decide)]
  iintro ⟨⟨HS0, HS1⟩, Hg, Hq, Hh⟩
  isplitl [HS0 HS1]
  · isplitl [HS0]; · iexists _; iexact HS0
    iexact HS1
  isplitl [Hg]; · iexact Hg
  isplitl [Hq]; · iexact Hq
  iexact Hh

set_option backward.isDefEq.respectTransparency.types false in
/-- The launch: every execution terminates with the arrays at the proof data's contents, every other unscoped buffer
    unchanged and every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- What a run ends with: the result array at the proof data's contents, the arguments unchanged, every counter at zero. -/
theorem run_result : θ_run defs (onTc (τ := τ) (main (F := F))) ⟨m, fun _ => 0, ρ⟩ (fun r => (∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 3),
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 1).trans (((dats m 0 c).arrAt_in 1 rfl _).trans ((A_eq m c 1).trans (V_main_arg2 m c))),
      ((h.1 c).1 2).trans (((dats m 0 c).arrAt_in 2 rfl _).trans ((A_eq m c 2).trans (V_main_arg3 m c)))⟩, h.2⟩) (run_main m ρ)

end Attn

end
-- ==== Proof.Attn.Soft.lean ====
/- Softmax's two ways on extended reals: the weighted sum divided once by the sum of the weights, and the sum of the
   values times each weight divided; equal where the scores are real, whatever the values. -/
module

public import Idealize.ShloMosaic.PureOps.Ideal.Laws

@[expose] public section

noncomputable section

namespace Attn

open Idealize.ShloMosaic

/-- An extended real that is a real number. -/
def IsReal (x : EReal) : Prop := ∃ r : ℝ, x = (r : EReal)

theorem IsReal.of_ne {x : EReal} (hb : x ≠ ⊥) (ht : x ≠ ⊤) : IsReal x := ⟨x.toReal, (EReal.coe_toReal ht hb).symm⟩

theorem IsReal.mul {x y : EReal} : IsReal x → IsReal y → IsReal (x * y) := by
  rintro ⟨a, rfl⟩ ⟨b, rfl⟩; exact ⟨a * b, (EReal.coe_mul a b).symm⟩

/-- A finite sum of real numbers is the real sum. -/
theorem coe_sum {ι : Type} (t : Finset ι) (f : ι → ℝ) : (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

theorem IsReal.sum {ι : Type} (t : Finset ι) (f : ι → EReal) (h : ∀ i, IsReal (f i)) : IsReal (∑ i ∈ t, f i) := by
  choose g hg using h
  exact ⟨∑ i ∈ t, g i, by rw [← coe_sum]; exact Finset.sum_congr rfl fun i _ => hg i⟩

/-- A nonnegative real distributes over a sum of extended reals. -/
theorem sum_mul_real {ι : Type} (t : Finset ι) (f : ι → EReal) (c : ℝ) (hc : 0 ≤ c) : (∑ i ∈ t, f i) * (c : EReal) = ∑ i ∈ t, f i * (c : EReal) := by
  classical
  induction t using Finset.induction_on with
  | empty => simp
  | insert a t ha ih =>
    rw [Finset.sum_insert ha, Finset.sum_insert ha, ← ih]
    exact EReal.right_distrib_of_nonneg_of_ne_top (by exact_mod_cast hc) (EReal.coe_ne_top c) _ _

/-- The value of −∞'s word. -/
theorem negInf : Ideal.ofBits .f32 0xFF800000#32 = ⊥ := by simp [Ideal.ofBits, Ideal.ieee]

/-- Weights not normalised, the sum divided at the end. -/
def softK (s v : Fin 256 → EReal) : EReal :=
  Ideal.div (∑ m, Ideal.exp (s m - Finset.univ.fold max (Ideal.ofBits .f32 0xFF800000#32) s) * v m)
    (∑ m, Ideal.exp (s m - Finset.univ.fold max (Ideal.ofBits .f32 0xFF800000#32) s))

/-- Each weight normalised, then the values summed. -/
def softR (s v : Fin 256 → EReal) : EReal :=
  ∑ m, v m * Ideal.div (Ideal.exp (s m - max (Ideal.ofBits .f32 0xFF800000#32) (Finset.univ.fold max (Ideal.ofBits .f32 0xFF800000#32) s)))
    (∑ m', Ideal.exp (s m' - max (Ideal.ofBits .f32 0xFF800000#32) (Finset.univ.fold max (Ideal.ofBits .f32 0xFF800000#32) s)))

theorem softK_eq_softR (s v : Fin 256 → EReal) (hs : ∀ m, IsReal (s m)) : softK s v = softR s v := by
  unfold softK softR
  rw [negInf, max_eq_right bot_le]
  obtain ⟨M, hM⟩ : IsReal (Finset.univ.fold max ⊥ s) := by
    choose f hf using hs
    refine IsReal.of_ne (ne_of_gt ?_) (ne_of_lt ?_)
    · rw [Finset.lt_fold_max]; exact Or.inr ⟨0, Finset.mem_univ _, by rw [hf]; exact EReal.bot_lt_coe _⟩
    · rw [Finset.fold_max_lt]; exact ⟨bot_lt_top, fun m _ => by rw [hf]; exact EReal.coe_lt_top _⟩
  rw [hM]
  choose f hf using hs
  have he : ∀ m, Ideal.exp (s m - (M : EReal)) = ((Real.exp (f m - M) : ℝ) : EReal) := fun m => by
    rw [hf, ← EReal.coe_sub]; rfl
  simp only [he]
  rw [coe_sum]
  have hS : (0 : ℝ) < ∑ m : Fin 256, Real.exp (f m - M) := Finset.sum_pos (fun m _ => Real.exp_pos _) ⟨0, Finset.mem_univ _⟩
  simp only [Ideal.div_coe hS.ne']
  rw [sum_mul_real _ _ _ (one_div_nonneg.mpr hS.le)]
  refine Finset.sum_congr rfl fun m _ => ?_
  rw [mul_comm (((Real.exp (f m - M) : ℝ) : EReal)) (v m), mul_assoc]

end Attn
end
-- ==== Proof.Attn.Value.lean ====
/- The attention call's result array over the extended reals, as one function of the argument arrays. -/
module

public import proofs.«01_k».proof.Proof.Attn.Launch
public import proofs.«01_k».proof.Proof.Attn.Soft

@[expose] public section

set_option maxRecDepth 16384

noncomputable section

namespace Attn

open Cert.KernelIdeal Cert.KernelIdeal.Gen
open Idealize.ShloMosaic Idealize.ShloMosaic.TcCoe Idealize.ShloMosaic.Tactic Idealize.SL.Sem

/-! ## The whole arrays' function -/

/-- A query: a row of the hidden states times a column of the weight of layer 0. -/
def query (H : (⟨2, ![8192, 2048]⟩ : Shape).Idx → EReal) (W : (⟨3, ![2, 2048, 2048]⟩ : Shape).Idx → EReal) (r : Fin 8192) (c : Fin 2048) : EReal :=
  ∑ k : Fin 2048, H (ix2 r k) * W (ix3 0 k c)

/-- The scaled score of row `r` against memory `m` of its sequence, in head `h`. -/
def score (H : (⟨2, ![8192, 2048]⟩ : Shape).Idx → EReal) (W : (⟨3, ![2, 2048, 2048]⟩ : Shape).Idx → EReal) (K : (⟨3, ![2, 1024, 2048]⟩ : Shape).Idx → EReal)
    (r : Fin 8192) (h : Fin 4) (m : Fin 256) : EReal :=
  (∑ d : Fin 512, query H W r ⟨512 * h.val + d.val, by omega⟩ * K (ix3 0 ⟨256 * (r.val / 2048) + m.val, by omega⟩ ⟨512 * h.val + d.val, by omega⟩))
    * Ideal.ofBits .f32 0x3D3504F3#32

/-- The attention of row `r` at column `c`. -/
def attend (H : (⟨2, ![8192, 2048]⟩ : Shape).Idx → EReal) (W : (⟨3, ![2, 2048, 2048]⟩ : Shape).Idx → EReal) (K V : (⟨3, ![2, 1024, 2048]⟩ : Shape).Idx → EReal)
    (i : (⟨2, ![8192, 2048]⟩ : Shape).Idx) : EReal :=
  have h0 : (i 0).val < 8192 := (i 0).isLt
  have h1 : (i 1).val < 2048 := (i 1).isLt
  softK (score H W K ⟨(i 0).val, h0⟩ ⟨(i 1).val / 512, by omega⟩) fun m => V (ix3 0 ⟨256 * ((i 0).val / 2048) + m.val, by omega⟩ ⟨(i 1).val, h1⟩)

/-! ## The body's block, element by element -/

theorem headOut_apply (q : FVec Ideal S512x512 .bf16) (k v : Vec Ideal S1x256x512 .bf16) (r c : Fin 512) :
    headOut q k v (ix2 r c)
      = softK (fun m => (∑ d : Fin 512, q (ix2 r d) * k (ix3 0 m d)) * Ideal.ofBits .f32 0x3D3504F3#32) fun m => v (ix3 0 m c) := by
  pointwise [headOut]
  rfl

theorem pay25_apply (x : Vec Ideal S512x2048 .bf16) (w : Vec Ideal S2048x2048 .bf16) (r : Fin 512) (c : Fin 2048) :
    k0_pay25 x w (ix2 r c) = ∑ k : Fin 2048, x (ix2 r k) * w (ix2 k c) := by
  pointwise [k0_pay25]

theorem qFirst_apply (x : Vec Ideal S512x2048 .bf16) (w : Vec Ideal S2048x2048 .bf16) (r : Fin 512) (c : Fin 2048) :
    qFirst x w (ix2 r c) = ∑ k : Fin 2048, x (ix2 r k) * w (ix2 k c) := by
  rw [Fin.sum_univ_tiles 8 256 rfl, Fin.sum_univ_eight]
  pointwise [qFirst, k0_pay15, k0_pay13, k0_pay10, k0_pay8, k0_pay6, k0_pay4]

variable (m : (ℓ : Loc nD τ sig) → Buf (Elt Ideal) ℓ) (ρ : Dev nD → PrngReg)

/-- Where each window's block stands in its array at each point. -/
theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 3) = 0 ∧ win0_1.index t (1 : Fin 3) = t.val / 4 ∧ win0_1.index t (2 : Fin 3) = 0 :=
  (by decide +kernel : ∀ t : Fin grid0.N, _)
theorem index2 : ∀ t : Fin cfg0.N, win0_2.index t (0 : Fin 3) = 0 ∧ win0_2.index t (1 : Fin 3) = t.val / 4 ∧ win0_2.index t (2 : Fin 3) = 0 :=
  (by decide +kernel : ∀ t : Fin grid0.N, _)
theorem index3 : ∀ t : Fin cfg0.N, win0_3.index t (0 : Fin 2) = t.val ∧ win0_3.index t (1 : Fin 2) = 0 := (by decide +kernel : ∀ t : Fin grid0.N, _)

theorem tlt (t : Fin cfg0.N) : t.val < 16 := lt_of_lt_of_eq t.isLt (show cfg0.N = 16 from N_0)

/-- The point's rows of the hidden states. -/
theorem iblk0_apply (c : Dev nD) (t : Fin cfg0.N) (r : Fin 512) (k : Fin 2048) :
    (iblk m c 0 t : Vec Ideal S512x2048 .bf16) (ix2 r k) = (V m c main_arg0 : S8192x2048.Idx → EReal) (ix2 ⟨512 * t.val + r.val, by have := tlt t; omega⟩ k) := by
  obtain ⟨e0, e1⟩ := index0 t
  show V m c main_arg0 (((cfg0.win 0).blk t).view.emb (ix2 r k)) = _
  refine congrArg (V m c main_arg0) (funext fun a => Fin.ext ?_)
  match a with
  | ⟨0, _⟩ => show win0_0.index t (0 : Fin 2) * 512 + 1 * r.val = 512 * t.val + r.val; omega
  | ⟨1, _⟩ => show win0_0.index t (1 : Fin 2) * 2048 + 1 * k.val = k.val; omega

/-- The point's sequence's keys. -/
theorem iblk1_apply (c : Dev nD) (t : Fin cfg0.N) (r : Fin 256) (k : Fin 2048) :
    (iblk m c 1 t : Vec Ideal S1x256x2048 .bf16) (ix3 0 r k) = (V m c main_arg2 : S2x1024x2048.Idx → EReal) (ix3 0 ⟨256 * (t.val / 4) + r.val, by have := tlt t; omega⟩ k) := by
  obtain ⟨e0, e1, e2⟩ := index1 t
  show V m c main_arg2 (((cfg0.win 1).blk t).view.emb (ix3 0 r k)) = _
  refine congrArg (V m c main_arg2) (funext fun a => Fin.ext ?_)
  match a with
  | ⟨0, _⟩ => show win0_1.index t (0 : Fin 3) * 1 + 1 * 0 = 0; omega
  | ⟨1, _⟩ => show win0_1.index t (1 : Fin 3) * 256 + 1 * r.val = 256 * (t.val / 4) + r.val; omega
  | ⟨2, _⟩ => show win0_1.index t (2 : Fin 3) * 2048 + 1 * k.val = k.val; omega

/-- The point's sequence's values. -/
theorem iblk2_apply (c : Dev nD) (t : Fin cfg0.N) (r : Fin 256) (k : Fin 2048) :
    (iblk m c 2 t : Vec Ideal S1x256x2048 .bf16) (ix3 0 r k) = (V m c main_arg3 : S2x1024x2048.Idx → EReal) (ix3 0 ⟨256 * (t.val / 4) + r.val, by have := tlt t; omega⟩ k) := by
  obtain ⟨e0, e1, e2⟩ := index2 t
  show V m c main_arg3 (((cfg0.win 2).blk t).view.emb (ix3 0 r k)) = _
  refine congrArg (V m c main_arg3) (funext fun a => Fin.ext ?_)
  match a with
  | ⟨0, _⟩ => show win0_2.index t (0 : Fin 3) * 1 + 1 * 0 = 0; omega
  | ⟨1, _⟩ => show win0_2.index t (1 : Fin 3) * 256 + 1 * r.val = 256 * (t.val / 4) + r.val; omega
  | ⟨2, _⟩ => show win0_2.index t (2 : Fin 3) * 2048 + 1 * k.val = k.val; omega

/-- The point's queries. -/
theorem qAt_apply (c : Dev nD) (t : Fin cfg0.N) (r : Fin 512) (k : Fin 2048) :
    qAt m c t (ix2 r k) = query (V m c main_arg0) (V m c main_arg1) ⟨512 * t.val + r.val, by have := tlt t; omega⟩ k := by
  have h : ∀ (x : Vec Ideal S512x2048 .bf16) (w : Vec Ideal S2048x2048 .bf16),
      (if t.val = 0 then qFirst x w else k0_pay25 x w) (ix2 r k) = ∑ j : Fin 2048, x (ix2 r j) * w (ix2 j k) := by
    intro x w
    split
    · exact qFirst_apply _ _ r k
    · exact pay25_apply _ _ r k
  refine (h _ _).trans ?_
  exact Finset.sum_congr rfl fun j _ => congrArg₂ (· * ·) (iblk0_apply m c t r j) rfl

/-- What a point leaves in the output's buffer: its rows of the attention. -/
theorem block_apply (c : Dev nD) (t : Fin cfg0.N) (r : Fin 512) (k : Fin 2048) :
    attnBlk (qAt m c t) (iblk m c 1 t) (iblk m c 2 t) (ix2 r k)
      = attend (V m c main_arg0) (V m c main_arg1) (V m c main_arg2) (V m c main_arg3) (ix2 ⟨512 * t.val + r.val, by have := tlt t; omega⟩ k) := by
  have ht := tlt t
  refine (headOut_apply _ _ _ r ⟨k.val % 512, by omega⟩).trans ?_
  have hq : (512 * t.val + r.val) / 2048 = t.val / 4 := by omega
  refine congrArg₂ softK (funext fun m' => congrArg (· * _) (Finset.sum_congr rfl fun d _ => congrArg₂ (· * ·) (qAt_apply m c t r _) ((iblk1_apply m c t m' _).trans ?_))) (funext fun m' => (iblk2_apply m c t m' _).trans ?_)
  · refine congrArg (V m c main_arg2) (funext fun a => Fin.ext ?_)
    match a with
    | ⟨0, _⟩ => rfl
    | ⟨1, _⟩ => show 256 * (t.val / 4) + m'.val = 256 * ((512 * t.val + r.val) / 2048) + m'.val; omega
    | ⟨2, _⟩ => rfl
  · refine congrArg (V m c main_arg3) (funext fun a => Fin.ext ?_)
    match a with
    | ⟨0, _⟩ => rfl
    | ⟨1, _⟩ => show 256 * (t.val / 4) + m'.val = 256 * ((512 * t.val + r.val) / 2048) + m'.val; omega
    | ⟨2, _⟩ => show 512 * (k.val / 512) + k.val % 512 = k.val; omega

/-- What the point writes back is its block of the whole attention. -/
theorem flushed3_eq (c : Dev nD) (t : Fin cfg0.N) :
    (dats m 0 c).flushed 3 t
      = ((cfg0.win 3).blk t).view.read (Elt Ideal) (attend (V m c main_arg0) (V m c main_arg1) (V m c main_arg2) (V m c main_arg3)) := by
  obtain ⟨e0, e1⟩ := index3 t
  refine funext fun (j : S512x2048.Idx) => ?_
  show attnBlk (qAt m c t) (iblk m c 1 t) (iblk m c 2 t) j = attend _ _ _ _ (((cfg0.win 3).blk t).view.emb j)
  have hj : j = ix2 (⟨(j 0).val, (j 0).isLt⟩ : Fin 512) (⟨(j 1).val, (j 1).isLt⟩ : Fin 2048) :=
    funext fun a => Fin.ext (by match a with | ⟨0, _⟩ => rfl | ⟨1, _⟩ => rfl)
  refine (congrArg (attnBlk (qAt m c t) (iblk m c 1 t) (iblk m c 2 t)) hj).trans ((block_apply m c t _ _).trans ?_)
  refine congrArg (attend _ _ _ _) (funext fun a => Fin.ext ?_)
  match a with
  | ⟨0, _⟩ => show 512 * t.val + (j 0).val = win0_3.index t (0 : Fin 2) * 512 + 1 * (j 0).val; omega
  | ⟨1, _⟩ => show (j 1).val = win0_3.index t (1 : Fin 2) * 2048 + 1 * (j 1).val; omega

/-- Every element of the result is in some point's block. -/
theorem covered3 (i : S8192x2048.Idx) : ∃ t : Fin cfg0.N, (cfg0.win 3).flush t = true ∧ i ∈ ((cfg0.win 3).blk t).view.set := by
  have h0 : (i 0).val < 8192 := (i 0).isLt
  have h1 : (i 1).val < 2048 := (i 1).isLt
  have ht : (i 0).val / 512 < cfg0.N := by rw [show cfg0.N = 16 from N_0]; omega
  refine ⟨⟨(i 0).val / 512, ht⟩, flush0_3 _, ?_⟩
  obtain ⟨e0, e1⟩ := index3 ⟨(i 0).val / 512, ht⟩
  have e : i = ((cfg0.win 3).blk ⟨(i 0).val / 512, ht⟩).view.emb (ix2 (⟨(i 0).val % 512, by omega⟩ : Fin 512) (⟨(i 1).val, h1⟩ : Fin 2048) : S512x2048.Idx) := by
    refine funext fun a => Fin.ext ?_
    match a with
    | ⟨0, _⟩ => show (i 0).val = win0_3.index ⟨(i 0).val / 512, ht⟩ (0 : Fin 2) * 512 + 1 * ((i 0).val % 512); rw [e0]; show (i 0).val = (i 0).val / 512 * 512 + 1 * ((i 0).val % 512); omega
    | ⟨1, _⟩ => show (i 1).val = win0_3.index ⟨(i 0).val / 512, ht⟩ (1 : Fin 2) * 2048 + 1 * (i 1).val; rw [e1]; omega
  exact (congrArg (fun x : S8192x2048.Idx => x ∈ ((cfg0.win 3).blk ⟨(i 0).val / 512, ht⟩).view.set) e).mpr (View.emb_mem_set _ _)

/-- The result array after the run. -/
theorem final3 (c : Dev nD) : (dats m 0 c).arrAt 3 cfg0.N
    = attend (m ((c.tc : Thread nD τ).loc main_arg0)) (m ((c.tc : Thread nD τ).loc main_arg1)) (m ((c.tc : Thread nD τ).loc main_arg2)) (m ((c.tc : Thread nD τ).loc main_arg3)) :=
  ((dats m 0 c).arrAt_eq_of_cover 3 (attend (V m c main_arg0) (V m c main_arg1) (V m c main_arg2) (V m c main_arg3)) (fun t _ => flushed3_eq m c t) covered3).trans
    (by rw [V_main_arg0, V_main_arg1, V_main_arg2, V_main_arg3])

end Attn
end
-- ==== Proof.Attn.Ref.lean ====
/- The reference's attention read element by element: queries, scores, their row maximum, exponentials, normalised
   weights, and the weighted values. -/
module

public import proofs.«01_k».proof.Proof.Gen.ReferenceIdeal.Read
public import Idealize.ShloMosaic.Lib.Pointwise
public import Idealize.ShloMosaic.PureOps.Ideal.Laws

@[expose] public section

set_option maxRecDepth 16384

noncomputable section

namespace Attn

open Cert.ReferenceIdeal Cert.ReferenceIdeal.Gen Cert.ReferenceIdeal.Read
open Idealize.ShloMosaic Idealize.ShloMosaic.TcCoe Idealize.ShloMosaic.Tactic

variable (x0 : (⟨S8192x2048, .bf16⟩ : BufTy).Contents (Elt Ideal)) (x1 : (⟨S2x2048x2048, .f32⟩ : BufTy).Contents (Elt Ideal)) (x2 x3 : (⟨S2x1024x2048, .bf16⟩ : BufTy).Contents (Elt Ideal))

/-- A query element: a row of the hidden states times a column of the weight of layer 0. -/
theorem v13_at (b : Fin 4) (s : Fin 2048) (h : Fin 4) (d : Fin 512) :
    val_main_v13 (F := Ideal) x0 x1 (ix4 b s h d)
      = ∑ k : Fin 2048, x0 (ix2 ⟨b.val * 2048 + s.val, by omega⟩ k) * x1 (ix3 0 k ⟨h.val * 512 + d.val, by omega⟩) := by
  pointwise [val_main_v13, val_main_v12, val_main_v11, val_main_v10, val_main_v1, val_main_v0]

/-- A key element. -/
theorem v5_at (b : Fin 4) (m : Fin 256) (h : Fin 4) (d : Fin 512) :
    val_main_v5 (F := Ideal) x2 (ix4 b m h d) = x2 (ix3 0 ⟨b.val * 256 + m.val, by omega⟩ ⟨h.val * 512 + d.val, by omega⟩) := by
  pointwise [val_main_v5, val_main_v4, val_main_v3, val_main_v2]

/-- A value element. -/
theorem v9_at (b : Fin 4) (m : Fin 256) (h : Fin 4) (d : Fin 512) :
    val_main_v9 (F := Ideal) x3 (ix4 b m h d) = x3 (ix3 0 ⟨b.val * 256 + m.val, by omega⟩ ⟨h.val * 512 + d.val, by omega⟩) := by
  pointwise [val_main_v9, val_main_v8, val_main_v7, val_main_v6]

/-- A scaled score. -/
theorem v16_at (b : Fin 4) (h : Fin 4) (s : Fin 2048) (m : Fin 256) :
    val_main_v16 (F := Ideal) x0 x1 x2 (ix4 b h s m)
      = (∑ d : Fin 512, val_main_v13 (F := Ideal) x0 x1 (ix4 b s h d) * val_main_v5 (F := Ideal) x2 (ix4 b m h d)) * Ideal.ofBits .f32 0x3D3504F3#32 := by
  rw [val_main_v16_apply, val_main_v15_apply, val_main_cst_apply, Ideal.mulf_def, Ideal.ofBits_def, val_main_v14_apply]
  refine congrArg (· * _) (Finset.sum_congr rfl fun d _ => congrArg₂ (· * ·) (congrArg _ (funext fun a => ?_)) (congrArg _ (funext fun a => ?_)))
  all_goals match a with
  | ⟨0, _⟩ => rfl
  | ⟨1, _⟩ => rfl
  | ⟨2, _⟩ => rfl
  | ⟨3, _⟩ => rfl

/-- A row's maximum as the reduction takes it. -/
theorem v17_at (b : Fin 4) (h : Fin 4) (s : Fin 2048) :
    val_main_v17 (F := Ideal) x0 x1 x2 (ix3 b h s)
      = Finset.univ.fold max (Ideal.ofBits .f32 0xFF800000#32) fun m : Fin 256 => val_main_v16 (F := Ideal) x0 x1 x2 (ix4 b h s m) := by
  unfold val_main_v17 val_main_cst_0
  generalize val_main_v16 (F := Ideal) x0 x1 x2 = y
  pointwise []

/-- A row's maximum. -/
theorem v19_at (b : Fin 4) (h : Fin 4) (s : Fin 2048) :
    val_main_v19 (F := Ideal) x0 x1 x2 (ix3 b h s)
      = max (Ideal.ofBits .f32 0xFF800000#32) (Finset.univ.fold max (Ideal.ofBits .f32 0xFF800000#32) fun m : Fin 256 => val_main_v16 (F := Ideal) x0 x1 x2 (ix4 b h s m)) := by
  rw [val_main_v19_apply, val_main_v18_apply, val_main_cst_1_apply, Ideal.maximumf_def, Ideal.ofBits_def, v17_at]

/-- A score's exponential, the row's maximum taken off. -/
theorem v23_at (b : Fin 4) (h : Fin 4) (s : Fin 2048) (m : Fin 256) :
    val_main_v23 (F := Ideal) x0 x1 x2 (ix4 b h s m)
      = Ideal.exp (val_main_v16 (F := Ideal) x0 x1 x2 (ix4 b h s m) - val_main_v19 (F := Ideal) x0 x1 x2 (ix3 b h s)) := by
  pointwise [val_main_v23, val_main_v22, val_main_v21, val_main_v20]

/-- A row's sum of exponentials. -/
theorem v24_at (b : Fin 4) (h : Fin 4) (s : Fin 2048) :
    val_main_v24 (F := Ideal) x0 x1 x2 (ix3 b h s) = ∑ m : Fin 256, val_main_v23 (F := Ideal) x0 x1 x2 (ix4 b h s m) := by
  pointwise [val_main_v24, val_main_cst_2]

/-- A normalised weight. -/
theorem v27_at (b : Fin 4) (h : Fin 4) (s : Fin 2048) (m : Fin 256) :
    val_main_v27 (F := Ideal) x0 x1 x2 (ix4 b h s m)
      = Ideal.div (val_main_v23 (F := Ideal) x0 x1 x2 (ix4 b h s m)) (val_main_v24 (F := Ideal) x0 x1 x2 (ix3 b h s)) := by
  pointwise [val_main_v27, val_main_v26, val_main_v25]

/-- The values weighted. -/
theorem v28_at (b : Fin 4) (h : Fin 4) (d : Fin 512) (s : Fin 2048) :
    val_main_v28 (F := Ideal) x0 x1 x2 x3 (ix4 b h d s)
      = ∑ m : Fin 256, val_main_v9 (F := Ideal) x3 (ix4 b m h d) * val_main_v27 (F := Ideal) x0 x1 x2 (ix4 b h s m) := by
  rw [val_main_v28_apply]
  refine Finset.sum_congr rfl fun d _ => congrArg₂ (· * ·) (congrArg _ (funext fun a => ?_)) (congrArg _ (funext fun a => ?_))
  all_goals match a with
  | ⟨0, _⟩ => rfl
  | ⟨1, _⟩ => rfl
  | ⟨2, _⟩ => rfl
  | ⟨3, _⟩ => rfl

/-- The result at a row and a column. -/
theorem v31_at (r : Fin 8192) (c : Fin 2048) :
    val_main_v31 (F := Ideal) x0 x1 x2 x3 (ix2 r c)
      = val_main_v28 (F := Ideal) x0 x1 x2 x3 (ix4 ⟨r.val / 2048, by omega⟩ ⟨c.val / 512, by omega⟩ ⟨c.val % 512, by omega⟩ ⟨r.val % 2048, by omega⟩) := by
  rw [val_main_v31_apply, val_main_v30_apply, val_main_v29_apply]
  refine congrArg (val_main_v28 (F := Ideal) x0 x1 x2 x3) (funext fun a => Fin.ext ?_)
  match a with
  | ⟨0, _⟩ => show (r.val * 2048 + c.val) / 4194304 = r.val / 2048; omega
  | ⟨1, _⟩ => show (r.val * 2048 + c.val) / 512 % 4 = c.val / 512; omega
  | ⟨2, _⟩ => show (r.val * 2048 + c.val) % 512 = c.val % 512; omega
  | ⟨3, _⟩ => show (r.val * 2048 + c.val) / 2048 % 2048 = r.val % 2048; omega

end Attn
end
-- ==== Proof.Attn.Algebra.lean ====
/- The reference's attention is the kernel's, where the scores are real: the arguments' finiteness makes them so. -/
module

public import proofs.«01_k».proof.Proof.Attn.Value
public import proofs.«01_k».proof.Proof.Attn.Ref
public import proofs.«01_k».proof.Pre_finite

@[expose] public section

set_option maxRecDepth 16384

noncomputable section

namespace Attn

open Idealize.ShloMosaic Idealize.ShloMosaic.TcCoe Idealize.ShloMosaic.Tactic
open Cert.ReferenceIdeal.Read

variable (H : (⟨2, ![8192, 2048]⟩ : Shape).Idx → EReal) (W : (⟨3, ![2, 2048, 2048]⟩ : Shape).Idx → EReal) (K V : (⟨3, ![2, 1024, 2048]⟩ : Shape).Idx → EReal)

/-- The precondition's facts hold. -/
theorem preFacts : Cert.Pre_finite.Facts := by
  constructor <;> first | decide | exact fun a => a.elim0

/-- An absolute value below +∞'s word is a real number's. -/
theorem isReal_of_lt (x : EReal) (h : BitVec.ofBool (decide (FloatOps.absf (F := Ideal) (φ := .f32) x < Ideal.ofBits .f32 0x7F800000#32)) = 1#1) : IsReal x := by
  have hw : Ideal.ofBits .f32 0x7F800000#32 = ⊤ := by simp [Ideal.ofBits, Ideal.ieee]
  have hd : FloatOps.absf (F := Ideal) (φ := .f32) x < ⊤ := by
    rw [hw] at h
    by_contra hc
    rw [decide_eq_false hc] at h
    exact absurd h (by decide)
  refine IsReal.of_ne ?_ ?_
  · rintro rfl; exact absurd hd (by simp [Ideal.absf_def])
  · rintro rfl; exact absurd hd (by simp [Ideal.absf_def])

/-- The precondition's array of ones says that the hidden rows, and layer 0's weight and keys, are real. -/
theorem pre_real [hP : Cert.Pre_finite.Facts] (h : Cert.Pre_finite.fn (F := Ideal) H W K V = fun _ => 1#1) :
    (∀ r c, IsReal (H (ix2 r c))) ∧ (∀ r c, IsReal (W (ix3 0 r c))) ∧ (∀ r c, IsReal (K (ix3 0 r c))) := by
  refine ⟨fun r c => ?_, fun r c => ?_, fun r c => ?_⟩
  · have := congrFun h (ix2 ⟨r.val, by omega⟩ c)
    pointwise [Cert.Pre_finite.fn] at this
    exact isReal_of_lt _ this
  · have := congrFun h (ix2 ⟨8192 + r.val, by omega⟩ c)
    pointwise [Cert.Pre_finite.fn] at this
    exact isReal_of_lt _ this
  · have := congrFun h (ix2 ⟨8192 + (2048 + r.val), by omega⟩ c)
    pointwise [Cert.Pre_finite.fn] at this
    exact isReal_of_lt _ this

/-- The reference's scaled score is the kernel's. -/
theorem v16_score (r : Fin 8192) (h : Fin 4) (m : Fin 256) :
    val_main_v16 (F := Ideal) H W K (ix4 ⟨r.val / 2048, by omega⟩ h ⟨r.val % 2048, by omega⟩ m) = score H W K r h m := by
  rw [v16_at]
  refine congrArg (· * _) (Finset.sum_congr rfl fun d _ => ?_)
  rw [v13_at, v5_at]
  refine congrArg₂ (· * ·) (Finset.sum_congr rfl fun k _ => congrArg₂ (· * ·) (congrArg H (funext fun a => Fin.ext ?_)) (congrArg W (funext fun a => Fin.ext ?_))) (congrArg K (funext fun a => Fin.ext ?_))
  · match a with
    | ⟨0, _⟩ => show r.val / 2048 * 2048 + r.val % 2048 = r.val; omega
    | ⟨1, _⟩ => rfl
  · match a with
    | ⟨0, _⟩ => rfl
    | ⟨1, _⟩ => rfl
    | ⟨2, _⟩ => show h.val * 512 + d.val = 512 * h.val + d.val; omega
  · match a with
    | ⟨0, _⟩ => rfl
    | ⟨1, _⟩ => show r.val / 2048 * 256 + m.val = 256 * (r.val / 2048) + m.val; omega
    | ⟨2, _⟩ => show h.val * 512 + d.val = 512 * h.val + d.val; omega

/-- The reference's result is the kernel's function, the arguments being real. -/
theorem ref_attend (hH : ∀ r c, IsReal (H (ix2 r c))) (hW : ∀ r c, IsReal (W (ix3 0 r c))) (hK : ∀ r c, IsReal (K (ix3 0 r c))) :
    val_main_v31 (F := Ideal) H W K V = attend H W K V := by
  refine funext fun (i : (⟨2, ![8192, 2048]⟩ : Shape).Idx) => ?_
  have h0 : (i 0).val < 8192 := (i 0).isLt
  have h1 : (i 1).val < 2048 := (i 1).isLt
  have hi : i = ix2 (⟨(i 0).val, h0⟩ : Fin 8192) (⟨(i 1).val, h1⟩ : Fin 2048) :=
    funext fun a => Fin.ext (by match a with | ⟨0, _⟩ => rfl | ⟨1, _⟩ => rfl)
  refine (congrArg (val_main_v31 (F := Ideal) H W K V) hi).trans ?_
  rw [v31_at, v28_at]
  refine Eq.trans ?_ (softK_eq_softR _ _ fun m => ?_).symm
  · unfold softR
    refine Finset.sum_congr rfl fun m _ => congrArg₂ (· * ·) ?_ ?_
    · rw [v9_at]
      refine congrArg V (funext fun a => Fin.ext ?_)
      match a with
      | ⟨0, _⟩ => rfl
      | ⟨1, _⟩ => show (i 0).val / 2048 * 256 + m.val = 256 * ((i 0).val / 2048) + m.val; omega
      | ⟨2, _⟩ => show (i 1).val / 512 * 512 + (i 1).val % 512 = (i 1).val; omega
    · rw [v27_at, v24_at]
      simp only [v23_at, v19_at, v16_score H W K ⟨(i 0).val, h0⟩]
  · refine (IsReal.sum _ _ fun d => (IsReal.sum _ _ fun k => (hH _ _).mul (hW _ _)).mul (hK _ _)).mul ?_
    exact ⟨_, rfl⟩

end Attn
end
-- ==== Proof.Ffn.Kit.lean ====
/- The set-up the feed-forward call's hand proof at the ideal elements is stated over: the windows' blocks, the
   closed forms of the body's two conditions, the staging and scratch memrefs, the invariant listed. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-! ## The body's branch conditions -/

/-- The condition of the body's first branch, from the grid coordinates. -/
abbrev cond0_0 (i : grid0.Coords) : Prop := k0_cond1 i = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The condition of the body's last branch, from the grid coordinates. -/
abbrev cond0_1 (i : grid0.Coords) : Prop := k0_cond2 i = 1#1
/-- It holds at the last point only. -/
theorem hcond0_1 : ∀ t : Fin cfg0.N, cond0_1 (grid0.coords t) ↔ t.val = 7 :=
  (by decide +kernel : ∀ t : Fin grid0.N, cond0_1 (grid0.coords t) ↔ t.val = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S2x2048x512 .bf16 := Memref.whole cc0_scratch0
abbrev scM0_1 : Memref sig .tc .vmem S2x512x2048 .bf16 := Memref.whole cc0_scratch1
abbrev scM0_4 : Memref sig .tc .vmem S1024x2048 .f32 := Memref.whole cc0_scratch4
/-- The operands left in HBM that the body copies into scratch itself, whole. -/
abbrev hbM0_1 : Memref sig .tc .hbm S16x2048x512 .bf16 := Memref.whole main_arg1
abbrev hbM0_2 : Memref sig .tc .hbm S8192x2048 .bf16 := Memref.whole main_arg2
abbrev hbM0_3 : Memref sig .tc .hbm S8192x2048 .f32 := Memref.whole main_arg3
/-- Memref `M`'s buffer on core `c`: its contents type, and it held whole at `f` with share `q`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool). -/
abbrev osem0 : Fin 5 → SemLoc sig := fun j => (![SemLoc.dma 5, SemLoc.dma 6, SemLoc.dma 7, SemLoc.dma 8, SemLoc.dma 9] : Fin 5 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2, 3, 4] (by decide) (by decide)]; rfl
/-- The HBM operands the body moves, as references. -/
def H0 : Finset (Ref sig .tc) := {main_arg1, main_arg2, main_arg3}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_1 (V m c main_arg1) ∗ hbPt0 c hbM0_2 (V m c main_arg2) ∗ hbPt0 c hbM0_3 (V m c main_arg3)) := by
  rw [BI.bigSep_eq_bigSepL_of_eq [main_arg1, main_arg2, main_arg3] (by decide) (by decide)]; rfl

/-- The invariant of a body with transfers of its own, `Pipeline.ΦD`, conjunct by conjunct: the scratch operands owned at
    some contents, the generator register at some state, the own cells at zero, the HBM operands at their launch
    contents. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_4 fullShare d)) ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) ∗ iprop(hbPt0 c hbM0_1 (V m c main_arg1) ∗ hbPt0 c hbM0_2 (V m c main_arg2) ∗ hbPt0 c hbM0_3 (V m c main_arg3))) := by
  rw [Pipeline.ΦD_eq, scopedRest0_eq, ownSems00_eq, hbmPts0_eq]; simp only [scM0_0, scM0_1, scM0_4, owns_whole]; try rfl

end Ffn

end
-- ==== Proof.Ffn.State.lean ====
module

public import proofs.«01_k».proof.Proof.Ffn.Kit
public import Idealize.ShloMosaic.Lib.Pointwise
public import Idealize.ShloMosaic.Lib.WholeRead
public import Idealize.ShloMosaic.Lib.Pipeline.Value
public import Idealize.ShloMosaic.Lib.Exec.Geometry

@[expose] public section

set_option maxRecDepth 16384

noncomputable section

namespace Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two slots of each weight's scratch -/

/-- The rectangles of the two slots of the scratch the up weight's chunks land in, and those slots as memrefs of one chunk. -/
abbrev uR0 : Rect S2x2048x512 := Rect.unit (s := S2x2048x512) ![0, 0, 0] S1x2048x512.size inb_S2x2048x512_S1x2048x512_0_0_0
abbrev uR1 : Rect S2x2048x512 := Rect.unit (s := S2x2048x512) ![1, 0, 0] S1x2048x512.size inb_S2x2048x512_S1x2048x512_1_0_0
abbrev uSlot0 (M : Memref sig .tc .vmem S2x2048x512 .bf16) : Memref sig .tc .vmem S2048x512 .bf16 :=
  (M.slice (Rect.unit (s := S2x2048x512) ![0, 0, 0] S1x2048x512.size inb_S2x2048x512_S1x2048x512_0_0_0) (fun _ => rfl)).squeeze S2048x512 squeezes_S1x2048x512_S2048x512
abbrev uSlot1 (M : Memref sig .tc .vmem S2x2048x512 .bf16) : Memref sig .tc .vmem S2048x512 .bf16 :=
  (M.slice (Rect.unit (s := S2x2048x512) ![1, 0, 0] S1x2048x512.size inb_S2x2048x512_S1x2048x512_1_0_0) (fun _ => rfl)).squeeze S2048x512 squeezes_S1x2048x512_S2048x512
/-- The same of the scratch the down weight's chunks land in. -/
abbrev dR0 : Rect S2x512x2048 := Rect.unit (s := S2x512x2048) ![0, 0, 0] S1x512x2048.size inb_S2x512x2048_S1x512x2048_0_0_0
abbrev dR1 : Rect S2x512x2048 := Rect.unit (s := S2x512x2048) ![1, 0, 0] S1x512x2048.size inb_S2x512x2048_S1x512x2048_1_0_0
abbrev dSlot0 (M : Memref sig .tc .vmem S2x512x2048 .bf16) : Memref sig .tc .vmem S512x2048 .bf16 :=
  (M.slice (Rect.unit (s := S2x512x2048) ![0, 0, 0] S1x512x2048.size inb_S2x512x2048_S1x512x2048_0_0_0) (fun _ => rfl)).squeeze S512x2048 squeezes_S1x512x2048_S512x2048
abbrev dSlot1 (M : Memref sig .tc .vmem S2x512x2048 .bf16) : Memref sig .tc .vmem S512x2048 .bf16 :=
  (M.slice (Rect.unit (s := S2x512x2048) ![1, 0, 0] S1x512x2048.size inb_S2x512x2048_S1x512x2048_1_0_0) (fun _ => rfl)).squeeze S512x2048 squeezes_S1x512x2048_S512x2048

/-! ## The chunks -/

/-- Chunk `k` of the up weight and of the down weight, as a load of a slot holding it returns it. -/
def uLd (w : Vec F S16x2048x512 .bf16) (k : ℕ) : Vec F S1x2048x512 .bf16 :=
  fun j => w (ix3 (⟨k % 16, Nat.mod_lt _ (by decide)⟩ : Fin 16) (j 1 : Fin 2048) (j 2 : Fin 512))
def dLd (w : Vec F S8192x2048 .bf16) (k : ℕ) : Vec F S1x512x2048 .bf16 :=
  fun j => w (ix2 (⟨512 * (k % 16) + (j 1).val, by have h := Nat.mod_lt k (show 0 < 16 by decide); have := (show (j 1).val < 512 from (j 1).isLt); omega⟩ : Fin 8192) (j 2 : Fin 2048))

/-! ## The states of a slot -/

/-- A copy of a chunk on its way into a slot: what the core holds of it until it waits. `I` is the part of the weight lent
    to the copy, at the share `q`; what the slot will hold satisfies `P`. -/
def Fly (c : Dev nD) (sm : SemLoc sig) {s s' : Shape} {e e' : EltTy} (dst : Memref sig .tc .vmem s e) (src : Memref sig .tc .hbm s' e')
    (q : PosShare TreeShare) (w : HbBuf0 (F := F) c src) (P : HbBuf0 (F := F) c dst → Prop) : sProp 𝕄 :=
  iprop(∃ (g : HbBuf0 (F := F) c dst) (I : Finset (Idx (src.view.loc (c : Thread nD τ)))), ⌜P g⌝
    ∗ Transfers.Flight countersEmb (c : Thread nD τ) sm default 65536
        iprop((dst.view.loc (c : Thread nD τ) ↦[dst.view.set]{fullShare} g) ∗ (src.view.loc (c : Thread nD τ) ↦[I]{q} w))
    ∗ (src.view.loc (c : Thread nD τ) ↦[Finset.univ \ I]{q} w))

/-- A slot with no copy on its way: it holds contents that satisfy `P`, its counter is at zero, the weight's share is whole. -/
def Held (c : Dev nD) (sm : SemLoc sig) {s s' : Shape} {e e' : EltTy} (dst : Memref sig .tc .vmem s e) (src : Memref sig .tc .hbm s' e')
    (q : PosShare TreeShare) (w : HbBuf0 (F := F) c src) (P : HbBuf0 (F := F) c dst → Prop) : sProp 𝕄 :=
  iprop((∃ g : HbBuf0 (F := F) c dst, ⌜P g⌝ ∗ (dst.view.loc (c : Thread nD τ) ↦[dst.view.set]{fullShare} g))
    ∗ semVal ((c : Thread nD τ), sm) 0 ∗ (src.view.loc (c : Thread nD τ) ↦{q} w))

/-- Contents of the scratch whose slot holds chunk `k`. -/
abbrev UP0 (c : Dev nD) (M : Memref sig .tc .vmem S2x2048x512 .bf16) (w : HbBuf0 (F := F) c hbM0_1) (k : ℕ) (g : HbBuf0 (F := F) c M) : Prop :=
  M.view.readAt (Elt F) uR0.toLoadRect g = uLd w k
abbrev UP1 (c : Dev nD) (M : Memref sig .tc .vmem S2x2048x512 .bf16) (w : HbBuf0 (F := F) c hbM0_1) (k : ℕ) (g : HbBuf0 (F := F) c M) : Prop :=
  M.view.readAt (Elt F) uR1.toLoadRect g = uLd w k
abbrev DP0 (c : Dev nD) (M : Memref sig .tc .vmem S2x512x2048 .bf16) (w : HbBuf0 (F := F) c hbM0_2) (k : ℕ) (g : HbBuf0 (F := F) c M) : Prop :=
  M.view.readAt (Elt F) dR0.toLoadRect g = dLd w k
abbrev DP1 (c : Dev nD) (M : Memref sig .tc .vmem S2x512x2048 .bf16) (w : HbBuf0 (F := F) c hbM0_2) (k : ℕ) (g : HbBuf0 (F := F) c M) : Prop :=
  M.view.readAt (Elt F) dR1.toLoadRect g = dLd w k

/-- The residual's rows on their way into the result's buffer `M`, and what that buffer will hold. -/
def FlyX (c : Dev nD) (M : Memref sig .tc .vmem S1024x2048 .f32) (w : HbBuf0 (F := F) c hbM0_3) (x : Vec F S1024x2048 .f32) : sProp 𝕄 :=
  iprop(∃ (g : HbBuf0 (F := F) c M) (I : Finset (Idx (hbM0_3.view.loc (c : Thread nD τ)))), ⌜View.read (Elt F) M.view g = x⌝
    ∗ Transfers.Flight countersEmb (c : Thread nD τ) (SemLoc.dma 9) default 262144
        iprop((M.view.loc (c : Thread nD τ) ↦[M.view.set]{fullShare} g) ∗ (hbM0_3.view.loc (c : Thread nD τ) ↦[I]{fullShare} w))
    ∗ (hbM0_3.view.loc (c : Thread nD τ) ↦[Finset.univ \ I]{fullShare} w))

/-- Chunk `k` on its way into slot 0 or 1 of the up or of the down weight's scratch. -/
abbrev UF0 (c : Dev nD) (M : Memref sig .tc .vmem S2x2048x512 .bf16) (q : PosShare TreeShare) (w : HbBuf0 (F := F) c hbM0_1) (k : ℕ) : sProp 𝕄 :=
  Fly c (SemLoc.dma 5) (uSlot0 M) hbM0_1 q w (UP0 c M w k)
abbrev UF1 (c : Dev nD) (M : Memref sig .tc .vmem S2x2048x512 .bf16) (q : PosShare TreeShare) (w : HbBuf0 (F := F) c hbM0_1) (k : ℕ) : sProp 𝕄 :=
  Fly c (SemLoc.dma 6) (uSlot1 M) hbM0_1 q w (UP1 c M w k)
abbrev DF0 (c : Dev nD) (M : Memref sig .tc .vmem S2x512x2048 .bf16) (q : PosShare TreeShare) (w : HbBuf0 (F := F) c hbM0_2) (k : ℕ) : sProp 𝕄 :=
  Fly c (SemLoc.dma 7) (dSlot0 M) hbM0_2 q w (DP0 c M w k)
abbrev DF1 (c : Dev nD) (M : Memref sig .tc .vmem S2x512x2048 .bf16) (q : PosShare TreeShare) (w : HbBuf0 (F := F) c hbM0_2) (k : ℕ) : sProp 𝕄 :=
  Fly c (SemLoc.dma 8) (dSlot1 M) hbM0_2 q w (DP1 c M w k)

/-- The slot at rest, holding contents that satisfy `P`. -/
abbrev UH0 (c : Dev nD) (M : Memref sig .tc .vmem S2x2048x512 .bf16) (q : PosShare TreeShare) (w : HbBuf0 (F := F) c hbM0_1) (P : HbBuf0 (F := F) c M → Prop) : sProp 𝕄 :=
  Held c (SemLoc.dma 5) (uSlot0 M) hbM0_1 q w P
abbrev UH1 (c : Dev nD) (M : Memref sig .tc .vmem S2x2048x512 .bf16) (q : PosShare TreeShare) (w : HbBuf0 (F := F) c hbM0_1) (P : HbBuf0 (F := F) c M → Prop) : sProp 𝕄 :=
  Held c (SemLoc.dma 6) (uSlot1 M) hbM0_1 q w P
abbrev DH0 (c : Dev nD) (M : Memref sig .tc .vmem S2x512x2048 .bf16) (q : PosShare TreeShare) (w : HbBuf0 (F := F) c hbM0_2) (P : HbBuf0 (F := F) c M → Prop) : sProp 𝕄 :=
  Held c (SemLoc.dma 7) (dSlot0 M) hbM0_2 q w P
abbrev DH1 (c : Dev nD) (M : Memref sig .tc .vmem S2x512x2048 .bf16) (q : PosShare TreeShare) (w : HbBuf0 (F := F) c hbM0_2) (P : HbBuf0 (F := F) c M → Prop) : sProp 𝕄 :=
  Held c (SemLoc.dma 8) (dSlot1 M) hbM0_2 q w P

/-! ## What the copies bring -/

/-- A slot filled by a copy, loaded through the scratch. -/
theorem slot_loadU (M : Memref sig .tc .vmem S2x2048x512 .bf16) (r : Rect S2x2048x512) (hr : ∀ a, r.stride a = 1) (hq : r.shape.Squeezes S2048x512) (hc : r.shape.ShapeCasts S2048x512)
    (f : M.view.ty.Contents (Elt F)) (d : S2048x512.Idx → Elt F .bf16) (j : r.shape.Idx) (i : S2048x512.Idx)
    (hji : (r.shape.rowMajor j).val = (S2048x512.rowMajor i).val) :
    M.view.readAt (Elt F) r.toLoadRect (((M.slice r hr).squeeze S2048x512 hq).view.writes (Elt F) f [⟨Rect.whole S2048x512, d⟩]) j = d i := by
  have h := congrFun (Memref.read_squeeze_slice (Val := Elt F) M r hr hq hc (((M.slice r hr).squeeze S2048x512 hq).view.writes (Elt F) f [⟨Rect.whole S2048x512, d⟩])) i
  rw [View.read_writes_whole, shapeCast_apply _ hc i j hji] at h
  exact h.symm

/-- The same of the down weight's scratch. -/
theorem slot_loadD (M : Memref sig .tc .vmem S2x512x2048 .bf16) (r : Rect S2x512x2048) (hr : ∀ a, r.stride a = 1) (hq : r.shape.Squeezes S512x2048) (hc : r.shape.ShapeCasts S512x2048)
    (f : M.view.ty.Contents (Elt F)) (d : S512x2048.Idx → Elt F .bf16) (j : r.shape.Idx) (i : S512x2048.Idx)
    (hji : (r.shape.rowMajor j).val = (S512x2048.rowMajor i).val) :
    M.view.readAt (Elt F) r.toLoadRect (((M.slice r hr).squeeze S512x2048 hq).view.writes (Elt F) f [⟨Rect.whole S512x2048, d⟩]) j = d i := by
  have h := congrFun (Memref.read_squeeze_slice (Val := Elt F) M r hr hq hc (((M.slice r hr).squeeze S512x2048 hq).view.writes (Elt F) f [⟨Rect.whole S512x2048, d⟩])) i
  rw [View.read_writes_whole, shapeCast_apply _ hc i j hji] at h
  exact h.symm

/-- A copy of chunk `k` of the up weight leaves in a slot what a load of the slot reads as that chunk. -/
theorem up_of (c : Dev nD) (M : Memref sig .tc .vmem S2x2048x512 .bf16) (s : ℕ) (ib : ∀ a, (![s, 0, 0] : Fin 3 → ℕ) a + S1x2048x512.size a ≤ S2x2048x512.size a)
    (hr) (hq : S1x2048x512.Squeezes S2048x512) (off : Fin 3 → ℕ) (k : ℕ) (hk : k < 16) (hoff : off = ![k, 0, 0])
    (inb : ∀ a, off a + S1x2048x512.size a ≤ S16x2048x512.size a) (hr') (hq' : S1x2048x512.Squeezes S2048x512)
    (w : HbBuf0 (F := F) c hbM0_1) (f : HbBuf0 (F := F) c M) :
    M.view.readAt (Elt F) (Rect.unit (s := S2x2048x512) ![s, 0, 0] S1x2048x512.size ib).toLoadRect
      (((M.slice (Rect.unit (s := S2x2048x512) ![s, 0, 0] S1x2048x512.size ib) hr).squeeze S2048x512 hq).view.writes (Elt F) f
        [⟨Rect.whole S2048x512, ReadAs.same.apply (View.read (Elt F) ((hbM0_1.slice (Rect.unit (s := S16x2048x512) off S1x2048x512.size inb) hr').squeeze S2048x512 hq').view w)⟩])
      = uLd w k := by
  subst hoff
  funext j
  have h0 : (j 0).val < 1 := (j 0).isLt
  refine (slot_loadU M _ hr hq shapeCasts_S1x2048x512_S2048x512 f _ j (ix2 (j 1 : Fin 2048) (j 2 : Fin 512)) ?_).trans ?_
  · rw [Shape.rowMajor_val_two, Shape.rowMajor_val_three]
    show ((j 0).val * 2048 + (j 1).val) * 512 + (j 2).val = (j 1).val * 512 + (j 2).val
    omega
  refine (congrFun (Memref.read_squeeze_slice _ _ hr' hq' shapeCasts_S1x2048x512_S2048x512 _) _).trans ?_
  refine (shapeCast_apply _ _ _ (ix3 (0 : Fin 1) (j 1 : Fin 2048) (j 2 : Fin 512)) ?_).trans ?_
  · rw [Shape.rowMajor_val_two, Shape.rowMajor_val_three]
    show (0 * 2048 + (j 1).val) * 512 + (j 2).val = (j 1).val * 512 + (j 2).val
    omega
  refine congrArg (w : S16x2048x512.Idx → Elt F .bf16) (funext fun a => Fin.ext ?_)
  match a with
  | ⟨0, _⟩ => show k + 1 * 0 = k % 16; omega
  | ⟨1, _⟩ => show 0 + 1 * (j 1).val = (j 1).val; omega
  | ⟨2, _⟩ => show 0 + 1 * (j 2).val = (j 2).val; omega

/-- The same of the down weight: chunk `k` is its rows from `512 * k`. -/
theorem down_of (c : Dev nD) (M : Memref sig .tc .vmem S2x512x2048 .bf16) (s : ℕ) (ib : ∀ a, (![s, 0, 0] : Fin 3 → ℕ) a + S1x512x2048.size a ≤ S2x512x2048.size a)
    (hr) (hq : S1x512x2048.Squeezes S512x2048) (off : Fin 2 → ℕ) (k : ℕ) (hk : k < 16) (hoff : off = ![512 * k, 0])
    (inb : ∀ a, off a + S512x2048.size a ≤ S8192x2048.size a) (hr')
    (w : HbBuf0 (F := F) c hbM0_2) (f : HbBuf0 (F := F) c M) :
    M.view.readAt (Elt F) (Rect.unit (s := S2x512x2048) ![s, 0, 0] S1x512x2048.size ib).toLoadRect
      (((M.slice (Rect.unit (s := S2x512x2048) ![s, 0, 0] S1x512x2048.size ib) hr).squeeze S512x2048 hq).view.writes (Elt F) f
        [⟨Rect.whole S512x2048, ReadAs.same.apply (View.read (Elt F) (hbM0_2.slice (Rect.unit (s := S8192x2048) off S512x2048.size inb) hr').view w)⟩])
      = dLd w k := by
  subst hoff
  funext j
  have h0 : (j 0).val < 1 := (j 0).isLt
  refine (slot_loadD M _ hr hq shapeCasts_S1x512x2048_S512x2048 f _ j (ix2 (j 1 : Fin 512) (j 2 : Fin 2048)) ?_).trans ?_
  · rw [Shape.rowMajor_val_two, Shape.rowMajor_val_three]
    show ((j 0).val * 512 + (j 1).val) * 2048 + (j 2).val = (j 1).val * 2048 + (j 2).val
    omega
  refine congrArg (w : S8192x2048.Idx → Elt F .bf16) (funext fun a => Fin.ext ?_)
  match a with
  | ⟨0, _⟩ => show 512 * k + 1 * (j 1).val = 512 * (k % 16) + (j 1).val; rw [Nat.mod_eq_of_lt hk]; omega
  | ⟨1, _⟩ => show 0 + 1 * (j 2).val = (j 2).val; omega

/-- The offsets of the chunks the loop copies. -/
theorem off2_eq : ∀ t : Fin k0_t1_loop.trips, k0_off2 t 0#32 = ![2 * t.val + 3, 0, 0] ∧ k0_off2 t 1#32 = ![2 * t.val + 4, 0, 0] := by decide +kernel
theorem off3_eq : ∀ t : Fin k0_t1_loop.trips, k0_off3 t 0#32 = ![512 * (2 * t.val + 3), 0] ∧ k0_off3 t 1#32 = ![512 * (2 * t.val + 4), 0] := by decide +kernel
theorem trips_eq : k0_t1_loop.trips = 6 := by decide +kernel

/-! ## The accumulator and the result -/

/-- A block's hidden chunk through the down weight's chunk, added to the accumulator. -/
def accStep (a : Vec F S1024x2048 .f32) (x : Vec F S1024x2048 .bf16) (u : Vec F S1x2048x512 .bf16) (d : Vec F S1x512x2048 .bf16) : Vec F S1024x2048 .f32 := k0_pay2 a x u d

theorem pay5_eq (a : Vec F S1024x2048 .f32) (x : Vec F S1024x2048 .bf16) (u : Vec F S1x2048x512 .bf16) (d : Vec F S1x512x2048 .bf16) : k0_pay5 a (k0_pay4 x u) d = accStep a x u d := rfl
theorem pay6_eq (a : Vec F S1024x2048 .f32) (x : Vec F S1024x2048 .bf16) (u : Vec F S1x2048x512 .bf16) (d : Vec F S1x512x2048 .bf16) : k0_pay6 a x u d = accStep a x u d := rfl
theorem pay7_eq (a : Vec F S1024x2048 .f32) (x : Vec F S1024x2048 .bf16) (u : Vec F S1x2048x512 .bf16) (d : Vec F S1x512x2048 .bf16) : k0_pay7 a x u d = accStep a x u d := rfl

/-- The accumulator after chunks `0` to `n`. -/
def acc (x : Vec F S1024x2048 .bf16) (w1 : Vec F S16x2048x512 .bf16) (w2 : Vec F S8192x2048 .bf16) : ℕ → Vec F S1024x2048 .f32
  | 0 => k0_pay3 x (uLd w1 0) (dLd w2 0)
  | n + 1 => accStep (acc x w1 w2 n) x (uLd w1 (n + 1)) (dLd w2 (n + 1))

/-- Rows `o` to `o + 255` of a block. -/
def rowsF (a : Vec F S1024x2048 .f32) (o : ℕ) : Vec F S256x2048 .f32 := fun j => a (ix2 (⟨(o + (j 0).val) % 1024, Nat.mod_lt _ (by decide)⟩ : Fin 1024) (j 1 : Fin 2048))
def rowsB (a : Vec F S1024x2048 .bf16) (o : ℕ) : Vec F S256x2048 .bf16 := fun j => a (ix2 (⟨(o + (j 0).val) % 1024, Nat.mod_lt _ (by decide)⟩ : Fin 1024) (j 1 : Fin 2048))

/-- The result's 256 rows from row `o`. -/
def outRows (x : Vec F S1024x2048 .bf16) (w1 : Vec F S16x2048x512 .bf16) (w2 : Vec F S8192x2048 .bf16) (xr : Vec F S1024x2048 .f32) (g : Vec F S1x1x2048 .f32) (o : ℕ) : Vec F S256x2048 .f32 :=
  k0_pay8 (rowsF (acc x w1 w2 14) o) (rowsB x o) (uLd w1 15) (dLd w2 15) (rowsF xr o) g

/-- The result's block. -/
def outBlk (x : Vec F S1024x2048 .bf16) (w1 : Vec F S16x2048x512 .bf16) (w2 : Vec F S8192x2048 .bf16) (xr : Vec F S1024x2048 .f32) (g : Vec F S1x1x2048 .f32) : Vec F S1024x2048 .f32 :=
  fun i => outRows x w1 w2 xr g (256 * ((i 0).val / 256)) (ix2 (⟨(i 0).val % 256, Nat.mod_lt _ (by decide)⟩ : Fin 256) (i 1 : Fin 2048))

theorem pay10_eq (a : Vec F S256x2048 .f32) (x : Vec F S256x2048 .bf16) (u : Vec F S1x2048x512 .bf16) (d : Vec F S1x512x2048 .bf16) (xr : Vec F S256x2048 .f32) (g : Vec F S1x1x2048 .f32) :
    k0_pay10 a (k0_pay9 x u) d xr g = k0_pay8 a x u d xr g := rfl
theorem pay12_eq (a : Vec F S256x2048 .f32) (x : Vec F S256x2048 .bf16) (u : Vec F S1x2048x512 .bf16) (d : Vec F S1x512x2048 .bf16) (xr : Vec F S256x2048 .f32) (g : Vec F S1x1x2048 .f32) :
    k0_pay12 a (k0_pay11 x u) d xr g = k0_pay8 a x u d xr g := rfl
theorem pay1_eq (a : Vec F S256x2048 .f32) (x : Vec F S256x2048 .bf16) (u : Vec F S1x2048x512 .bf16) (d : Vec F S1x512x2048 .bf16) (xr : Vec F S256x2048 .f32) (g : Vec F S1x1x2048 .f32) :
    k0_pay1 a (k0_pay13 x u) (k0_pay14 d) xr g = k0_pay8 a x u d xr g := rfl

/-- The residual's rows a point copies in. -/
def xRows (w : Vec F S8192x2048 .f32) (n : ℕ) : Vec F S1024x2048 .f32 :=
  fun j => w (ix2 (⟨(1024 * n + (j 0).val) % 8192, Nat.mod_lt _ (by decide)⟩ : Fin 8192) (j 1 : Fin 2048))

theorem off1_eq : ∀ t : Fin grid0.N, k0_off1 (grid0.coords t) = ![1024 * t.val, 0] := by decide +kernel

theorem x_read (n : ℕ) (hn : n < 8) (off : Fin 2 → ℕ) (hoff : off = ![1024 * n, 0]) (inb : ∀ a, off a + S1024x2048.size a ≤ S8192x2048.size a) (hr')
    (w : Vec F S8192x2048 .f32) :
    View.read (Elt F) (hbM0_3.slice (Rect.unit (s := S8192x2048) off S1024x2048.size inb) hr').view w = xRows w n := by
  subst hoff
  funext j
  have h0 : (j 0).val < 1024 := (j 0).isLt
  refine congrArg (w : S8192x2048.Idx → Elt F .f32) (funext fun a => Fin.ext ?_)
  match a with
  | ⟨0, _⟩ => show 1024 * n + 1 * (j 0).val = (1024 * n + (j 0).val) % 8192; omega
  | ⟨1, _⟩ => show 0 + 1 * (j 1).val = (j 1).val; omega

/-- A load of a whole memref held at contents that read `x`, at a rectangle. -/
theorem load_ld {sp : Space} {s : Shape} {e : EltTy} {arg : Memref sig .tc sp s e} (harg : arg.IsWhole) (x : s.Idx → Elt F e) (r : Rect s) :
    View.readAt (Elt F) arg.view r.toLoadRect (harg.unread x) = View.ld (Val := Elt F) x r :=
  funext fun j => harg.readAt_unread x _ j

theorem ld_whole (x : Vec F S1024x2048 .f32) : View.ld (Val := Elt F) x (Rect.unit (s := S1024x2048) ![0, 0] S1024x2048.size inb_S1024x2048_S1024x2048_0_0) = x :=
  View.ld_unit_zero (by decide) _ _
theorem ld_whole_b (x : Vec F S1024x2048 .bf16) : View.ld (Val := Elt F) x (Rect.unit (s := S1024x2048) ![0, 0] S1024x2048.size inb_S1024x2048_S1024x2048_0_0) = x :=
  View.ld_unit_zero (by decide) _ _
theorem ld_whole_g (x : Vec F S1x1x2048 .f32) : View.ld (Val := Elt F) x (Rect.unit (s := S1x1x2048) ![0, 0, 0] S1x1x2048.size inb_S1x1x2048_S1x1x2048_0_0_0) = x :=
  View.ld_unit_zero (by decide) _ _
theorem ld_rowsF (x : Vec F S1024x2048 .f32) (o : ℕ) (inb : ∀ a, (![o, 0] : Fin 2 → ℕ) a + S256x2048.size a ≤ S1024x2048.size a) :
    View.ld (Val := Elt F) x (Rect.unit (s := S1024x2048) ![o, 0] S256x2048.size inb) = rowsF x o := by
  funext j
  have h0 : (j 0).val < 256 := (j 0).isLt
  have h1 : o + 256 ≤ 1024 := inb 0
  refine congrArg x (funext fun a => Fin.ext ?_)
  match a with
  | ⟨0, _⟩ => show o + 1 * (j 0).val = (o + (j 0).val) % 1024; omega
  | ⟨1, _⟩ => show 0 + 1 * (j 1).val = (j 1).val; omega
theorem ld_rowsB (x : Vec F S1024x2048 .bf16) (o : ℕ) (inb : ∀ a, (![o, 0] : Fin 2 → ℕ) a + S256x2048.size a ≤ S1024x2048.size a) :
    View.ld (Val := Elt F) x (Rect.unit (s := S1024x2048) ![o, 0] S256x2048.size inb) = rowsB x o := by
  funext j
  have h0 : (j 0).val < 256 := (j 0).isLt
  have h1 : o + 256 ≤ 1024 := inb 0
  refine congrArg x (funext fun a => Fin.ext ?_)
  match a with
  | ⟨0, _⟩ => show o + 1 * (j 0).val = (o + (j 0).val) % 1024; omega
  | ⟨1, _⟩ => show 0 + 1 * (j 1).val = (j 1).val; omega

/-- A block stored whole, whatever it held before. -/
theorem read_store (M : Memref sig .tc .vmem S1024x2048 .f32) (f : M.view.ty.Contents (Elt F)) (w : Vec F S1024x2048 .f32) :
    View.read (Elt F) M.view (M.view.writes (Elt F) f [⟨Rect.unit (s := S1024x2048) ![0, 0] S1024x2048.size inb_S1024x2048_S1024x2048_0_0, w⟩]) = w := by
  refine funext fun y => View.read_writes_apply_of_pieces _ _ w _ ?_ y ?_
  · intro p hp x
    simp only [List.mem_cons, List.not_mem_nil, or_false] at hp
    subst hp
    refine congrArg w (funext fun a => Fin.ext ?_)
    match a with
    | ⟨0, _⟩ => show (x 0).val = 0 + 1 * (x 0).val; omega
    | ⟨1, _⟩ => show (x 1).val = 0 + 1 * (x 1).val; omega
  · refine View.cover_of_tiled (s := S1024x2048) _ S1024x2048.size ?_ y; rfl

/-- The same after earlier stores. -/
theorem read_store' (M : Memref sig .tc .vmem S1024x2048 .f32) (f : M.view.ty.Contents (Elt F)) (w : Vec F S1024x2048 .f32) (L : List (View.Piece (Elt F) S1024x2048 .f32)) :
    View.read (Elt F) M.view (M.view.writes (Elt F) f (⟨Rect.unit (s := S1024x2048) ![0, 0] S1024x2048.size inb_S1024x2048_S1024x2048_0_0, w⟩ :: L)) = w := by
  rw [View.writes_cons]
  have h := read_store M (M.view.writes (Elt F) f L) w
  rw [View.writes_cons, View.writes_nil] at h
  exact h

/-- One step of the accumulator, from what its arguments are. -/
theorem acc_step (x0 : Vec F S1024x2048 .bf16) (w1 : Vec F S16x2048x512 .bf16) (w2 : Vec F S8192x2048 .bf16) (n : ℕ) {a : Vec F S1024x2048 .f32} {x : Vec F S1024x2048 .bf16}
    {u : Vec F S1x2048x512 .bf16} {d : Vec F S1x512x2048 .bf16} (ha : a = acc x0 w1 w2 n) (hx : x = x0) (hu : u = uLd w1 (n + 1)) (hd : d = dLd w2 (n + 1)) :
    k0_pay2 a x u d = acc x0 w1 w2 (n + 1) := by
  subst ha hx hu hd; rfl
theorem acc_step' (x0 : Vec F S1024x2048 .bf16) (w1 : Vec F S16x2048x512 .bf16) (w2 : Vec F S8192x2048 .bf16) (n : ℕ) {a : Vec F S1024x2048 .f32} {x : Vec F S1024x2048 .bf16}
    {u : Vec F S1x2048x512 .bf16} {d : Vec F S1x512x2048 .bf16} (ha : a = acc x0 w1 w2 n) (hx : x = x0) (hu : u = uLd w1 (n + 1)) (hd : d = dLd w2 (n + 1)) :
    k0_pay6 a x u d = acc x0 w1 w2 (n + 1) := by
  subst ha hx hu hd; rfl

/-- Four blocks of 256 rows are the whole result's rows there. -/
theorem outBlk_rows (x : Vec F S1024x2048 .bf16) (w1 : Vec F S16x2048x512 .bf16) (w2 : Vec F S8192x2048 .bf16) (xr : Vec F S1024x2048 .f32) (g : Vec F S1x1x2048 .f32)
    (k : ℕ) (o : ℕ) (ho : o = 256 * k) (inb : ∀ a, (![o, 0] : Fin 2 → ℕ) a + S256x2048.size a ≤ S1024x2048.size a) (y : S256x2048.Idx) :
    outRows x w1 w2 xr g o y = outBlk x w1 w2 xr g ((Rect.unit (s := S1024x2048) ![o, 0] S256x2048.size inb).emb y) := by
  subst ho
  have hy : (y 0).val < 256 := (y 0).isLt
  have h1 : ((((Rect.unit (s := S1024x2048) ![256 * k, 0] S256x2048.size inb).emb y) 0).val) = 256 * k + 1 * (y 0).val := rfl
  unfold outBlk
  dsimp only
  have e1 : 256 * ((((Rect.unit (s := S1024x2048) ![256 * k, 0] S256x2048.size inb).emb y) 0).val / 256) = 256 * k := by rw [h1]; omega
  rw [e1]
  refine congrArg _ (funext fun a => Fin.ext ?_)
  match a with
  | ⟨0, _⟩ => show (y 0).val = (256 * k + 1 * (y 0).val) % 256; omega
  | ⟨1, _⟩ => show (y 1).val = 0 + 1 * (y 1).val; omega

/-- The four stores of 256 rows, whatever the block held before, leave the result's block. -/
theorem out_pieces (M : Memref sig .tc .vmem S1024x2048 .f32) (f : M.view.ty.Contents (Elt F)) (x : Vec F S1024x2048 .bf16) (w1 : Vec F S16x2048x512 .bf16) (w2 : Vec F S8192x2048 .bf16) (xr : Vec F S1024x2048 .f32) (g : Vec F S1x1x2048 .f32) :
    View.read (Elt F) M.view (M.view.writes (Elt F) f
      [⟨Rect.unit (s := S1024x2048) ![768, 0] S256x2048.size inb_S1024x2048_S256x2048_768_0, outRows x w1 w2 xr g 768⟩,
       ⟨Rect.unit (s := S1024x2048) ![512, 0] S256x2048.size inb_S1024x2048_S256x2048_512_0, outRows x w1 w2 xr g 512⟩,
       ⟨Rect.unit (s := S1024x2048) ![256, 0] S256x2048.size inb_S1024x2048_S256x2048_256_0, outRows x w1 w2 xr g 256⟩,
       ⟨Rect.unit (s := S1024x2048) ![0, 0] S256x2048.size inb_S1024x2048_S256x2048_0_0, outRows x w1 w2 xr g 0⟩]) = outBlk x w1 w2 xr g := by
  refine funext fun y => View.read_writes_apply_of_pieces _ _ (outBlk x w1 w2 xr g) _ ?_ y ?_
  · intro p hp z
    simp only [List.mem_cons, List.not_mem_nil, or_false] at hp
    rcases hp with rfl | rfl | rfl | rfl
    · exact outBlk_rows x w1 w2 xr g 3 768 rfl inb_S1024x2048_S256x2048_768_0 z
    · exact outBlk_rows x w1 w2 xr g 2 512 rfl inb_S1024x2048_S256x2048_512_0 z
    · exact outBlk_rows x w1 w2 xr g 1 256 rfl inb_S1024x2048_S256x2048_256_0 z
    · exact outBlk_rows x w1 w2 xr g 0 0 rfl inb_S1024x2048_S256x2048_0_0 z
  · refine View.cover_of_tiled (s := S1024x2048) _ S256x2048.size ?_ y; rfl

end Ffn

end
-- ==== Proof.Ffn.PartA.lean ====
module

public import proofs.«01_k».proof.Proof.Ffn.State

@[expose] public section

set_option maxRecDepth 16384

noncomputable section

namespace Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 400000 in
/-- The first part at the first point: the copies of chunks 0 and 1 and of the residual's rows are issued. -/
theorem part4A (c : Dev nD) (i : grid0.Coords) (arg1 : Memref sig .tc .vmem S1024x2048 .bf16) (harg1 : arg1.IsWhole) (arg2 : Memref sig .tc .vmem S1x1x2048 .f32) (harg2 : arg2.IsWhole) (arg6 : Memref sig .tc .vmem S1024x2048 .f32) (harg6 : arg6.IsWhole) (arg7 : Memref sig .tc .vmem S2x2048x512 .bf16) (harg7 : arg7.IsWhole) (arg8 : Memref sig .tc .vmem S2x512x2048 .bf16) (harg8 : arg8.IsWhole) (arg11 : Memref sig .tc .vmem S1024x2048 .f32) (harg11 : arg11.IsWhole) (q0 q1 : PosShare TreeShare)
    (w1 : HbBuf0 (F := F) c hbM0_1) (w2 : HbBuf0 (F := F) c hbM0_2) (w3 : HbBuf0 (F := F) c hbM0_3) (hc0 : cond0_0 i) (n : ℕ) (hn : n < 8) (hoff : k0_off1 i = ![1024 * n, 0]) :
      ∀ (W : Waits sig Unit) (K : BitVec 32 → sProp 𝕄),
        iprop((∃ d, owns (c : Thread nD τ) arg6 fullShare d)
           ∗ UH0 c arg7 q0 w1 (fun _ => True) ∗ UH1 c arg7 q1 w1 (fun _ => True) ∗ DH0 c arg8 q0 w2 (fun _ => True) ∗ DH1 c arg8 q1 w2 (fun _ => True)
           ∗ semVal ((c : Thread nD τ), SemLoc.dma 9) 0 ∗ (hbM0_3.view.loc (c : Thread nD τ) ↦{fullShare} w3)
           ∗ owes (c : Thread nD τ) 0 W
           ∗ (iprop(UF0 c arg7 q0 w1 0 ∗ UF1 c arg7 q1 w1 1 ∗ DF0 c arg8 q0 w2 0 ∗ DF1 c arg8 q1 w2 1 ∗ FlyX c arg6 w3 (xRows w3 n) ∗ (∃ W', owes (c : Thread nD τ) 0 W')) -∗ K (BitVec.ofNat 32 (i 0).val)))
          ⊢ wp frame (wpE (defs₀ (F := F)) Variants.none c none) Set.univ (k0_part4 i arg1 harg1 arg2 harg2 (Memref.whole main_arg3) (Memref.isWhole_whole _) (Memref.whole main_arg1) (Memref.isWhole_whole _) (Memref.whole main_arg2) (Memref.isWhole_whole _) arg6 harg6 arg7 harg7 arg8 harg8 cc0_scratch2 cc0_scratch3 arg11 harg11) K := by
    intro W K
    rw [k0_part4_eq_skeleton]; unfold k0_part4_skel
    unfold UH0 UH1 DH0 DH1 Held owns
    iintro ⟨⟨%d6, %x6, -, H6⟩, ⟨⟨%g0, -, HU0⟩, Hq5, Hh1⟩, ⟨⟨%g1, -, HU1⟩, Hq6, Hh1b⟩, ⟨⟨%e0, -, HD0⟩, Hq7, Hh2⟩, ⟨⟨%e1, -, HD1⟩, Hq8, Hh2b⟩, Hq9, Hh3, HW, Hk⟩
    sl_exec (disch := first | sl_exact hc0)
    sl_step
    iapply Hk
    sl_unfold_words
    unfold UF0 UF1 DF0 DF1 Fly FlyX
    isplitl [Hq5 Hh1]
    · iexists _, _; isplitr; swap
      · isplitl [Hq5]; · iexact Hq5
        iexact Hh1
      ipureintro; exact up_of c arg7 0 _ _ _ _ 0 (by decide) rfl _ _ _ w1 _
    isplitl [Hq6 Hh1b]
    · iexists _, _; isplitr; swap
      · isplitl [Hq6]; · iexact Hq6
        iexact Hh1b
      ipureintro; exact up_of c arg7 1 _ _ _ _ 1 (by decide) rfl _ _ _ w1 _
    isplitl [Hq7 Hh2]
    · iexists _, _; isplitr; swap
      · isplitl [Hq7]; · iexact Hq7
        iexact Hh2
      ipureintro; exact down_of c arg8 0 _ _ _ _ 0 (by decide) rfl _ _ w2 _
    isplitl [Hq8 Hh2b]
    · iexists _, _; isplitr; swap
      · isplitl [Hq8]; · iexact Hq8
        iexact Hh2b
      ipureintro; exact down_of c arg8 1 _ _ _ _ 1 (by decide) rfl _ _ w2 _
    isplitl [Hq9 Hh3]
    · iexists _, _; isplitr; swap
      · isplitl [Hq9]; · iexact Hq9
        iexact Hh3
      ipureintro; refine (View.read_writes_whole _ _ _).trans ?_; exact x_read n hn _ hoff _ _ w3
    iexists _; iexact HW

set_option maxHeartbeats 400000 in
/-- The first part at a later point: chunk 0 is on its way already. -/
theorem part4B (c : Dev nD) (i : grid0.Coords) (arg1 : Memref sig .tc .vmem S1024x2048 .bf16) (harg1 : arg1.IsWhole) (arg2 : Memref sig .tc .vmem S1x1x2048 .f32) (harg2 : arg2.IsWhole) (arg6 : Memref sig .tc .vmem S1024x2048 .f32) (harg6 : arg6.IsWhole) (arg7 : Memref sig .tc .vmem S2x2048x512 .bf16) (harg7 : arg7.IsWhole) (arg8 : Memref sig .tc .vmem S2x512x2048 .bf16) (harg8 : arg8.IsWhole) (arg11 : Memref sig .tc .vmem S1024x2048 .f32) (harg11 : arg11.IsWhole) (q0 q1 : PosShare TreeShare)
    (w1 : HbBuf0 (F := F) c hbM0_1) (w2 : HbBuf0 (F := F) c hbM0_2) (w3 : HbBuf0 (F := F) c hbM0_3) (hc0 : ¬cond0_0 i) (n : ℕ) (hn : n < 8) (hoff : k0_off1 i = ![1024 * n, 0]) :
      ∀ (W : Waits sig Unit) (K : BitVec 32 → sProp 𝕄),
        iprop((∃ d, owns (c : Thread nD τ) arg6 fullShare d)
           ∗ UF0 c arg7 q0 w1 0 ∗ UH1 c arg7 q1 w1 (fun _ => True) ∗ DF0 c arg8 q0 w2 0 ∗ DH1 c arg8 q1 w2 (fun _ => True)
           ∗ semVal ((c : Thread nD τ), SemLoc.dma 9) 0 ∗ (hbM0_3.view.loc (c : Thread nD τ) ↦{fullShare} w3)
           ∗ owes (c : Thread nD τ) 0 W
           ∗ (iprop(UF0 c arg7 q0 w1 0 ∗ UF1 c arg7 q1 w1 1 ∗ DF0 c arg8 q0 w2 0 ∗ DF1 c arg8 q1 w2 1 ∗ FlyX c arg6 w3 (xRows w3 n) ∗ (∃ W', owes (c : Thread nD τ) 0 W')) -∗ K (BitVec.ofNat 32 (i 0).val)))
          ⊢ wp frame (wpE (defs₀ (F := F)) Variants.none c none) Set.univ (k0_part4 i arg1 harg1 arg2 harg2 (Memref.whole main_arg3) (Memref.isWhole_whole _) (Memref.whole main_arg1) (Memref.isWhole_whole _) (Memref.whole main_arg2) (Memref.isWhole_whole _) arg6 harg6 arg7 harg7 arg8 harg8 cc0_scratch2 cc0_scratch3 arg11 harg11) K := by
    intro W K
    rw [k0_part4_eq_skeleton]; unfold k0_part4_skel
    unfold UH1 DH1 Held owns
    iintro ⟨⟨%d6, %x6, -, H6⟩, HF0, ⟨⟨%g1, -, HU1⟩, Hq6, Hh1b⟩, HG0, ⟨⟨%e1, -, HD1⟩, Hq8, Hh2b⟩, Hq9, Hh3, HW, Hk⟩
    sl_exec (disch := first | sl_exact hc0)
    sl_step
    iapply Hk
    sl_unfold_words
    isplitl [HF0]; · iexact HF0
    unfold UF1 DF1 Fly FlyX
    isplitl [Hq6 Hh1b]
    · iexists _, _; isplitr; swap
      · isplitl [Hq6]; · iexact Hq6
        iexact Hh1b
      ipureintro; exact up_of c arg7 1 _ _ _ _ 1 (by decide) rfl _ _ _ w1 _
    isplitl [HG0]; · iexact HG0
    isplitl [Hq8 Hh2b]
    · iexists _, _; isplitr; swap
      · isplitl [Hq8]; · iexact Hq8
        iexact Hh2b
      ipureintro; exact down_of c arg8 1 _ _ _ _ 1 (by decide) rfl _ _ w2 _
    isplitl [Hq9 Hh3]
    · iexists _, _; isplitr; swap
      · isplitl [Hq9]; · iexact Hq9
        iexact Hh3
      ipureintro; refine (View.read_writes_whole _ _ _).trans ?_; exact x_read n hn _ hoff _ _ w3
    iexists _; iexact HW

end Ffn

end
-- ==== Proof.Ffn.PartB.lean ====
module

public import proofs.«01_k».proof.Proof.Ffn.State

@[expose] public section

set_option maxRecDepth 16384

noncomputable section

namespace Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 400000 in
/-- The second part: chunk 0 is waited for and starts the accumulator; chunk 2 of the up weight is issued. -/
theorem part5_run (c : Dev nD) (i : grid0.Coords) (arg1 : Memref sig .tc .vmem S1024x2048 .bf16) (harg1 : arg1.IsWhole) (arg2 : Memref sig .tc .vmem S1x1x2048 .f32) (harg2 : arg2.IsWhole) (arg6 : Memref sig .tc .vmem S1024x2048 .f32) (harg6 : arg6.IsWhole) (arg7 : Memref sig .tc .vmem S2x2048x512 .bf16) (harg7 : arg7.IsWhole) (arg8 : Memref sig .tc .vmem S2x512x2048 .bf16) (harg8 : arg8.IsWhole) (arg11 : Memref sig .tc .vmem S1024x2048 .f32) (harg11 : arg11.IsWhole) (q0 q1 : PosShare TreeShare)
    (w1 : HbBuf0 (F := F) c hbM0_1) (w2 : HbBuf0 (F := F) c hbM0_2) (x0 : Vec F S1024x2048 .bf16) :
      ∀ (W : Waits sig Unit) (K : PUnit → sProp 𝕄),
        iprop(owns (c : Thread nD τ) arg1 fullShare x0 ∗ (∃ d, owns (c : Thread nD τ) arg11 fullShare d)
           ∗ UF0 c arg7 q0 w1 0 ∗ DF0 c arg8 q0 w2 0
           ∗ owes (c : Thread nD τ) 0 W
           ∗ (iprop(owns (c : Thread nD τ) arg1 fullShare x0 ∗ owns (c : Thread nD τ) arg11 fullShare (acc x0 w1 w2 0) ∗ UF0 c arg7 q0 w1 2 ∗ DH0 c arg8 q0 w2 (fun _ => True) ∗ (∃ W', owes (c : Thread nD τ) 0 W')) -∗ K ⟨⟩))
          ⊢ wp frame (wpE (defs₀ (F := F)) Variants.none c none) Set.univ (k0_part5 i arg1 harg1 arg2 harg2 (Memref.whole main_arg3) (Memref.isWhole_whole _) (Memref.whole main_arg1) (Memref.isWhole_whole _) (Memref.whole main_arg2) (Memref.isWhole_whole _) arg6 harg6 arg7 harg7 arg8 harg8 cc0_scratch2 cc0_scratch3 arg11 harg11) K := by
    intro W K
    rw [k0_part5_eq_skeleton]; unfold k0_part5_skel
    unfold UF0 DF0 DH0 Fly Held owns
    iintro ⟨⟨%f1, %hf1, H1⟩, ⟨%d11, %f11, -, H11⟩, ⟨%g0, %I0, %hg0, Hq5, Hh1⟩, ⟨%e0, %J0, %he0, Hq7, Hh2⟩, HW, Hk⟩
    obtain rfl := harg1.eq_unread hf1
    sl_exec
    sl_step
    iapply Hk
    sl_unfold_words
    isplitl [H1]
    · iexists _; isplitr; swap; · iexact H1
      ipureintro; exact harg1.read_unread _
    isplitl [H11]
    · iexists _; isplitr; swap; · iexact H11
      ipureintro; refine (read_store arg11 _ _).trans ?_; simp -proj (disch := decide) only [load_ld, ld_whole, ld_whole_b]; rfl
    isplitl [Hq5 Hh1]
    · iexists _, _; isplitr; swap
      · isplitl [Hq5]; · iexact Hq5
        iexact Hh1
      ipureintro; exact up_of c arg7 0 _ _ _ _ 2 (by omega) rfl _ _ _ w1 _
    isplitl [Hq7_dst Hq7 Hh2]
    · isplitl [Hq7_dst]
      · iexists _; isplitr; swap; · iexact Hq7_dst
        ipureintro; exact trivial
      isplitl [Hq7]; · iexact Hq7
      iexact Hh2
    iexists _; iexact HW

set_option maxHeartbeats 400000 in
/-- The third part: chunk 2 of the down weight is issued, chunk 1 waited for and its hidden block computed. -/
theorem part6_run (c : Dev nD) (i : grid0.Coords) (arg1 : Memref sig .tc .vmem S1024x2048 .bf16) (harg1 : arg1.IsWhole) (arg2 : Memref sig .tc .vmem S1x1x2048 .f32) (harg2 : arg2.IsWhole) (arg6 : Memref sig .tc .vmem S1024x2048 .f32) (harg6 : arg6.IsWhole) (arg7 : Memref sig .tc .vmem S2x2048x512 .bf16) (harg7 : arg7.IsWhole) (arg8 : Memref sig .tc .vmem S2x512x2048 .bf16) (harg8 : arg8.IsWhole) (arg11 : Memref sig .tc .vmem S1024x2048 .f32) (harg11 : arg11.IsWhole) (q0 q1 : PosShare TreeShare)
    (w1 : HbBuf0 (F := F) c hbM0_1) (w2 : HbBuf0 (F := F) c hbM0_2) (x0 : Vec F S1024x2048 .bf16) (a : Vec F S1024x2048 .f32) :
      ∀ (W : Waits sig Unit) (K : (Σ' (v70 : Vec F S1024x2048 .f32), FVec F S1024x512 .bf16) → sProp 𝕄),
        iprop(owns (c : Thread nD τ) arg1 fullShare x0 ∗ owns (c : Thread nD τ) arg11 fullShare a
           ∗ DH0 c arg8 q0 w2 (fun _ => True) ∗ UF1 c arg7 q1 w1 1 ∗ DF1 c arg8 q1 w2 1
           ∗ owes (c : Thread nD τ) 0 W
           ∗ (iprop(owns (c : Thread nD τ) arg1 fullShare x0 ∗ owns (c : Thread nD τ) arg11 fullShare a ∗ DF0 c arg8 q0 w2 2 ∗ UH1 c arg7 q1 w1 (fun _ => True) ∗ DH1 c arg8 q1 w2 (DP1 c arg8 w2 1) ∗ (∃ W', owes (c : Thread nD τ) 0 W')) -∗ K ⟨a, k0_pay4 x0 (uLd w1 1)⟩))
          ⊢ wp frame (wpE (defs₀ (F := F)) Variants.none c none) Set.univ (k0_part6 i arg1 harg1 arg2 harg2 (Memref.whole main_arg3) (Memref.isWhole_whole _) (Memref.whole main_arg1) (Memref.isWhole_whole _) (Memref.whole main_arg2) (Memref.isWhole_whole _) arg6 harg6 arg7 harg7 arg8 harg8 cc0_scratch2 cc0_scratch3 arg11 harg11) K := by
    intro W K
    rw [k0_part6_eq_skeleton]; unfold k0_part6_skel
    unfold DF0 DF1 UF1 DH0 DH1 UH1 Fly Held owns
    iintro ⟨⟨%f1, %hf1, H1⟩, ⟨%f11, %hf11, H11⟩, ⟨⟨%e0, -, HD0⟩, Hq7, Hh2⟩, ⟨%g1, %I1, %hg1, Hq6, Hh1b⟩, ⟨%e1, %J1, %he1, Hq8, Hh2b⟩, HW, Hk⟩
    obtain rfl := harg1.eq_unread hf1; obtain rfl := harg11.eq_unread hf11
    sl_exec
    sl_step
    sl_unfold_words
    simp -proj (disch := decide) only [load_ld, ld_whole, ld_whole_b]
    iapply Hk
    isplitl [H1]
    · iexists _; isplitr; swap; · iexact H1
      ipureintro; exact harg1.read_unread _
    isplitl [H11]
    · iexists _; isplitr; swap; · iexact H11
      ipureintro; exact harg11.read_unread _
    isplitl [Hq7 Hh2]
    · iexists _, _; isplitr; swap
      · isplitl [Hq7]; · iexact Hq7
        iexact Hh2
      ipureintro; exact down_of c arg8 0 _ _ _ _ 2 (by omega) rfl _ _ w2 _
    isplitl [Hq6_dst Hq6 Hh1b]
    · isplitl [Hq6_dst]
      · iexists _; isplitr; swap; · iexact Hq6_dst
        ipureintro; exact trivial
      isplitl [Hq6]; · iexact Hq6
      iexact Hh1b
    isplitl [Hq8_dst Hq8 Hh2b]
    · isplitl [Hq8_dst]
      · iexists _; isplitr; swap; · iexact Hq8_dst
        ipureintro; exact he1
      isplitl [Hq8]; · iexact Hq8
      iexact Hh2b
    iexists _; iexact HW

set_option maxHeartbeats 400000 in
/-- The eighth part: chunk 14 is waited for and added. -/
theorem part8_run (c : Dev nD) (i : grid0.Coords) (arg1 : Memref sig .tc .vmem S1024x2048 .bf16) (harg1 : arg1.IsWhole) (arg2 : Memref sig .tc .vmem S1x1x2048 .f32) (harg2 : arg2.IsWhole) (arg6 : Memref sig .tc .vmem S1024x2048 .f32) (harg6 : arg6.IsWhole) (arg7 : Memref sig .tc .vmem S2x2048x512 .bf16) (harg7 : arg7.IsWhole) (arg8 : Memref sig .tc .vmem S2x512x2048 .bf16) (harg8 : arg8.IsWhole) (arg11 : Memref sig .tc .vmem S1024x2048 .f32) (harg11 : arg11.IsWhole) (q0 q1 : PosShare TreeShare)
    (w1 : HbBuf0 (F := F) c hbM0_1) (w2 : HbBuf0 (F := F) c hbM0_2) (x0 : Vec F S1024x2048 .bf16) :
      ∀ (W : Waits sig Unit) (K : PUnit → sProp 𝕄),
        iprop(owns (c : Thread nD τ) arg1 fullShare x0 ∗ owns (c : Thread nD τ) arg11 fullShare (acc x0 w1 w2 13)
           ∗ UF0 c arg7 q0 w1 14 ∗ DF0 c arg8 q0 w2 14
           ∗ owes (c : Thread nD τ) 0 W
           ∗ (iprop(owns (c : Thread nD τ) arg1 fullShare x0 ∗ owns (c : Thread nD τ) arg11 fullShare (acc x0 w1 w2 14) ∗ UH0 c arg7 q0 w1 (fun _ => True) ∗ DH0 c arg8 q0 w2 (fun _ => True) ∗ (∃ W', owes (c : Thread nD τ) 0 W')) -∗ K ⟨⟩))
          ⊢ wp frame (wpE (defs₀ (F := F)) Variants.none c none) Set.univ (k0_part8 i arg1 harg1 arg2 harg2 (Memref.whole main_arg3) (Memref.isWhole_whole _) (Memref.whole main_arg1) (Memref.isWhole_whole _) (Memref.whole main_arg2) (Memref.isWhole_whole _) arg6 harg6 arg7 harg7 arg8 harg8 cc0_scratch2 cc0_scratch3 arg11 harg11) K := by
    intro W K
    rw [k0_part8_eq_skeleton]; unfold k0_part8_skel
    unfold UF0 DF0 DH0 UH0 Fly Held owns
    iintro ⟨⟨%f1, %hf1, H1⟩, ⟨%f11, %hf11, H11⟩, ⟨%g0, %I0, %hg0, Hq5, Hh1⟩, ⟨%e0, %J0, %he0, Hq7, Hh2⟩, HW, Hk⟩
    obtain rfl := harg1.eq_unread hf1; obtain rfl := harg11.eq_unread hf11
    sl_exec
    sl_step
    iapply Hk
    sl_unfold_words
    isplitl [H1]
    · iexists _; isplitr; swap; · iexact H1
      ipureintro; exact harg1.read_unread _
    isplitl [H11]
    · iexists _; isplitr; swap; · iexact H11
      ipureintro; refine (read_store arg11 _ _).trans ?_; simp -proj (disch := decide) only [load_ld, ld_whole, ld_whole_b]; rfl
    isplitl [Hq5_dst Hq5 Hh1]
    · isplitl [Hq5_dst]
      · iexists _; isplitr; swap; · iexact Hq5_dst
        ipureintro; exact trivial
      isplitl [Hq5]; · iexact Hq5
      iexact Hh1
    isplitl [Hq7_dst Hq7 Hh2]
    · isplitl [Hq7_dst]
      · iexists _; isplitr; swap; · iexact Hq7_dst
        ipureintro; exact trivial
      isplitl [Hq7]; · iexact Hq7
      iexact Hh2
    iexists _; iexact HW

set_option maxHeartbeats 400000 in
/-- The ninth part: chunk 0 is issued for the next point, chunk 15 and the residual's rows are waited for. -/
theorem part9_run (c : Dev nD) (i : grid0.Coords) (arg1 : Memref sig .tc .vmem S1024x2048 .bf16) (harg1 : arg1.IsWhole) (arg2 : Memref sig .tc .vmem S1x1x2048 .f32) (harg2 : arg2.IsWhole) (arg6 : Memref sig .tc .vmem S1024x2048 .f32) (harg6 : arg6.IsWhole) (arg7 : Memref sig .tc .vmem S2x2048x512 .bf16) (harg7 : arg7.IsWhole) (arg8 : Memref sig .tc .vmem S2x512x2048 .bf16) (harg8 : arg8.IsWhole) (arg11 : Memref sig .tc .vmem S1024x2048 .f32) (harg11 : arg11.IsWhole) (q0 q1 : PosShare TreeShare)
    (w1 : HbBuf0 (F := F) c hbM0_1) (w2 : HbBuf0 (F := F) c hbM0_2) (w3 : HbBuf0 (F := F) c hbM0_3) (x0 : Vec F S1024x2048 .bf16) (a xr : Vec F S1024x2048 .f32) :
      ∀ (W : Waits sig Unit) (K : (Σ' (v154 : Vec F S256x2048 .f32), Vec F S256x2048 .bf16) → sProp 𝕄),
        iprop(owns (c : Thread nD τ) arg1 fullShare x0 ∗ owns (c : Thread nD τ) arg11 fullShare a
           ∗ UH0 c arg7 q0 w1 (fun _ => True) ∗ DH0 c arg8 q0 w2 (fun _ => True) ∗ UF1 c arg7 q1 w1 15 ∗ DF1 c arg8 q1 w2 15 ∗ FlyX c arg6 w3 xr
           ∗ owes (c : Thread nD τ) 0 W
           ∗ (iprop(owns (c : Thread nD τ) arg1 fullShare x0 ∗ owns (c : Thread nD τ) arg11 fullShare a ∗ owns (c : Thread nD τ) arg6 fullShare xr
                ∗ UF0 c arg7 q0 w1 0 ∗ DF0 c arg8 q0 w2 0 ∗ UH1 c arg7 q1 w1 (UP1 c arg7 w1 15) ∗ DH1 c arg8 q1 w2 (DP1 c arg8 w2 15)
                ∗ semVal ((c : Thread nD τ), SemLoc.dma 9) 0 ∗ (hbM0_3.view.loc (c : Thread nD τ) ↦{fullShare} w3) ∗ (∃ W', owes (c : Thread nD τ) 0 W')) -∗ K ⟨rowsF a 0, rowsB x0 0⟩))
          ⊢ wp frame (wpE (defs₀ (F := F)) Variants.none c none) Set.univ (k0_part9 i arg1 harg1 arg2 harg2 (Memref.whole main_arg3) (Memref.isWhole_whole _) (Memref.whole main_arg1) (Memref.isWhole_whole _) (Memref.whole main_arg2) (Memref.isWhole_whole _) arg6 harg6 arg7 harg7 arg8 harg8 cc0_scratch2 cc0_scratch3 arg11 harg11) K := by
    intro W K
    rw [k0_part9_eq_skeleton]; unfold k0_part9_skel
    unfold UF0 DF0 DF1 UF1 UH0 DH0 DH1 UH1 FlyX Fly Held owns
    iintro ⟨⟨%f1, %hf1, H1⟩, ⟨%f11, %hf11, H11⟩, ⟨⟨%g0, -, HU0⟩, Hq5, Hh1⟩, ⟨⟨%e0, -, HD0⟩, Hq7, Hh2⟩, ⟨%g1, %I1, %hg1, Hq6, Hh1b⟩, ⟨%e1, %J1, %he1, Hq8, Hh2b⟩, ⟨%f6, %I6, %hf6, Hq9, Hh3⟩, HW, Hk⟩
    obtain rfl := harg1.eq_unread hf1; obtain rfl := harg11.eq_unread hf11
    sl_exec
    sl_step
    sl_unfold_words
    simp -proj (disch := decide) only [load_ld, ld_rowsF, ld_rowsB]
    iapply Hk
    isplitl [H1]
    · iexists _; isplitr; swap; · iexact H1
      ipureintro; exact harg1.read_unread _
    isplitl [H11]
    · iexists _; isplitr; swap; · iexact H11
      ipureintro; exact harg11.read_unread _
    isplitl [Hq9_dst]
    · iexists _; isplitr; swap; · iexact Hq9_dst
      ipureintro; exact hf6
    isplitl [Hq5 Hh1]
    · iexists _, _; isplitr; swap
      · isplitl [Hq5]; · iexact Hq5
        iexact Hh1
      ipureintro; exact up_of c arg7 0 _ _ _ _ 0 (by omega) rfl _ _ _ w1 _
    isplitl [Hq7 Hh2]
    · iexists _, _; isplitr; swap
      · isplitl [Hq7]; · iexact Hq7
        iexact Hh2
      ipureintro; exact down_of c arg8 0 _ _ _ _ 0 (by omega) rfl _ _ w2 _
    isplitl [Hq6_dst Hq6 Hh1b]
    · isplitl [Hq6_dst]
      · iexists _; isplitr; swap; · iexact Hq6_dst
        ipureintro; exact hg1
      isplitl [Hq6]; · iexact Hq6
      iexact Hh1b
    isplitl [Hq8_dst Hq8 Hh2b]
    · isplitl [Hq8_dst]
      · iexists _; isplitr; swap; · iexact Hq8_dst
        ipureintro; exact he1
      isplitl [Hq8]; · iexact Hq8
      iexact Hh2b
    isplitl [Hq9]; · iexact Hq9
    isplitl [Hh3]; · iexact Hh3
    iexists _; iexact HW

end Ffn

end
-- ==== Proof.Ffn.PartC.lean ====
module

public import proofs.«01_k».proof.Proof.Ffn.State

@[expose] public section

set_option maxRecDepth 16384

noncomputable section

namespace Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Before trip `n` of the loop: chunk `2 * n + 2` on its way into slot 0, slot 1 at rest, the accumulator at its value after
    the chunks before. -/
def loopInv (c : Dev nD) (arg1 : Memref sig .tc .vmem S1024x2048 .bf16) (arg7 : Memref sig .tc .vmem S2x2048x512 .bf16) (arg8 : Memref sig .tc .vmem S2x512x2048 .bf16)
    (arg11 : Memref sig .tc .vmem S1024x2048 .f32) (q0 q1 : PosShare TreeShare) (w1 : HbBuf0 (F := F) c hbM0_1) (w2 : HbBuf0 (F := F) c hbM0_2) (x0 : Vec F S1024x2048 .bf16)
    (n : ℕ) (_ : Unit) : sProp 𝕄 :=
  iprop(owns (c : Thread nD τ) arg1 fullShare x0 ∗ owns (c : Thread nD τ) arg11 fullShare (acc x0 w1 w2 (2 * n + 1))
    ∗ UF0 c arg7 q0 w1 (2 * n + 2) ∗ DF0 c arg8 q0 w2 (2 * n + 2) ∗ UH1 c arg7 q1 w1 (fun _ => True) ∗ DH1 c arg8 q1 w2 (fun _ => True)
    ∗ (∃ W', owes (c : Thread nD τ) 0 W'))

set_option maxHeartbeats 800000 in
/-- One trip of the loop: two chunks are added, two are issued. -/
theorem loop_step (c : Dev nD) (i : grid0.Coords) (arg1 : Memref sig .tc .vmem S1024x2048 .bf16) (harg1 : arg1.IsWhole) (arg2 : Memref sig .tc .vmem S1x1x2048 .f32) (harg2 : arg2.IsWhole) (arg6 : Memref sig .tc .vmem S1024x2048 .f32) (harg6 : arg6.IsWhole) (arg7 : Memref sig .tc .vmem S2x2048x512 .bf16) (harg7 : arg7.IsWhole) (arg8 : Memref sig .tc .vmem S2x512x2048 .bf16) (harg8 : arg8.IsWhole) (arg11 : Memref sig .tc .vmem S1024x2048 .f32) (harg11 : arg11.IsWhole) (q0 q1 : PosShare TreeShare)
    (w1 : HbBuf0 (F := F) c hbM0_1) (w2 : HbBuf0 (F := F) c hbM0_2) (x0 : Vec F S1024x2048 .bf16) (v70 : Vec F S1024x2048 .f32) (v78 : FVec F S1024x512 .bf16) (t : Fin k0_t1_loop.trips) (u : Unit) :
      loopInv c arg1 arg7 arg8 arg11 q0 q1 w1 w2 x0 t.val u
          ⊢ wp frame (wpE (defs₀ (F := F)) Variants.none c none) Set.univ (k0_t1_body i arg1 harg1 arg2 harg2 (Memref.whole main_arg3) (Memref.isWhole_whole _) (Memref.whole main_arg1) (Memref.isWhole_whole _) (Memref.whole main_arg2) (Memref.isWhole_whole _) arg6 harg6 arg7 harg7 arg8 harg8 cc0_scratch2 cc0_scratch3 arg11 harg11 v70 v78 t u) (loopInv c arg1 arg7 arg8 arg11 q0 q1 w1 w2 x0 (t.val + 1)) := by
    have ht : t.val < 6 := lt_of_lt_of_eq t.isLt trips_eq
    unfold k0_t1_body
    rw [k0_part1_eq_skeleton, k0_part2_eq_skeleton, k0_part3_eq_skeleton]
    unfold k0_part1_skel k0_part2_skel k0_part3_skel
    unfold loopInv UF0 DF0 UH1 DH1 Fly Held owns
    iintro ⟨⟨%f1, %hf1, H1⟩, ⟨%f11, %hf11, H11⟩, ⟨%g0, %I0, %hg0, Hq5, Hh1⟩, ⟨%e0, %J0, %he0, Hq7, Hh2⟩, ⟨⟨%g1, -, HU1⟩, Hq6, Hh1b⟩, ⟨⟨%e1, -, HD1⟩, Hq8, Hh2b⟩, ⟨%W, HW⟩⟩
    obtain rfl := harg1.eq_unread hf1; obtain rfl := harg11.eq_unread hf11
    sl_exec
    sl_step
    sl_unfold_words
    isplitl [H1]
    · iexists _; isplitr; swap; · iexact H1
      ipureintro; exact harg1.read_unread _
    isplitl [H11]
    · iexists _; isplitr; swap; · iexact H11
      ipureintro; refine (read_store' arg11 _ _ _).trans ?_
      refine acc_step' x0 w1 w2 (2 * t.val + 2) ?_ ?_ ?_ ?_
      · refine (View.readCov_cons_toLoadRect ..).trans ?_
        refine acc_step x0 w1 w2 (2 * t.val + 1) ?_ ?_ rfl rfl
        · exact (load_ld harg11 _ _).trans (ld_whole _)
        · exact (load_ld harg1 _ _).trans (ld_whole_b _)
      · exact (load_ld harg1 _ _).trans (ld_whole_b _)
      · exact up_of c arg7 1 _ _ _ _ (2 * t.val + 3) (by omega) (off2_eq t).1 _ _ _ w1 _
      · exact down_of c arg8 1 _ _ _ _ (2 * t.val + 3) (by omega) (off3_eq t).1 _ _ w2 _
    isplitl [Hq5 Hh1]
    · iexists _, _; isplitr; swap
      · isplitl [Hq5]; · iexact Hq5
        iexact Hh1
      ipureintro; exact up_of c arg7 0 _ _ _ _ (2 * t.val + 4) (by omega) (off2_eq t).2 _ _ _ w1 _
    isplitl [Hq7 Hh2]
    · iexists _, _; isplitr; swap
      · isplitl [Hq7]; · iexact Hq7
        iexact Hh2
      ipureintro; exact down_of c arg8 0 _ _ _ _ (2 * t.val + 4) (by omega) (off3_eq t).2 _ _ w2 _
    isplitl [HU1 Hq6 Hh1b]
    · isplitl [HU1]
      · iexists _; isplitr; swap; · iexact HU1
        ipureintro; exact trivial
      isplitl [Hq6]; · iexact Hq6
      iexact Hh1b
    isplitl [HD1 Hq8 Hh2b]
    · isplitl [HD1]
      · iexists _; isplitr; swap; · iexact HD1
        ipureintro; exact trivial
      isplitl [Hq8]; · iexact Hq8
      iexact Hh2b
    iexists _; iexact HW

set_option maxHeartbeats 400000 in
/-- The seventh part: chunk 1 is added, the loop runs, chunk 15 is issued. -/
theorem part7_run (c : Dev nD) (i : grid0.Coords) (arg1 : Memref sig .tc .vmem S1024x2048 .bf16) (harg1 : arg1.IsWhole) (arg2 : Memref sig .tc .vmem S1x1x2048 .f32) (harg2 : arg2.IsWhole) (arg6 : Memref sig .tc .vmem S1024x2048 .f32) (harg6 : arg6.IsWhole) (arg7 : Memref sig .tc .vmem S2x2048x512 .bf16) (harg7 : arg7.IsWhole) (arg8 : Memref sig .tc .vmem S2x512x2048 .bf16) (harg8 : arg8.IsWhole) (arg11 : Memref sig .tc .vmem S1024x2048 .f32) (harg11 : arg11.IsWhole) (q0 q1 : PosShare TreeShare)
    (w1 : HbBuf0 (F := F) c hbM0_1) (w2 : HbBuf0 (F := F) c hbM0_2) (x0 : Vec F S1024x2048 .bf16) :
      ∀ (W : Waits sig Unit) (K : PUnit → sProp 𝕄),
        iprop(owns (c : Thread nD τ) arg1 fullShare x0 ∗ owns (c : Thread nD τ) arg11 fullShare (acc x0 w1 w2 0)
           ∗ UF0 c arg7 q0 w1 2 ∗ DF0 c arg8 q0 w2 2 ∗ UH1 c arg7 q1 w1 (fun _ => True) ∗ DH1 c arg8 q1 w2 (DP1 c arg8 w2 1)
           ∗ owes (c : Thread nD τ) 0 W
           ∗ (iprop(owns (c : Thread nD τ) arg1 fullShare x0 ∗ owns (c : Thread nD τ) arg11 fullShare (acc x0 w1 w2 13) ∗ UF0 c arg7 q0 w1 14 ∗ DF0 c arg8 q0 w2 14 ∗ UF1 c arg7 q1 w1 15 ∗ DF1 c arg8 q1 w2 15 ∗ (∃ W', owes (c : Thread nD τ) 0 W')) -∗ K ⟨⟩))
          ⊢ wp frame (wpE (defs₀ (F := F)) Variants.none c none) Set.univ (k0_part7 i arg1 harg1 arg2 harg2 (Memref.whole main_arg3) (Memref.isWhole_whole _) (Memref.whole main_arg1) (Memref.isWhole_whole _) (Memref.whole main_arg2) (Memref.isWhole_whole _) arg6 harg6 arg7 harg7 arg8 harg8 cc0_scratch2 cc0_scratch3 arg11 harg11 (acc x0 w1 w2 0) (k0_pay4 x0 (uLd w1 1))) K := by
    intro W K
    rw [k0_part7_eq_skeleton]; unfold k0_part7_skel
    unfold UH1 DH1 Held owns
    iintro ⟨H1, ⟨%f11, %hf11, H11⟩, HF0, HG0, ⟨⟨%g1, -, HU1⟩, Hq6, Hh1b⟩, ⟨⟨%e1, %he1, HD1⟩, Hq8, Hh2b⟩, HW, Hk⟩
    obtain rfl := harg11.eq_unread hf11
    sl_exec
    iapply (Scf.wp_for_bind _ _ _ _ _ _ _ _ _ (loopInv c arg1 arg7 arg8 arg11 q0 q1 w1 w2 x0) (fun k u => loop_step c i arg1 harg1 arg2 harg2 arg6 harg6 arg7 harg7 arg8 harg8 arg11 harg11 q0 q1 w1 w2 x0 _ _ k u)) $$ [H1 H11 HF0 HG0 HU1 Hq6 Hh1b HD1 Hq8 Hh2b HW]
    · unfold loopInv UH1 DH1 Held owns
      isplitl [H1]; · iexact H1
      isplitl [H11]
      · iexists _; isplitr; swap; · iexact H11
        ipureintro; sl_unfold_words; refine (read_store arg11 _ _).trans ?_; rfl
      isplitl [HF0]; · iexact HF0
      isplitl [HG0]; · iexact HG0
      isplitl [HU1 Hq6 Hh1b]
      · isplitl [HU1]
        · iexists _; isplitr; swap; · iexact HU1
          ipureintro; trivial
        isplitl [Hq6]; · iexact Hq6
        iexact Hh1b
      isplitl [HD1 Hq8 Hh2b]
      · isplitl [HD1]
        · iexists _; isplitr; swap; · iexact HD1
          ipureintro; trivial
        isplitl [Hq8]; · iexact Hq8
        iexact Hh2b
      iexists _; iexact HW
    iintro %u HL
    rw [show Scf.trips k0_t1_loop.lb k0_t1_loop.ub k0_t1_loop.st = 6 from trips_eq]
    unfold loopInv UH1 DH1 Held owns
    icases HL with ⟨H1, H11, HF0, HG0, ⟨⟨%g1, -, HU1⟩, Hq6, Hh1b⟩, ⟨⟨%e1, -, HD1⟩, Hq8, Hh2b⟩, ⟨%W', HW⟩⟩
    sl_exec
    sl_step
    iapply Hk
    sl_unfold_words
    isplitl [H1]; · iexact H1
    isplitl [H11]; · iexact H11
    isplitl [HF0]; · iexact HF0
    isplitl [HG0]; · iexact HG0
    unfold UF1 DF1 Fly
    isplitl [Hq6 Hh1b]
    · iexists _, _; isplitr; swap
      · isplitl [Hq6]; · iexact Hq6
        iexact Hh1b
      ipureintro; exact up_of c arg7 1 _ _ _ _ 15 (by omega) rfl _ _ _ w1 _
    isplitl [Hq8 Hh2b]
    · iexists _, _; isplitr; swap
      · isplitl [Hq8]; · iexact Hq8
        iexact Hh2b
      ipureintro; exact down_of c arg8 1 _ _ _ _ 15 (by omega) rfl _ _ w2 _
    iexists _; iexact HW

end Ffn

end
-- ==== Proof.Ffn.RunA.lean ====
module

public import proofs.«01_k».proof.Proof.Ffn.PartA
public import proofs.«01_k».proof.Proof.Ffn.PartB
public import proofs.«01_k».proof.Proof.Ffn.PartC

@[expose] public section

set_option maxRecDepth 16384

noncomputable section

namespace Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1600000 in
/-- The body at the first point. -/
theorem runA (c : Dev nD) (i : grid0.Coords) (arg1 : Memref sig .tc .vmem S1024x2048 .bf16) (harg1 : arg1.IsWhole) (arg2 : Memref sig .tc .vmem S1x1x2048 .f32) (harg2 : arg2.IsWhole) (arg6 : Memref sig .tc .vmem S1024x2048 .f32) (harg6 : arg6.IsWhole) (arg7 : Memref sig .tc .vmem S2x2048x512 .bf16) (harg7 : arg7.IsWhole) (arg8 : Memref sig .tc .vmem S2x512x2048 .bf16) (harg8 : arg8.IsWhole) (arg11 : Memref sig .tc .vmem S1024x2048 .f32) (harg11 : arg11.IsWhole) (q0 q1 : PosShare TreeShare)
    (w1 : HbBuf0 (F := F) c hbM0_1) (w2 : HbBuf0 (F := F) c hbM0_2) (w3 : HbBuf0 (F := F) c hbM0_3) (hc0 : cond0_0 i) (hc1 : ¬cond0_1 i) (n : ℕ) (hn : n < 8) (hoff : k0_off1 i = ![1024 * n, 0]) (x0 : Vec F S1024x2048 .bf16) (x1 : Vec F S1x1x2048 .f32) :
      ∀ (W : Waits sig Unit) (K : PUnit → sProp 𝕄),
        iprop(owns (c : Thread nD τ) arg1 fullShare x0 ∗ owns (c : Thread nD τ) arg2 fullShare x1 ∗ (∃ d, owns (c : Thread nD τ) arg6 fullShare d) ∗ (∃ d, owns (c : Thread nD τ) arg11 fullShare d)
           ∗ (UH0 c arg7 q0 w1 (fun _ => True) ∗ DH0 c arg8 q0 w2 (fun _ => True)) ∗ UH1 c arg7 q1 w1 (fun _ => True) ∗ DH1 c arg8 q1 w2 (fun _ => True)
           ∗ semVal ((c : Thread nD τ), SemLoc.dma 9) 0 ∗ (hbM0_3.view.loc (c : Thread nD τ) ↦{fullShare} w3)
           ∗ owes (c : Thread nD τ) 0 W
           ∗ (iprop(owns (c : Thread nD τ) arg1 fullShare x0 ∗ owns (c : Thread nD τ) arg2 fullShare x1 ∗ owns (c : Thread nD τ) arg6 fullShare (outBlk x0 w1 w2 (xRows w3 n) x1) ∗ (∃ d, owns (c : Thread nD τ) arg11 fullShare d)
                ∗ (UF0 c arg7 q0 w1 0 ∗ DF0 c arg8 q0 w2 0) ∗ UH1 c arg7 q1 w1 (fun _ => True) ∗ DH1 c arg8 q1 w2 (fun _ => True)
                ∗ semVal ((c : Thread nD τ), SemLoc.dma 9) 0 ∗ (hbM0_3.view.loc (c : Thread nD τ) ↦{fullShare} w3) ∗ (∃ W', owes (c : Thread nD τ) 0 W')) -∗ K ⟨⟩))
          ⊢ wp frame (wpE (defs₀ (F := F)) Variants.none c none) Set.univ (cc0_ffn i arg1 harg1 arg2 harg2 (Memref.whole main_arg3) (Memref.isWhole_whole _) (Memref.whole main_arg1) (Memref.isWhole_whole _) (Memref.whole main_arg2) (Memref.isWhole_whole _) arg6 harg6 arg7 harg7 arg8 harg8 cc0_scratch2 cc0_scratch3 arg11 harg11) K := by
    intro W K
    rw [cc0_ffn_eq_skeleton]; unfold cc0_ffn_skel
    rw [wp_bind]
    iintro ⟨H1, H2, H6, H11, ⟨HA, HB⟩, HC, HD, Hq9, Hh3, HW, Hk⟩
    iapply (part4A c i arg1 harg1 arg2 harg2 arg6 harg6 arg7 harg7 arg8 harg8 arg11 harg11 q0 q1 w1 w2 w3 hc0 n hn hoff W _)
    isplitl [H6]; · iexact H6
    isplitl [HA]; · iexact HA
    isplitl [HC]; · iexact HC
    isplitl [HB]; · iexact HB
    isplitl [HD]; · iexact HD
    isplitl [Hq9]; · iexact Hq9
    isplitl [Hh3]; · iexact Hh3
    isplitl [HW]; · iexact HW
    iintro ⟨HA, HC, HB, HD, HX, ⟨%W1, HW⟩⟩
    rw [wp_bind]
    iapply (part5_run c i arg1 harg1 arg2 harg2 arg6 harg6 arg7 harg7 arg8 harg8 arg11 harg11 q0 q1 w1 w2 x0 W1 _)
    isplitl [H1]; · iexact H1
    isplitl [H11]; · iexact H11
    isplitl [HA]; · iexact HA
    isplitl [HB]; · iexact HB
    isplitl [HW]; · iexact HW
    iintro ⟨H1, H11, HA, HB, ⟨%W2, HW⟩⟩
    rw [wp_bind]
    iapply (part6_run c i arg1 harg1 arg2 harg2 arg6 harg6 arg7 harg7 arg8 harg8 arg11 harg11 q0 q1 w1 w2 x0 _ W2 _)
    isplitl [H1]; · iexact H1
    isplitl [H11]; · iexact H11
    isplitl [HB]; · iexact HB
    isplitl [HC]; · iexact HC
    isplitl [HD]; · iexact HD
    isplitl [HW]; · iexact HW
    iintro ⟨H1, H11, HB, HC, HD, ⟨%W3, HW⟩⟩
    rw [wp_bind]
    iapply (part7_run c i arg1 harg1 arg2 harg2 arg6 harg6 arg7 harg7 arg8 harg8 arg11 harg11 q0 q1 w1 w2 x0 W3 _)
    isplitl [H1]; · iexact H1
    isplitl [H11]; · iexact H11
    isplitl [HA]; · iexact HA
    isplitl [HB]; · iexact HB
    isplitl [HC]; · iexact HC
    isplitl [HD]; · iexact HD
    isplitl [HW]; · iexact HW
    iintro ⟨H1, H11, HA, HB, HC, HD, ⟨%W4, HW⟩⟩
    rw [wp_bind]
    iapply (part8_run c i arg1 harg1 arg2 harg2 arg6 harg6 arg7 harg7 arg8 harg8 arg11 harg11 q0 q1 w1 w2 x0 W4 _)
    isplitl [H1]; · iexact H1
    isplitl [H11]; · iexact H11
    isplitl [HA]; · iexact HA
    isplitl [HB]; · iexact HB
    isplitl [HW]; · iexact HW
    iintro ⟨H1, H11, HA, HB, ⟨%W5, HW⟩⟩
    rw [wp_bind]
    iapply (part9_run c i arg1 harg1 arg2 harg2 arg6 harg6 arg7 harg7 arg8 harg8 arg11 harg11 q0 q1 w1 w2 w3 x0 _ _ W5 _)
    isplitl [H1]; · iexact H1
    isplitl [H11]; · iexact H11
    isplitl [HA]; · iexact HA
    isplitl [HB]; · iexact HB
    isplitl [HC]; · iexact HC
    isplitl [HD]; · iexact HD
    isplitl [HX]; · iexact HX
    isplitl [HW]; · iexact HW
    iintro ⟨H1, H11, H6, HA, HB, HC, HD, Hq9, Hh3, ⟨%W6, HW⟩⟩
    rw [k0_part10_eq_skeleton, k0_part11_eq_skeleton, k0_part12_eq_skeleton]
    unfold UH1 DH1 Held owns
    icases H1 with ⟨%f1, %hf1, H1⟩
    icases H2 with ⟨%f2, %hf2, H2⟩
    icases H6 with ⟨%f6, %hf6, H6⟩
    icases H11 with ⟨%f11, %hf11, H11⟩
    icases HC with ⟨⟨%g1, %hg1, HU1⟩, Hq6, Hh1b⟩
    icases HD with ⟨⟨%e1, %he1, HD1⟩, Hq8, Hh2b⟩
    obtain rfl := harg1.eq_unread hf1; obtain rfl := harg2.eq_unread hf2; obtain rfl := harg6.eq_unread hf6; obtain rfl := harg11.eq_unread hf11
    sl_exec (disch := first | sl_exact hc1)
    sl_step
    iapply Hk
    sl_unfold_words
    isplitl [H1]
    · iexists _; isplitr; swap; · iexact H1
      ipureintro; exact harg1.read_unread _
    isplitl [H2]
    · iexists _; isplitr; swap; · iexact H2
      ipureintro; exact harg2.read_unread _
    isplitl [H6]
    · iexists _; isplitr; swap; · iexact H6
      ipureintro; simp -proj (disch := decide) only [load_ld, ld_rowsF, ld_rowsB, ld_whole_g, pay1_eq, pay12_eq, pay10_eq]; exact out_pieces arg6 _ x0 w1 w2 (xRows w3 n) x1
    isplitl [H11]
    · iexists _, _; isplitr; swap; · iexact H11
      ipureintro; rfl
    isplitl [HA HB]
    · isplitl [HA]; · iexact HA
      iexact HB
    isplitl [HU1 Hq6 Hh1b]
    · isplitl [HU1]
      · iexists _; isplitr; swap; · iexact HU1
        ipureintro; exact trivial
      isplitl [Hq6]; · iexact Hq6
      iexact Hh1b
    isplitl [HD1 Hq8 Hh2b]
    · isplitl [HD1]
      · iexists _; isplitr; swap; · iexact HD1
        ipureintro; exact trivial
      isplitl [Hq8]; · iexact Hq8
      iexact Hh2b
    isplitl [Hq9]; · iexact Hq9
    isplitl [Hh3]; · iexact Hh3
    iexists _; iexact HW

end Ffn

end
-- ==== Proof.Ffn.RunB.lean ====
module

public import proofs.«01_k».proof.Proof.Ffn.PartA
public import proofs.«01_k».proof.Proof.Ffn.PartB
public import proofs.«01_k».proof.Proof.Ffn.PartC

@[expose] public section

set_option maxRecDepth 16384

noncomputable section

namespace Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1600000 in
/-- The body at a point between. -/
theorem runB (c : Dev nD) (i : grid0.Coords) (arg1 : Memref sig .tc .vmem S1024x2048 .bf16) (harg1 : arg1.IsWhole) (arg2 : Memref sig .tc .vmem S1x1x2048 .f32) (harg2 : arg2.IsWhole) (arg6 : Memref sig .tc .vmem S1024x2048 .f32) (harg6 : arg6.IsWhole) (arg7 : Memref sig .tc .vmem S2x2048x512 .bf16) (harg7 : arg7.IsWhole) (arg8 : Memref sig .tc .vmem S2x512x2048 .bf16) (harg8 : arg8.IsWhole) (arg11 : Memref sig .tc .vmem S1024x2048 .f32) (harg11 : arg11.IsWhole) (q0 q1 : PosShare TreeShare)
    (w1 : HbBuf0 (F := F) c hbM0_1) (w2 : HbBuf0 (F := F) c hbM0_2) (w3 : HbBuf0 (F := F) c hbM0_3) (hc0 : ¬cond0_0 i) (hc1 : ¬cond0_1 i) (n : ℕ) (hn : n < 8) (hoff : k0_off1 i = ![1024 * n, 0]) (x0 : Vec F S1024x2048 .bf16) (x1 : Vec F S1x1x2048 .f32) :
      ∀ (W : Waits sig Unit) (K : PUnit → sProp 𝕄),
        iprop(owns (c : Thread nD τ) arg1 fullShare x0 ∗ owns (c : Thread nD τ) arg2 fullShare x1 ∗ (∃ d, owns (c : Thread nD τ) arg6 fullShare d) ∗ (∃ d, owns (c : Thread nD τ) arg11 fullShare d)
           ∗ (UF0 c arg7 q0 w1 0 ∗ DF0 c arg8 q0 w2 0) ∗ UH1 c arg7 q1 w1 (fun _ => True) ∗ DH1 c arg8 q1 w2 (fun _ => True)
           ∗ semVal ((c : Thread nD τ), SemLoc.dma 9) 0 ∗ (hbM0_3.view.loc (c : Thread nD τ) ↦{fullShare} w3)
           ∗ owes (c : Thread nD τ) 0 W
           ∗ (iprop(owns (c : Thread nD τ) arg1 fullShare x0 ∗ owns (c : Thread nD τ) arg2 fullShare x1 ∗ owns (c : Thread nD τ) arg6 fullShare (outBlk x0 w1 w2 (xRows w3 n) x1) ∗ (∃ d, owns (c : Thread nD τ) arg11 fullShare d)
                ∗ (UF0 c arg7 q0 w1 0 ∗ DF0 c arg8 q0 w2 0) ∗ UH1 c arg7 q1 w1 (fun _ => True) ∗ DH1 c arg8 q1 w2 (fun _ => True)
                ∗ semVal ((c : Thread nD τ), SemLoc.dma 9) 0 ∗ (hbM0_3.view.loc (c : Thread nD τ) ↦{fullShare} w3) ∗ (∃ W', owes (c : Thread nD τ) 0 W')) -∗ K ⟨⟩))
          ⊢ wp frame (wpE (defs₀ (F := F)) Variants.none c none) Set.univ (cc0_ffn i arg1 harg1 arg2 harg2 (Memref.whole main_arg3) (Memref.isWhole_whole _) (Memref.whole main_arg1) (Memref.isWhole_whole _) (Memref.whole main_arg2) (Memref.isWhole_whole _) arg6 harg6 arg7 harg7 arg8 harg8 cc0_scratch2 cc0_scratch3 arg11 harg11) K := by
    intro W K
    rw [cc0_ffn_eq_skeleton]; unfold cc0_ffn_skel
    rw [wp_bind]
    iintro ⟨H1, H2, H6, H11, ⟨HA, HB⟩, HC, HD, Hq9, Hh3, HW, Hk⟩
    iapply (part4B c i arg1 harg1 arg2 harg2 arg6 harg6 arg7 harg7 arg8 harg8 arg11 harg11 q0 q1 w1 w2 w3 hc0 n hn hoff W _)
    isplitl [H6]; · iexact H6
    isplitl [HA]; · iexact HA
    isplitl [HC]; · iexact HC
    isplitl [HB]; · iexact HB
    isplitl [HD]; · iexact HD
    isplitl [Hq9]; · iexact Hq9
    isplitl [Hh3]; · iexact Hh3
    isplitl [HW]; · iexact HW
    iintro ⟨HA, HC, HB, HD, HX, ⟨%W1, HW⟩⟩
    rw [wp_bind]
    iapply (part5_run c i arg1 harg1 arg2 harg2 arg6 harg6 arg7 harg7 arg8 harg8 arg11 harg11 q0 q1 w1 w2 x0 W1 _)
    isplitl [H1]; · iexact H1
    isplitl [H11]; · iexact H11
    isplitl [HA]; · iexact HA
    isplitl [HB]; · iexact HB
    isplitl [HW]; · iexact HW
    iintro ⟨H1, H11, HA, HB, ⟨%W2, HW⟩⟩
    rw [wp_bind]
    iapply (part6_run c i arg1 harg1 arg2 harg2 arg6 harg6 arg7 harg7 arg8 harg8 arg11 harg11 q0 q1 w1 w2 x0 _ W2 _)
    isplitl [H1]; · iexact H1
    isplitl [H11]; · iexact H11
    isplitl [HB]; · iexact HB
    isplitl [HC]; · iexact HC
    isplitl [HD]; · iexact HD
    isplitl [HW]; · iexact HW
    iintro ⟨H1, H11, HB, HC, HD, ⟨%W3, HW⟩⟩
    rw [wp_bind]
    iapply (part7_run c i arg1 harg1 arg2 harg2 arg6 harg6 arg7 harg7 arg8 harg8 arg11 harg11 q0 q1 w1 w2 x0 W3 _)
    isplitl [H1]; · iexact H1
    isplitl [H11]; · iexact H11
    isplitl [HA]; · iexact HA
    isplitl [HB]; · iexact HB
    isplitl [HC]; · iexact HC
    isplitl [HD]; · iexact HD
    isplitl [HW]; · iexact HW
    iintro ⟨H1, H11, HA, HB, HC, HD, ⟨%W4, HW⟩⟩
    rw [wp_bind]
    iapply (part8_run c i arg1 harg1 arg2 harg2 arg6 harg6 arg7 harg7 arg8 harg8 arg11 harg11 q0 q1 w1 w2 x0 W4 _)
    isplitl [H1]; · iexact H1
    isplitl [H11]; · iexact H11
    isplitl [HA]; · iexact HA
    isplitl [HB]; · iexact HB
    isplitl [HW]; · iexact HW
    iintro ⟨H1, H11, HA, HB, ⟨%W5, HW⟩⟩
    rw [wp_bind]
    iapply (part9_run c i arg1 harg1 arg2 harg2 arg6 harg6 arg7 harg7 arg8 harg8 arg11 harg11 q0 q1 w1 w2 w3 x0 _ _ W5 _)
    isplitl [H1]; · iexact H1
    isplitl [H11]; · iexact H11
    isplitl [HA]; · iexact HA
    isplitl [HB]; · iexact HB
    isplitl [HC]; · iexact HC
    isplitl [HD]; · iexact HD
    isplitl [HX]; · iexact HX
    isplitl [HW]; · iexact HW
    iintro ⟨H1, H11, H6, HA, HB, HC, HD, Hq9, Hh3, ⟨%W6, HW⟩⟩
    rw [k0_part10_eq_skeleton, k0_part11_eq_skeleton, k0_part12_eq_skeleton]
    unfold UH1 DH1 Held owns
    icases H1 with ⟨%f1, %hf1, H1⟩
    icases H2 with ⟨%f2, %hf2, H2⟩
    icases H6 with ⟨%f6, %hf6, H6⟩
    icases H11 with ⟨%f11, %hf11, H11⟩
    icases HC with ⟨⟨%g1, %hg1, HU1⟩, Hq6, Hh1b⟩
    icases HD with ⟨⟨%e1, %he1, HD1⟩, Hq8, Hh2b⟩
    obtain rfl := harg1.eq_unread hf1; obtain rfl := harg2.eq_unread hf2; obtain rfl := harg6.eq_unread hf6; obtain rfl := harg11.eq_unread hf11
    sl_exec (disch := first | sl_exact hc1)
    sl_step
    iapply Hk
    sl_unfold_words
    isplitl [H1]
    · iexists _; isplitr; swap; · iexact H1
      ipureintro; exact harg1.read_unread _
    isplitl [H2]
    · iexists _; isplitr; swap; · iexact H2
      ipureintro; exact harg2.read_unread _
    isplitl [H6]
    · iexists _; isplitr; swap; · iexact H6
      ipureintro; simp -proj (disch := decide) only [load_ld, ld_rowsF, ld_rowsB, ld_whole_g, pay1_eq, pay12_eq, pay10_eq]; exact out_pieces arg6 _ x0 w1 w2 (xRows w3 n) x1
    isplitl [H11]
    · iexists _, _; isplitr; swap; · iexact H11
      ipureintro; rfl
    isplitl [HA HB]
    · isplitl [HA]; · iexact HA
      iexact HB
    isplitl [HU1 Hq6 Hh1b]
    · isplitl [HU1]
      · iexists _; isplitr; swap; · iexact HU1
        ipureintro; exact trivial
      isplitl [Hq6]; · iexact Hq6
      iexact Hh1b
    isplitl [HD1 Hq8 Hh2b]
    · isplitl [HD1]
      · iexists _; isplitr; swap; · iexact HD1
        ipureintro; exact trivial
      isplitl [Hq8]; · iexact Hq8
      iexact Hh2b
    isplitl [Hq9]; · iexact Hq9
    isplitl [Hh3]; · iexact Hh3
    iexists _; iexact HW

end Ffn

end
-- ==== Proof.Ffn.RunC.lean ====
module

public import proofs.«01_k».proof.Proof.Ffn.PartA
public import proofs.«01_k».proof.Proof.Ffn.PartB
public import proofs.«01_k».proof.Proof.Ffn.PartC

@[expose] public section

set_option maxRecDepth 16384

noncomputable section

namespace Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1600000 in
/-- The body at the last point. -/
theorem runC (c : Dev nD) (i : grid0.Coords) (arg1 : Memref sig .tc .vmem S1024x2048 .bf16) (harg1 : arg1.IsWhole) (arg2 : Memref sig .tc .vmem S1x1x2048 .f32) (harg2 : arg2.IsWhole) (arg6 : Memref sig .tc .vmem S1024x2048 .f32) (harg6 : arg6.IsWhole) (arg7 : Memref sig .tc .vmem S2x2048x512 .bf16) (harg7 : arg7.IsWhole) (arg8 : Memref sig .tc .vmem S2x512x2048 .bf16) (harg8 : arg8.IsWhole) (arg11 : Memref sig .tc .vmem S1024x2048 .f32) (harg11 : arg11.IsWhole) (q0 q1 : PosShare TreeShare)
    (w1 : HbBuf0 (F := F) c hbM0_1) (w2 : HbBuf0 (F := F) c hbM0_2) (w3 : HbBuf0 (F := F) c hbM0_3) (hc0 : ¬cond0_0 i) (hc1 : cond0_1 i) (n : ℕ) (hn : n < 8) (hoff : k0_off1 i = ![1024 * n, 0]) (x0 : Vec F S1024x2048 .bf16) (x1 : Vec F S1x1x2048 .f32) :
      ∀ (W : Waits sig Unit) (K : PUnit → sProp 𝕄),
        iprop(owns (c : Thread nD τ) arg1 fullShare x0 ∗ owns (c : Thread nD τ) arg2 fullShare x1 ∗ (∃ d, owns (c : Thread nD τ) arg6 fullShare d) ∗ (∃ d, owns (c : Thread nD τ) arg11 fullShare d)
           ∗ (UF0 c arg7 q0 w1 0 ∗ DF0 c arg8 q0 w2 0) ∗ UH1 c arg7 q1 w1 (fun _ => True) ∗ DH1 c arg8 q1 w2 (fun _ => True)
           ∗ semVal ((c : Thread nD τ), SemLoc.dma 9) 0 ∗ (hbM0_3.view.loc (c : Thread nD τ) ↦{fullShare} w3)
           ∗ owes (c : Thread nD τ) 0 W
           ∗ (iprop(owns (c : Thread nD τ) arg1 fullShare x0 ∗ owns (c : Thread nD τ) arg2 fullShare x1 ∗ owns (c : Thread nD τ) arg6 fullShare (outBlk x0 w1 w2 (xRows w3 n) x1) ∗ (∃ d, owns (c : Thread nD τ) arg11 fullShare d)
                ∗ (UH0 c arg7 q0 w1 (fun _ => True) ∗ DH0 c arg8 q0 w2 (fun _ => True)) ∗ UH1 c arg7 q1 w1 (fun _ => True) ∗ DH1 c arg8 q1 w2 (fun _ => True)
                ∗ semVal ((c : Thread nD τ), SemLoc.dma 9) 0 ∗ (hbM0_3.view.loc (c : Thread nD τ) ↦{fullShare} w3) ∗ (∃ W', owes (c : Thread nD τ) 0 W')) -∗ K ⟨⟩))
          ⊢ wp frame (wpE (defs₀ (F := F)) Variants.none c none) Set.univ (cc0_ffn i arg1 harg1 arg2 harg2 (Memref.whole main_arg3) (Memref.isWhole_whole _) (Memref.whole main_arg1) (Memref.isWhole_whole _) (Memref.whole main_arg2) (Memref.isWhole_whole _) arg6 harg6 arg7 harg7 arg8 harg8 cc0_scratch2 cc0_scratch3 arg11 harg11) K := by
    intro W K
    rw [cc0_ffn_eq_skeleton]; unfold cc0_ffn_skel
    rw [wp_bind]
    iintro ⟨H1, H2, H6, H11, ⟨HA, HB⟩, HC, HD, Hq9, Hh3, HW, Hk⟩
    iapply (part4B c i arg1 harg1 arg2 harg2 arg6 harg6 arg7 harg7 arg8 harg8 arg11 harg11 q0 q1 w1 w2 w3 hc0 n hn hoff W _)
    isplitl [H6]; · iexact H6
    isplitl [HA]; · iexact HA
    isplitl [HC]; · iexact HC
    isplitl [HB]; · iexact HB
    isplitl [HD]; · iexact HD
    isplitl [Hq9]; · iexact Hq9
    isplitl [Hh3]; · iexact Hh3
    isplitl [HW]; · iexact HW
    iintro ⟨HA, HC, HB, HD, HX, ⟨%W1, HW⟩⟩
    rw [wp_bind]
    iapply (part5_run c i arg1 harg1 arg2 harg2 arg6 harg6 arg7 harg7 arg8 harg8 arg11 harg11 q0 q1 w1 w2 x0 W1 _)
    isplitl [H1]; · iexact H1
    isplitl [H11]; · iexact H11
    isplitl [HA]; · iexact HA
    isplitl [HB]; · iexact HB
    isplitl [HW]; · iexact HW
    iintro ⟨H1, H11, HA, HB, ⟨%W2, HW⟩⟩
    rw [wp_bind]
    iapply (part6_run c i arg1 harg1 arg2 harg2 arg6 harg6 arg7 harg7 arg8 harg8 arg11 harg11 q0 q1 w1 w2 x0 _ W2 _)
    isplitl [H1]; · iexact H1
    isplitl [H11]; · iexact H11
    isplitl [HB]; · iexact HB
    isplitl [HC]; · iexact HC
    isplitl [HD]; · iexact HD
    isplitl [HW]; · iexact HW
    iintro ⟨H1, H11, HB, HC, HD, ⟨%W3, HW⟩⟩
    rw [wp_bind]
    iapply (part7_run c i arg1 harg1 arg2 harg2 arg6 harg6 arg7 harg7 arg8 harg8 arg11 harg11 q0 q1 w1 w2 x0 W3 _)
    isplitl [H1]; · iexact H1
    isplitl [H11]; · iexact H11
    isplitl [HA]; · iexact HA
    isplitl [HB]; · iexact HB
    isplitl [HC]; · iexact HC
    isplitl [HD]; · iexact HD
    isplitl [HW]; · iexact HW
    iintro ⟨H1, H11, HA, HB, HC, HD, ⟨%W4, HW⟩⟩
    rw [wp_bind]
    iapply (part8_run c i arg1 harg1 arg2 harg2 arg6 harg6 arg7 harg7 arg8 harg8 arg11 harg11 q0 q1 w1 w2 x0 W4 _)
    isplitl [H1]; · iexact H1
    isplitl [H11]; · iexact H11
    isplitl [HA]; · iexact HA
    isplitl [HB]; · iexact HB
    isplitl [HW]; · iexact HW
    iintro ⟨H1, H11, HA, HB, ⟨%W5, HW⟩⟩
    rw [wp_bind]
    iapply (part9_run c i arg1 harg1 arg2 harg2 arg6 harg6 arg7 harg7 arg8 harg8 arg11 harg11 q0 q1 w1 w2 w3 x0 _ _ W5 _)
    isplitl [H1]; · iexact H1
    isplitl [H11]; · iexact H11
    isplitl [HA]; · iexact HA
    isplitl [HB]; · iexact HB
    isplitl [HC]; · iexact HC
    isplitl [HD]; · iexact HD
    isplitl [HX]; · iexact HX
    isplitl [HW]; · iexact HW
    iintro ⟨H1, H11, H6, HA, HB, HC, HD, Hq9, Hh3, ⟨%W6, HW⟩⟩
    rw [k0_part10_eq_skeleton, k0_part11_eq_skeleton, k0_part12_eq_skeleton]
    unfold UH1 DH1 Held UF0 DF0 Fly owns
    icases H1 with ⟨%f1, %hf1, H1⟩
    icases H2 with ⟨%f2, %hf2, H2⟩
    icases H6 with ⟨%f6, %hf6, H6⟩
    icases H11 with ⟨%f11, %hf11, H11⟩
    icases HC with ⟨⟨%g1, %hg1, HU1⟩, Hq6, Hh1b⟩
    icases HD with ⟨⟨%e1, %he1, HD1⟩, Hq8, Hh2b⟩
    obtain rfl := harg1.eq_unread hf1; obtain rfl := harg2.eq_unread hf2; obtain rfl := harg6.eq_unread hf6; obtain rfl := harg11.eq_unread hf11
    icases HA with ⟨%g0, %I0, -, Hq5, Hh1⟩
    icases HB with ⟨%e0, %J0, -, Hq7, Hh2⟩
    sl_exec (disch := first | sl_exact hc1)
    sl_step
    iapply Hk
    sl_unfold_words
    isplitl [H1]
    · iexists _; isplitr; swap; · iexact H1
      ipureintro; exact harg1.read_unread _
    isplitl [H2]
    · iexists _; isplitr; swap; · iexact H2
      ipureintro; exact harg2.read_unread _
    isplitl [H6]
    · iexists _; isplitr; swap; · iexact H6
      ipureintro; simp -proj (disch := decide) only [load_ld, ld_rowsF, ld_rowsB, ld_whole_g, pay1_eq, pay12_eq, pay10_eq]; exact out_pieces arg6 _ x0 w1 w2 (xRows w3 n) x1
    isplitl [H11]
    · iexists _, _; isplitr; swap; · iexact H11
      ipureintro; rfl
    isplitl [Hq5_dst Hq5 Hh1 Hq7_dst Hq7 Hh2]
    · unfold UH0 DH0 Held
      isplitl [Hq5_dst Hq5 Hh1]
      · isplitl [Hq5_dst]
        · iexists _; isplitr; swap; · iexact Hq5_dst
          ipureintro; trivial
        isplitl [Hq5]; · iexact Hq5
        iexact Hh1
      isplitl [Hq7_dst]
      · iexists _; isplitr; swap; · iexact Hq7_dst
        ipureintro; trivial
      isplitl [Hq7]; · iexact Hq7
      iexact Hh2
    isplitl [HU1 Hq6 Hh1b]
    · isplitl [HU1]
      · iexists _; isplitr; swap; · iexact HU1
        ipureintro; exact trivial
      isplitl [Hq6]; · iexact Hq6
      iexact Hh1b
    isplitl [HD1 Hq8 Hh2b]
    · isplitl [HD1]
      · iexists _; isplitr; swap; · iexact HD1
        ipureintro; exact trivial
      isplitl [Hq8]; · iexact Hq8
      iexact Hh2b
    isplitl [Hq9]; · iexact Hq9
    isplitl [Hh3]; · iexact Hh3
    iexists _; iexact HW

end Ffn

end
-- ==== Proof.Ffn.Launch.lean ====
module

public import proofs.«01_k».proof.Proof.Ffn.RunA
public import proofs.«01_k».proof.Proof.Ffn.RunB
public import proofs.«01_k».proof.Proof.Ffn.RunC
public import Idealize.ShloMosaic.Lib.Claim

@[expose] public section

set_option maxRecDepth 16384

noncomputable section

namespace Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The whole scratch buffers and their two slots -/

/-- The part of the up weight's scratch that is slot `j`, and of the down weight's. -/
theorem inb_uslot (j : Fin 2) : ∀ a, (![j.val, 0, 0] : Fin 3 → ℕ) a + S1x2048x512.size a ≤ S2x2048x512.size a := by
  have := j.isLt; intro a; fin_cases a <;> simp <;> omega
theorem inb_dslot (j : Fin 2) : ∀ a, (![j.val, 0, 0] : Fin 3 → ℕ) a + S1x512x2048.size a ≤ S2x512x2048.size a := by
  have := j.isLt; intro a; fin_cases a <;> simp <;> omega
abbrev uSet (j : Fin 2) : Finset S2x2048x512.Idx := (Rect.unit (s := S2x2048x512) ![j.val, 0, 0] S1x2048x512.size (inb_uslot j)).set
abbrev dSet (j : Fin 2) : Finset S2x512x2048.Idx := (Rect.unit (s := S2x512x2048) ![j.val, 0, 0] S1x512x2048.size (inb_dslot j)).set

/-- The two slots of a scratch are apart and cover it. -/
theorem uSet_disjoint (j j' : Fin 2) (hj : j ≠ j') : Disjoint (uSet j) (uSet j') :=
  Ring.lead_disjoint (s := S2x2048x512) (0 : Fin 3) 1 (fun j : Fin 2 => (![j.val, 0, 0] : Fin 3 → Nat)) S1x2048x512.size inb_uslot (fun j => by simp) rfl j j' hj
theorem uSet_cover : Finset.univ.biUnion uSet = Finset.univ :=
  Ring.lead_cover (s := S2x2048x512) (0 : Fin 3) 1 (fun j : Fin 2 => (![j.val, 0, 0] : Fin 3 → Nat)) S1x2048x512.size inb_uslot (fun j => by simp)
    (fun j a ha => by fin_cases a <;> first | exact absurd rfl ha | rfl) rfl (fun a ha => by fin_cases a <;> first | exact absurd rfl ha | rfl) rfl
theorem dSet_disjoint (j j' : Fin 2) (hj : j ≠ j') : Disjoint (dSet j) (dSet j') :=
  Ring.lead_disjoint (s := S2x512x2048) (0 : Fin 3) 1 (fun j : Fin 2 => (![j.val, 0, 0] : Fin 3 → Nat)) S1x512x2048.size inb_dslot (fun j => by simp) rfl j j' hj
theorem dSet_cover : Finset.univ.biUnion dSet = Finset.univ :=
  Ring.lead_cover (s := S2x512x2048) (0 : Fin 3) 1 (fun j : Fin 2 => (![j.val, 0, 0] : Fin 3 → Nat)) S1x512x2048.size inb_dslot (fun j => by simp)
    (fun j a ha => by fin_cases a <;> first | exact absurd rfl ha | rfl) rfl (fun a ha => by fin_cases a <;> first | exact absurd rfl ha | rfl) rfl

/-- A slot's elements are its rectangle's. -/
theorem uSlot0_set : (uSlot0 scM0_0).view.set = uSet 0 := by simp only [uSlot0, Memref.view_squeeze, View.set_reshape]; exact View.set_slice_whole _ _
theorem uSlot1_set : (uSlot1 scM0_0).view.set = uSet 1 := by simp only [uSlot1, Memref.view_squeeze, View.set_reshape]; exact View.set_slice_whole _ _
theorem dSlot0_set : (dSlot0 scM0_1).view.set = dSet 0 := by simp only [dSlot0, Memref.view_squeeze, View.set_reshape]; exact View.set_slice_whole _ _
theorem dSlot1_set : (dSlot1 scM0_1).view.set = dSet 1 := by simp only [dSlot1, Memref.view_squeeze, View.set_reshape]; exact View.set_slice_whole _ _

/-- A slot held at `f`. -/
abbrev uPt0 (c : Dev nD) (f : HbBuf0 (F := F) c scM0_0) : sProp 𝕄 := iprop((uSlot0 scM0_0).view.loc (c : Thread nD τ) ↦[(uSlot0 scM0_0).view.set]{fullShare} f)
abbrev uPt1 (c : Dev nD) (f : HbBuf0 (F := F) c scM0_0) : sProp 𝕄 := iprop((uSlot1 scM0_0).view.loc (c : Thread nD τ) ↦[(uSlot1 scM0_0).view.set]{fullShare} f)
abbrev dPt0 (c : Dev nD) (f : HbBuf0 (F := F) c scM0_1) : sProp 𝕄 := iprop((dSlot0 scM0_1).view.loc (c : Thread nD τ) ↦[(dSlot0 scM0_1).view.set]{fullShare} f)
abbrev dPt1 (c : Dev nD) (f : HbBuf0 (F := F) c scM0_1) : sProp 𝕄 := iprop((dSlot1 scM0_1).view.loc (c : Thread nD τ) ↦[(dSlot1 scM0_1).view.set]{fullShare} f)
theorem uPt0_eq (c : Dev nD) (f : HbBuf0 (F := F) c scM0_0) : uPt0 c f = (scM0_0.view.loc (c : Thread nD τ) ↦[uSet 0]{fullShare} f : sProp 𝕄) := by unfold uPt0; rw [uSlot0_set]
theorem uPt1_eq (c : Dev nD) (f : HbBuf0 (F := F) c scM0_0) : uPt1 c f = (scM0_0.view.loc (c : Thread nD τ) ↦[uSet 1]{fullShare} f : sProp 𝕄) := by unfold uPt1; rw [uSlot1_set]
theorem dPt0_eq (c : Dev nD) (f : HbBuf0 (F := F) c scM0_1) : dPt0 c f = (scM0_1.view.loc (c : Thread nD τ) ↦[dSet 0]{fullShare} f : sProp 𝕄) := by unfold dPt0; rw [dSlot0_set]
theorem dPt1_eq (c : Dev nD) (f : HbBuf0 (F := F) c scM0_1) : dPt1 c f = (scM0_1.view.loc (c : Thread nD τ) ↦[dSet 1]{fullShare} f : sProp 𝕄) := by unfold dPt1; rw [dSlot1_set]

/-- The whole scratch at anything is its two slots at something each, and back. -/
theorem u_in (c : Dev nD) : iprop(∃ d, owns (c : Thread nD τ) scM0_0 fullShare d) ⊢ (iprop((∃ f, uPt0 c f) ∗ ∃ f, uPt1 c f) : sProp 𝕄) := by
  simp only [owns_whole]
  exact Ring.slots2_split (ℓ := scM0_0.view.loc (c : Thread nD τ)) (q := fullShare) uSet uSet_disjoint uSet_cover (uPt0 c) (uPt1 c) (uPt0_eq c) (uPt1_eq c)
theorem u_out (c : Dev nD) : (iprop((∃ f, uPt0 c f) ∗ ∃ f, uPt1 c f) : sProp 𝕄) ⊢ iprop(∃ d, owns (c : Thread nD τ) scM0_0 fullShare d) := by
  simp only [owns_whole]
  exact Ring.slots2_join (ℓ := scM0_0.view.loc (c : Thread nD τ)) (q := fullShare) uSet uSet_disjoint uSet_cover (uPt0 c) (uPt1 c) (uPt0_eq c) (uPt1_eq c)
theorem d_in (c : Dev nD) : iprop(∃ d, owns (c : Thread nD τ) scM0_1 fullShare d) ⊢ (iprop((∃ f, dPt0 c f) ∗ ∃ f, dPt1 c f) : sProp 𝕄) := by
  simp only [owns_whole]
  exact Ring.slots2_split (ℓ := scM0_1.view.loc (c : Thread nD τ)) (q := fullShare) dSet dSet_disjoint dSet_cover (dPt0 c) (dPt1 c) (dPt0_eq c) (dPt1_eq c)
theorem d_out (c : Dev nD) : (iprop((∃ f, dPt0 c f) ∗ ∃ f, dPt1 c f) : sProp 𝕄) ⊢ iprop(∃ d, owns (c : Thread nD τ) scM0_1 fullShare d) := by
  simp only [owns_whole]
  exact Ring.slots2_join (ℓ := scM0_1.view.loc (c : Thread nD τ)) (q := fullShare) dSet dSet_disjoint dSet_cover (dPt0 c) (dPt1 c) (dPt0_eq c) (dPt1_eq c)

/-! ## The pipeline's proof data -/

/-- The halves of a weight's share that the copies into slot 0 and into slot 1 borrow from. -/
abbrev qL : PosShare TreeShare := fullShare.left
abbrev qR : PosShare TreeShare := fullShare.right

/-- Slot 0 of each weight's scratch before point `n`: at rest before the first point and after the last, chunk 0 on its
    way between. -/
def slots0 (c : Dev nD) (n : ℕ) : sProp 𝕄 :=
  if n = 0 ∨ 8 ≤ n then iprop(UH0 c scM0_0 qL (V m c main_arg1) (fun _ => True) ∗ DH0 c scM0_1 qL (V m c main_arg2) (fun _ => True))
  else iprop(UF0 c scM0_0 qL (V m c main_arg1) 0 ∗ DF0 c scM0_1 qL (V m c main_arg2) 0)

/-- The invariant between points: the slots, the accumulator at anything, the residual's counter at zero, the residual
    as launched, the generator register. -/
def PhiV (c : Dev nD) (n : ℕ) : sProp 𝕄 :=
  iprop(slots0 m c n ∗ UH1 c scM0_0 qR (V m c main_arg1) (fun _ => True) ∗ DH1 c scM0_1 qR (V m c main_arg2) (fun _ => True)
    ∗ (∃ d, owns (c : Thread nD τ) scM0_4 fullShare d) ∗ semVal ((c : Thread nD τ), SemLoc.dma 9) 0
    ∗ (hbM0_3.view.loc (c : Thread nD τ) ↦{fullShare} (V m c main_arg3)) ∗ (∃ r, prngReg c r))

/-- The proof data of the pipeline: each input's buffer keeps its block, the output's is the point's block of the result. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (V m c main_arg1) (V m c main_arg2) (xRows (V m c main_arg3) t.val) (iblk m c 1 t)
  Φ t := PhiV m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlk (iblk m c 0 t) (V m c main_arg1) (V m c main_arg2) (xRows (V m c main_arg3) t.val) (iblk m c 1 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
/-- The body at any point: the inputs' memrefs hold their blocks, the closed forms of the two conditions say whether the
    point is the first, the last or between, and the run of that case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = PhiV m c (t.val + 1) from rfl, show (dats m 0 c).Φ t.castSucc = PhiV m c t.val from rfl]
  unfold PhiV
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val = 0
  · rw [slots0, slots0, if_pos (show t.val = 0 ∨ 8 ≤ t.val by omega), if_neg (show ¬ (t.val + 1 = 0 ∨ 8 ≤ t.val + 1) by omega)]
    iintro ⟨⟨HA, HC, HD, HS, Hq, Hh, Hg⟩, ⟨%W, -, HW⟩, ⟨%d0, H0⟩, ⟨%d1, H1⟩, ⟨%d2, H2⟩⟩
    iapply ((runA c (grid0.coords t) _ _ _ _ _ _ _ _ _ _ _ _ qL qR (V m c main_arg1) (V m c main_arg2) (V m c main_arg3) ((hcond0_0 t).mpr h0) (fun h => absurd ((hcond0_1 t).mp h) (by omega)) t.val hN (off1_eq t) (iblk m c 0 t) (iblk m c 1 t)) W _)
    isplitl [H0]; · iexact H0
    isplitl [H1]; · iexact H1
    isplitl [H2]; · iexists _; iexact H2
    isplitl [HS]; · iexact HS
    isplitl [HA]; · iexact HA
    isplitl [HC]; · iexact HC
    isplitl [HD]; · iexact HD
    isplitl [Hq]; · iexact Hq
    isplitl [Hh]; · iexact Hh
    isplitl [HW]; · iexact HW
    iintro ⟨H0, H1, H2, HS, HA, HC, HD, Hq, Hh, ⟨%W', HW'⟩⟩
    isplitl [HA HC HD HS Hq Hh Hg]
    · isplitl [HA]; · iexact HA
      isplitl [HC]; · iexact HC
      isplitl [HD]; · iexact HD
      isplitl [HS]; · iexact HS
      isplitl [Hq]; · iexact Hq
      isplitl [Hh]; · iexact Hh
      iexact Hg
    isplitl [HW']
    · iexists W'; isplitr; · ipureintro; exact fun _ _ => Or.inl trivial
      iexact HW'
    isplitl [H0]; · iexact H0
    isplitl [H1]; · iexact H1
    iexact H2
  · by_cases h1 : t.val = 7
    · rw [slots0, slots0, if_neg (show ¬ (t.val = 0 ∨ 8 ≤ t.val) by omega), if_pos (show t.val + 1 = 0 ∨ 8 ≤ t.val + 1 by omega)]
      iintro ⟨⟨HA, HC, HD, HS, Hq, Hh, Hg⟩, ⟨%W, -, HW⟩, ⟨%d0, H0⟩, ⟨%d1, H1⟩, ⟨%d2, H2⟩⟩
      iapply ((runC c (grid0.coords t) _ _ _ _ _ _ _ _ _ _ _ _ qL qR (V m c main_arg1) (V m c main_arg2) (V m c main_arg3) (fun h => h0 ((hcond0_0 t).mp h)) ((hcond0_1 t).mpr h1) t.val hN (off1_eq t) (iblk m c 0 t) (iblk m c 1 t)) W _)
      isplitl [H0]; · iexact H0
      isplitl [H1]; · iexact H1
      isplitl [H2]; · iexists _; iexact H2
      isplitl [HS]; · iexact HS
      isplitl [HA]; · iexact HA
      isplitl [HC]; · iexact HC
      isplitl [HD]; · iexact HD
      isplitl [Hq]; · iexact Hq
      isplitl [Hh]; · iexact Hh
      isplitl [HW]; · iexact HW
      iintro ⟨H0, H1, H2, HS, HA, HC, HD, Hq, Hh, ⟨%W', HW'⟩⟩
      isplitl [HA HC HD HS Hq Hh Hg]
      · isplitl [HA]; · iexact HA
        isplitl [HC]; · iexact HC
        isplitl [HD]; · iexact HD
        isplitl [HS]; · iexact HS
        isplitl [Hq]; · iexact Hq
        isplitl [Hh]; · iexact Hh
        iexact Hg
      isplitl [HW']
      · iexists W'; isplitr; · ipureintro; exact fun _ _ => Or.inl trivial
        iexact HW'
      isplitl [H0]; · iexact H0
      isplitl [H1]; · iexact H1
      iexact H2
    · rw [slots0, slots0, if_neg (show ¬ (t.val = 0 ∨ 8 ≤ t.val) by omega), if_neg (show ¬ (t.val + 1 = 0 ∨ 8 ≤ t.val + 1) by omega)]
      iintro ⟨⟨HA, HC, HD, HS, Hq, Hh, Hg⟩, ⟨%W, -, HW⟩, ⟨%d0, H0⟩, ⟨%d1, H1⟩, ⟨%d2, H2⟩⟩
      iapply ((runB c (grid0.coords t) _ _ _ _ _ _ _ _ _ _ _ _ qL qR (V m c main_arg1) (V m c main_arg2) (V m c main_arg3) (fun h => h0 ((hcond0_0 t).mp h)) (fun h => h1 ((hcond0_1 t).mp h)) t.val hN (off1_eq t) (iblk m c 0 t) (iblk m c 1 t)) W _)
      isplitl [H0]; · iexact H0
      isplitl [H1]; · iexact H1
      isplitl [H2]; · iexists _; iexact H2
      isplitl [HS]; · iexact HS
      isplitl [HA]; · iexact HA
      isplitl [HC]; · iexact HC
      isplitl [HD]; · iexact HD
      isplitl [Hq]; · iexact Hq
      isplitl [Hh]; · iexact Hh
      isplitl [HW]; · iexact HW
      iintro ⟨H0, H1, H2, HS, HA, HC, HD, Hq, Hh, ⟨%W', HW'⟩⟩
      isplitl [HA HC HD HS Hq Hh Hg]
      · isplitl [HA]; · iexact HA
        isplitl [HC]; · iexact HC
        isplitl [HD]; · iexact HD
        isplitl [HS]; · iexact HS
        isplitl [Hq]; · iexact Hq
        isplitl [Hh]; · iexact Hh
        iexact Hg
      isplitl [HW']
      · iexists W'; isplitr; · ipureintro; exact fun _ _ => Or.inl trivial
        iexact HW'
      isplitl [H0]; · iexact H0
      isplitl [H1]; · iexact H1
      iexact H2
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The invariant before the first point is what the launch hands over: the scratches cut into their slots, each weight's
    share halved. -/
theorem phi_in (c : Dev nD) : Pipeline.ΦD osem0 spec0 H0 (V m) c ⊢ (dats m 0 c).Φ 0 := by
  rw [show (dats m 0 c).Φ 0 = PhiV m c 0 from rfl, PhiD0_eq]
  unfold PhiV hbPt0
  rw [slots0, if_pos (Or.inl rfl)]
  unfold UH0 DH0 UH1 DH1 Held
  iintro ⟨⟨HU, HD, HS⟩, Hg, ⟨Hq5, Hq6, Hq7, Hq8, Hq9⟩, Hw1, Hw2, Hw3⟩
  ihave HU' := (u_in c) $$ HU
  ihave HD' := (d_in c) $$ HD
  ihave Hw1' := (pointsTo_share (PosShare.mem_left_op_right fullShare)).1 $$ Hw1
  ihave Hw2' := (pointsTo_share (PosShare.mem_left_op_right fullShare)).1 $$ Hw2
  icases HU' with ⟨⟨%f0, HU0⟩, ⟨%f1, HU1⟩⟩
  icases HD' with ⟨⟨%g0, HD0⟩, ⟨%g1, HD1⟩⟩
  icases Hw1' with ⟨Hw1a, Hw1b⟩
  icases Hw2' with ⟨Hw2a, Hw2b⟩
  isplitl [HU0 Hq5 Hw1a HD0 Hq7 Hw2a]
  · isplitl [HU0 Hq5 Hw1a]
    · isplitl [HU0]
      · iexists f0; isplitr; · ipureintro; trivial
        iexact HU0
      isplitl [Hq5]; · iexact Hq5
      iexact Hw1a
    · isplitl [HD0]
      · iexists g0; isplitr; · ipureintro; trivial
        iexact HD0
      isplitl [Hq7]; · iexact Hq7
      iexact Hw2a
  isplitl [HU1 Hq6 Hw1b]
  · isplitl [HU1]
    · iexists f1; isplitr; · ipureintro; trivial
      iexact HU1
    isplitl [Hq6]; · iexact Hq6
    iexact Hw1b
  isplitl [HD1 Hq8 Hw2b]
  · isplitl [HD1]
    · iexists g1; isplitr; · ipureintro; trivial
      iexact HD1
    isplitl [Hq8]; · iexact Hq8
    iexact Hw2b
  isplitl [HS]; · iexact HS
  isplitl [Hq9]; · iexact Hq9
  isplitl [Hw3]; · iexact Hw3
  iexact Hg

/-- The invariant after the last point gives back what the launch takes. -/
theorem phi_out (c : Dev nD) : (dats m 0 c).Φ (Fin.last cfg0.N) ⊢ Pipeline.ΦD osem0 spec0 H0 (V m) c := by
  rw [show (dats m 0 c).Φ (Fin.last cfg0.N) = PhiV m c 8 from rfl, PhiD0_eq]
  unfold PhiV hbPt0
  rw [slots0, if_pos (Or.inr (le_refl 8))]
  unfold UH0 DH0 UH1 DH1 Held
  iintro ⟨⟨⟨⟨%f0, -, HU0⟩, Hq5, Hw1a⟩, ⟨⟨%g0, -, HD0⟩, Hq7, Hw2a⟩⟩, ⟨⟨%f1, -, HU1⟩, Hq6, Hw1b⟩, ⟨⟨%g1, -, HD1⟩, Hq8, Hw2b⟩, HS, Hq9, Hw3, Hg⟩
  isplitl [HU0 HU1 HD0 HD1 HS]
  · isplitl [HU0 HU1]
    · iapply (u_out c)
      isplitl [HU0]; · iexists f0; iexact HU0
      iexists f1; iexact HU1
    isplitl [HD0 HD1]
    · iapply (d_out c)
      isplitl [HD0]; · iexists g0; iexact HD0
      iexists g1; iexact HD1
    iexact HS
  isplitl [Hg]; · iexact Hg
  isplitl [Hq5 Hq6 Hq7 Hq8 Hq9]
  · isplitl [Hq5]; · iexact Hq5
    isplitl [Hq6]; · iexact Hq6
    isplitl [Hq7]; · iexact Hq7
    isplitl [Hq8]; · iexact Hq8
    iexact Hq9
  isplitl [Hw1a Hw1b]
  · iapply (pointsTo_share (PosShare.mem_left_op_right fullShare)).2
    isplitl [Hw1a]; · iexact Hw1a
    iexact Hw1b
  isplitl [Hw2a Hw2b]
  · iapply (pointsTo_share (PosShare.mem_left_op_right fullShare)).2
    isplitl [Hw2a]; · iexact Hw2a
    iexact Hw2b
  iexact Hw3

set_option backward.isDefEq.respectTransparency.types false in
/-- The launch: every execution terminates with the arrays at the proof data's contents, every other unscoped buffer
    unchanged and every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- What a run ends with: the result array at the proof data's contents, the arguments unchanged, every counter at zero. -/
theorem run_result : θ_run defs (onTc (τ := τ) (main (F := F))) ⟨m, fun _ => 0, ρ⟩ (fun r => (∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 2),
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 1).trans (((dats m 0 c).arrAt_in 1 rfl _).trans ((A_eq m c 1).trans (V_main_arg4 m c)))⟩, h.2⟩) (run_main m ρ)

end Ffn

end
-- ==== Proof.Ffn.Value.lean ====
/- The feed-forward call's result array over the extended reals, as one function of the argument arrays. -/
module

public import proofs.«01_k».proof.Proof.Ffn.Launch
public import Idealize.ShloMosaic.PureOps.Ideal.Laws

@[expose] public section

set_option maxRecDepth 16384

noncomputable section

namespace Ffn

open Cert.Kernel2Ideal Cert.Kernel2Ideal.Gen
open Idealize.ShloMosaic Idealize.ShloMosaic.TcCoe Idealize.ShloMosaic.Tactic Idealize.SL.Sem

/-! ## The whole arrays' function -/

/-- The square of the positive part. -/
def relu2 (s : EReal) : EReal := max s (Ideal.ofBits .f32 0x00000000#32) * max s (Ideal.ofBits .f32 0x00000000#32)

/-- Chunk `n`'s part of a row's output at column `c`. -/
def chunk (h : Fin 2048 → EReal) (w1 : Vec Ideal S16x2048x512 .bf16) (w2 : Vec Ideal S8192x2048 .bf16) (c : Fin 2048) (n : ℕ) : EReal :=
  ∑ d : Fin 512, relu2 (∑ k : Fin 2048, h k * uLd w1 n (ix3 0 k d)) * dLd w2 n (ix3 0 d c)

/-- A row scaled to unit root mean square, times the gain, added to the residual. -/
def normAdd (y : Fin 2048 → EReal) (x g : EReal) (c : Fin 2048) : EReal :=
  x + y c * Ideal.rsqrt (Ideal.div (∑ k : Fin 2048, y k * y k) (Ideal.ofBits .f32 0x45000000#32) + Ideal.ofBits .f32 0x358637BD#32) * g

theorem pay3_apply (x : Vec Ideal S1024x2048 .bf16) (w1 : Vec Ideal S16x2048x512 .bf16) (w2 : Vec Ideal S8192x2048 .bf16) (n : ℕ) (r : Fin 1024) (c : Fin 2048) :
    k0_pay3 x (uLd w1 n) (dLd w2 n) (ix2 r c) = chunk (fun k => x (ix2 r k)) w1 w2 c n := by
  unfold chunk relu2
  generalize uLd w1 n = u
  generalize dLd w2 n = d
  pointwise [k0_pay3]

theorem step_apply (a : Vec Ideal S1024x2048 .f32) (x : Vec Ideal S1024x2048 .bf16) (w1 : Vec Ideal S16x2048x512 .bf16) (w2 : Vec Ideal S8192x2048 .bf16) (n : ℕ) (r : Fin 1024) (c : Fin 2048) :
    accStep a x (uLd w1 n) (dLd w2 n) (ix2 r c) = a (ix2 r c) + chunk (fun k => x (ix2 r k)) w1 w2 c n := by
  unfold chunk relu2
  generalize uLd w1 n = u
  generalize dLd w2 n = d
  pointwise [accStep, k0_pay2]

theorem pay8_apply (a : Vec Ideal S256x2048 .f32) (x : Vec Ideal S256x2048 .bf16) (w1 : Vec Ideal S16x2048x512 .bf16) (w2 : Vec Ideal S8192x2048 .bf16) (n : ℕ) (xr : Vec Ideal S256x2048 .f32) (g : Vec Ideal S1x1x2048 .f32) (r : Fin 256) (c : Fin 2048) :
    k0_pay8 a x (uLd w1 n) (dLd w2 n) xr g (ix2 r c)
      = normAdd (fun c => a (ix2 r c) + chunk (fun k => x (ix2 r k)) w1 w2 c n) (xr (ix2 r c)) (g (ix3 0 0 c)) c := by
  unfold normAdd chunk relu2
  generalize uLd w1 n = u
  generalize dLd w2 n = d
  pointwise [k0_pay8]

/-- The accumulator is the sum of the chunks so far. -/
theorem acc_apply (x : Vec Ideal S1024x2048 .bf16) (w1 : Vec Ideal S16x2048x512 .bf16) (w2 : Vec Ideal S8192x2048 .bf16) (r : Fin 1024) (c : Fin 2048) :
    ∀ n : ℕ, acc x w1 w2 n (ix2 r c) = ∑ k ∈ Finset.range (n + 1), chunk (fun k => x (ix2 r k)) w1 w2 c k
  | 0 => by rw [Finset.sum_range_one]; exact pay3_apply x w1 w2 0 r c
  | n + 1 => by
    rw [Finset.sum_range_succ, ← acc_apply x w1 w2 r c n]
    exact step_apply _ x w1 w2 (n + 1) r c

/-- A hidden element: the squared positive part of a row of the input times a column of the up weight's chunk. -/
def hidden (H : (⟨2, ![8192, 2048]⟩ : Shape).Idx → EReal) (U : (⟨3, ![16, 2048, 512]⟩ : Shape).Idx → EReal) (r : Fin 8192) (j : Fin 8192) : EReal :=
  relu2 (∑ k : Fin 2048, H (ix2 r k) * U (ix3 ⟨j.val / 512, by omega⟩ k ⟨j.val % 512, by omega⟩))

/-- An output element before the normalisation. -/
def outY (H : (⟨2, ![8192, 2048]⟩ : Shape).Idx → EReal) (U : (⟨3, ![16, 2048, 512]⟩ : Shape).Idx → EReal) (D : (⟨2, ![8192, 2048]⟩ : Shape).Idx → EReal) (r : Fin 8192) (c : Fin 2048) : EReal :=
  ∑ j : Fin 8192, hidden H U r j * D (ix2 j c)

/-- The feed-forward result, with the gain of layer 1. -/
def ffn (H : (⟨2, ![8192, 2048]⟩ : Shape).Idx → EReal) (U : (⟨3, ![16, 2048, 512]⟩ : Shape).Idx → EReal) (D X : (⟨2, ![8192, 2048]⟩ : Shape).Idx → EReal)
    (G : (⟨3, ![2, 1, 2048]⟩ : Shape).Idx → EReal) (i : (⟨2, ![8192, 2048]⟩ : Shape).Idx) : EReal :=
  normAdd (outY H U D ⟨(i 0).val, (i 0).isLt⟩) (X i) (G (ix3 1 0 ⟨(i 1).val, (i 1).isLt⟩)) ⟨(i 1).val, (i 1).isLt⟩

/-- The sixteen chunks together are the whole sum over the hidden elements. -/
theorem chunks_eq (H : (⟨2, ![8192, 2048]⟩ : Shape).Idx → EReal) (U : Vec Ideal S16x2048x512 .bf16) (D : Vec Ideal S8192x2048 .bf16) (r : Fin 8192) (c : Fin 2048) :
    ∑ k ∈ Finset.range 15, chunk (fun k => H (ix2 r k)) U D c k + chunk (fun k => H (ix2 r k)) U D c 15 = outY H U D r c := by
  rw [← Finset.sum_range_succ, Finset.sum_range, outY, Fin.sum_univ_tiles 16 512 rfl]
  refine Finset.sum_congr rfl fun n _ => Finset.sum_congr rfl fun d _ => ?_
  have hn : n.val < 16 := n.isLt
  have hd : d.val < 512 := d.isLt
  refine congrArg₂ (· * ·) (congrArg relu2 (Finset.sum_congr rfl fun k _ => congrArg (H (ix2 r k) * ·) (congrArg (U : S16x2048x512.Idx → EReal) (funext fun a => Fin.ext ?_)))) (congrArg (D : S8192x2048.Idx → EReal) (funext fun a => Fin.ext ?_))
  · match a with
    | ⟨0, _⟩ => show n.val % 16 = (n.val * 512 + d.val) / 512; omega
    | ⟨1, _⟩ => rfl
    | ⟨2, _⟩ => show d.val = (n.val * 512 + d.val) % 512; omega
  · match a with
    | ⟨0, _⟩ => show 512 * (n.val % 16) + d.val = n.val * 512 + d.val; rw [Nat.mod_eq_of_lt hn]; omega
    | ⟨1, _⟩ => rfl

variable (m : (ℓ : Loc nD τ sig) → Buf (Elt Ideal) ℓ) (ρ : Dev nD → PrngReg)

/-- Where each window's block stands in its array at each point. -/
theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 3) = 1 ∧ win0_1.index t (1 : Fin 3) = 0 ∧ win0_1.index t (2 : Fin 3) = 0 :=
  (by decide +kernel : ∀ t : Fin grid0.N, _)
theorem index2 : ∀ t : Fin cfg0.N, win0_2.index t (0 : Fin 2) = t.val ∧ win0_2.index t (1 : Fin 2) = 0 := (by decide +kernel : ∀ t : Fin grid0.N, _)

theorem tlt (t : Fin cfg0.N) : t.val < 8 := lt_of_lt_of_eq t.isLt (show cfg0.N = 8 from N_0)

/-- The point's rows of the input. -/
theorem iblk0_apply (c : Dev nD) (t : Fin cfg0.N) (r : Fin 1024) (k : Fin 2048) :
    (iblk m c 0 t : Vec Ideal S1024x2048 .bf16) (ix2 r k) = (V m c main_arg0 : S8192x2048.Idx → EReal) (ix2 ⟨1024 * t.val + r.val, by have := tlt t; omega⟩ k) := by
  obtain ⟨e0, e1⟩ := index0 t
  show V m c main_arg0 (((cfg0.win 0).blk t).view.emb (ix2 r k)) = _
  refine congrArg (V m c main_arg0) (funext fun a => Fin.ext ?_)
  match a with
  | ⟨0, _⟩ => show win0_0.index t (0 : Fin 2) * 1024 + 1 * r.val = 1024 * t.val + r.val; omega
  | ⟨1, _⟩ => show win0_0.index t (1 : Fin 2) * 2048 + 1 * k.val = k.val; omega

/-- The gain of layer 1. -/
theorem iblk1_apply (c : Dev nD) (t : Fin cfg0.N) (k : Fin 2048) :
    (iblk m c 1 t : Vec Ideal S1x1x2048 .f32) (ix3 0 0 k) = (V m c main_arg4 : S2x1x2048.Idx → EReal) (ix3 1 0 k) := by
  obtain ⟨e0, e1, e2⟩ := index1 t
  show V m c main_arg4 (((cfg0.win 1).blk t).view.emb (ix3 0 0 k)) = _
  refine congrArg (V m c main_arg4) (funext fun a => Fin.ext ?_)
  match a with
  | ⟨0, _⟩ => show win0_1.index t (0 : Fin 3) * 1 + 1 * 0 = 1; omega
  | ⟨1, _⟩ => show win0_1.index t (1 : Fin 3) * 1 + 1 * 0 = 0; omega
  | ⟨2, _⟩ => show win0_1.index t (2 : Fin 3) * 2048 + 1 * k.val = k.val; omega

/-- What a point leaves in the output's buffer, over any blocks of the input. -/
theorem outBlk_apply (x : Vec Ideal S1024x2048 .bf16) (w1 : Vec Ideal S16x2048x512 .bf16) (w2 : Vec Ideal S8192x2048 .bf16) (xr : Vec Ideal S1024x2048 .f32) (g : Vec Ideal S1x1x2048 .f32) (r : Fin 1024) (c : Fin 2048) :
    outBlk x w1 w2 xr g (ix2 r c)
      = normAdd (fun c => ∑ k ∈ Finset.range 15, chunk (fun k => x (ix2 r k)) w1 w2 c k + chunk (fun k => x (ix2 r k)) w1 w2 c 15) (xr (ix2 r c)) (g (ix3 0 0 c)) c := by
  have e : ∀ h, (⟨(256 * (r.val / 256) + r.val % 256) % 1024, h⟩ : Fin 1024) = r := fun h => Fin.ext (by show (256 * (r.val / 256) + r.val % 256) % 1024 = r.val; omega)
  refine (pay8_apply (rowsF (acc x w1 w2 14) (256 * (r.val / 256))) (rowsB x (256 * (r.val / 256))) w1 w2 15 (rowsF xr (256 * (r.val / 256))) g ⟨r.val % 256, by omega⟩ c).trans ?_
  have eF : ∀ (a : Vec Ideal S1024x2048 .f32) (k : Fin 2048), rowsF a (256 * (r.val / 256)) (ix2 (⟨r.val % 256, by omega⟩ : Fin 256) k) = a (ix2 r k) :=
    fun a k => congrArg (fun q : Fin 1024 => a (ix2 q k)) (e _)
  have eB : ∀ (a : Vec Ideal S1024x2048 .bf16) (k : Fin 2048), rowsB a (256 * (r.val / 256)) (ix2 (⟨r.val % 256, by omega⟩ : Fin 256) k) = a (ix2 r k) :=
    fun a k => congrArg (fun q : Fin 1024 => a (ix2 q k)) (e _)
  simp only [eF, eB, acc_apply]

/-- What a point leaves in the output's buffer: its rows of the result. -/
theorem block_apply (c : Dev nD) (t : Fin cfg0.N) (r : Fin 1024) (k : Fin 2048) :
    outBlk (iblk m c 0 t) (V m c main_arg1) (V m c main_arg2) (xRows (V m c main_arg3) t.val) (iblk m c 1 t) (ix2 r k)
      = ffn (V m c main_arg0) (V m c main_arg1) (V m c main_arg2) (V m c main_arg3) (V m c main_arg4) (ix2 ⟨1024 * t.val + r.val, by have := tlt t; omega⟩ k) := by
  have ht := tlt t
  refine (outBlk_apply _ _ _ _ _ r k).trans ?_
  have hx : (fun k => (iblk m c 0 t : Vec Ideal S1024x2048 .bf16) (ix2 r k)) = fun k => (V m c main_arg0 : S8192x2048.Idx → EReal) (ix2 ⟨1024 * t.val + r.val, by omega⟩ k) :=
    funext fun k => iblk0_apply m c t r k
  rw [hx, iblk1_apply]
  have hxr : xRows (V m c main_arg3) t.val (ix2 r k) = (V m c main_arg3 : S8192x2048.Idx → EReal) (ix2 ⟨1024 * t.val + r.val, by omega⟩ k) :=
    congrArg (fun q : Fin 8192 => (V m c main_arg3 : S8192x2048.Idx → EReal) (ix2 q k)) (Fin.ext (by show (1024 * t.val + r.val) % 8192 = 1024 * t.val + r.val; omega))
  rw [hxr]
  exact congrArg (fun y => normAdd y _ _ k) (funext fun c' => chunks_eq (V m c main_arg0) (V m c main_arg1) (V m c main_arg2) ⟨1024 * t.val + r.val, by omega⟩ c')

/-- What the point writes back is its block of the whole result. -/
theorem flushed2_eq (c : Dev nD) (t : Fin cfg0.N) :
    (dats m 0 c).flushed 2 t
      = ((cfg0.win 2).blk t).view.read (Elt Ideal) (ffn (V m c main_arg0) (V m c main_arg1) (V m c main_arg2) (V m c main_arg3) (V m c main_arg4)) := by
  obtain ⟨e0, e1⟩ := index2 t
  refine funext fun (j : S1024x2048.Idx) => ?_
  show outBlk (iblk m c 0 t) (V m c main_arg1) (V m c main_arg2) (xRows (V m c main_arg3) t.val) (iblk m c 1 t) j = ffn _ _ _ _ _ (((cfg0.win 2).blk t).view.emb j)
  have hj : j = ix2 (⟨(j 0).val, (j 0).isLt⟩ : Fin 1024) (⟨(j 1).val, (j 1).isLt⟩ : Fin 2048) :=
    funext fun a => Fin.ext (by match a with | ⟨0, _⟩ => rfl | ⟨1, _⟩ => rfl)
  refine (congrArg (outBlk (iblk m c 0 t) (V m c main_arg1) (V m c main_arg2) (xRows (V m c main_arg3) t.val) (iblk m c 1 t)) hj).trans ((block_apply m c t _ _).trans ?_)
  refine congrArg (ffn _ _ _ _ _) (funext fun a => Fin.ext ?_)
  match a with
  | ⟨0, _⟩ => show 1024 * t.val + (j 0).val = win0_2.index t (0 : Fin 2) * 1024 + 1 * (j 0).val; omega
  | ⟨1, _⟩ => show (j 1).val = win0_2.index t (1 : Fin 2) * 2048 + 1 * (j 1).val; omega

/-- Every element of the result is in some point's block. -/
theorem covered2 (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  have ht : (i 0).val / 1024 < cfg0.N := by rw [show cfg0.N = 8 from N_0]; omega
  refine ⟨⟨(i 0).val / 1024, ht⟩, flush0_2 _, ?_⟩
  obtain ⟨e0, e1⟩ := index2 ⟨(i 0).val / 1024, ht⟩
  have e : i = ((cfg0.win 2).blk ⟨(i 0).val / 1024, ht⟩).view.emb (ix2 (⟨(i 0).val % 1024, by omega⟩ : Fin 1024) (⟨(i 1).val, h1⟩ : Fin 2048) : S1024x2048.Idx) := by
    refine funext fun a => Fin.ext ?_
    match a with
    | ⟨0, _⟩ => show (i 0).val = win0_2.index ⟨(i 0).val / 1024, ht⟩ (0 : Fin 2) * 1024 + 1 * ((i 0).val % 1024); rw [e0]; show (i 0).val = (i 0).val / 1024 * 1024 + 1 * ((i 0).val % 1024); omega
    | ⟨1, _⟩ => show (i 1).val = win0_2.index ⟨(i 0).val / 1024, ht⟩ (1 : Fin 2) * 2048 + 1 * (i 1).val; rw [e1]; omega
  exact (congrArg (fun x : S8192x2048.Idx => x ∈ ((cfg0.win 2).blk ⟨(i 0).val / 1024, ht⟩).view.set) e).mpr (View.emb_mem_set _ _)

/-- The result array after the run. -/
theorem final2 (c : Dev nD) : (dats m 0 c).arrAt 2 cfg0.N
    = ffn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  ((dats m 0 c).arrAt_eq_of_cover 2 (ffn (V m c main_arg0) (V m c main_arg1) (V m c main_arg2) (V m c main_arg3) (V m c main_arg4)) (fun t _ => flushed2_eq m c t) covered2).trans
    (by rw [V_main_arg0, V_main_arg1, V_main_arg2, V_main_arg3, V_main_arg4])

end Ffn
end
-- ==== Proof.Ffn.Ref.lean ====
/- The reference's feed-forward layer read element by element: it is the kernel's function. -/
module

public import proofs.«01_k».proof.Proof.Ffn.Value
public import proofs.«01_k».proof.Proof.Gen.Reference2Ideal.Read
public import Idealize.ShloMosaic.Lib.Pointwise
public import Idealize.ShloMosaic.PureOps.Ideal.Laws

@[expose] public section

set_option maxRecDepth 16384

noncomputable section

namespace Ffn

open Cert.Reference2Ideal Cert.Reference2Ideal.Gen Cert.Reference2Ideal.Read
open Idealize.ShloMosaic Idealize.ShloMosaic.TcCoe Idealize.ShloMosaic.Tactic

variable (x0 x2 : (⟨S8192x2048, .bf16⟩ : BufTy).Contents (Elt Ideal)) (x1 : (⟨S16x2048x512, .bf16⟩ : BufTy).Contents (Elt Ideal)) (x3 : (⟨S8192x2048, .f32⟩ : BufTy).Contents (Elt Ideal)) (x4 : (⟨S2x1x2048, .f32⟩ : BufTy).Contents (Elt Ideal))

/-- The up weight laid out as one matrix. -/
theorem v2_at (k : Fin 2048) (j : Fin 8192) :
    val_main_v2 (F := Ideal) x1 (ix2 k j) = x1 (ix3 ⟨j.val / 512, by omega⟩ k ⟨j.val % 512, by omega⟩) := by
  rw [val_main_v2_apply, val_main_v1_apply, val_main_v0_apply, Ideal.extf_def]
  refine congrArg x1 (funext fun a => Fin.ext ?_)
  match a with
  | ⟨0, _⟩ => show (k.val * 8192 + j.val) / 512 % 16 = j.val / 512; omega
  | ⟨1, _⟩ => show (k.val * 8192 + j.val) / 8192 = k.val; omega
  | ⟨2, _⟩ => show (k.val * 8192 + j.val) % 512 = j.val % 512; omega

/-- A hidden element. -/
theorem v6_at (r j : Fin 8192) : val_main_v6 (F := Ideal) x0 x1 (ix2 r j) = hidden x0 x1 r j := by
  have h4 : val_main_v4 (F := Ideal) x0 x1 (ix2 r j) = ∑ k : Fin 2048, x0 (ix2 r k) * x1 (ix3 ⟨j.val / 512, by omega⟩ k ⟨j.val % 512, by omega⟩) := by
    rw [val_main_v4_apply]
    refine Finset.sum_congr rfl fun k _ => congrArg₂ (· * ·) ?_ ((congrArg _ (funext fun a => ?_)).trans (v2_at x1 k j))
    · rw [val_main_v3_apply, Ideal.extf_def]
      refine congrArg x0 (funext fun a => ?_)
      match a with
      | ⟨0, _⟩ => rfl
      | ⟨1, _⟩ => rfl
    · match a with
      | ⟨0, _⟩ => rfl
      | ⟨1, _⟩ => rfl
  rw [val_main_v6_apply, val_main_v5_apply, val_main_call0_v0_apply, val_main_call0_cst_apply, h4, Ideal.mulf_def, Ideal.maximumf_def, Ideal.ofBits_def]
  rfl

/-- An output element before the normalisation. -/
theorem v8_at (r : Fin 8192) (c : Fin 2048) : val_main_v8 (F := Ideal) x0 x1 x2 (ix2 r c) = outY x0 x1 x2 r c := by
  rw [val_main_v8_apply]
  refine Finset.sum_congr rfl fun j _ => congrArg₂ (· * ·) ((congrArg _ (funext fun a => ?_)).trans (v6_at x0 x1 r j)) ?_
  · match a with
    | ⟨0, _⟩ => rfl
    | ⟨1, _⟩ => rfl
  · rw [val_main_v7_apply, Ideal.extf_def]
    refine congrArg x2 (funext fun a => ?_)
    match a with
    | ⟨0, _⟩ => rfl
    | ⟨1, _⟩ => rfl

/-- The result at a row and a column. -/
theorem v23_at (r : Fin 8192) (c : Fin 2048) :
    val_main_v23 (F := Ideal) x0 x1 x2 x3 x4 (ix2 r c) = normAdd (outY x0 x1 x2 r) (x3 (ix2 r c)) (x4 (ix3 1 0 c)) c := by
  rw [show outY x0 x1 x2 r = fun c => val_main_v8 (F := Ideal) x0 x1 x2 (ix2 r c) from funext fun c => (v8_at x0 x2 x1 r c).symm]
  unfold normAdd
  unfold val_main_v23 val_main_v22 val_main_v21 val_main_v20 val_main_v19 val_main_v18 val_main_v17 val_main_v16 val_main_v15 val_main_v14 val_main_v13 val_main_v12 val_main_v11 val_main_v10 val_main_v9 val_main_cst val_main_cst_0 val_main_cst_1
  generalize val_main_v8 (F := Ideal) x0 x1 x2 = y
  pointwise []

/-- The reference's result is the kernel's function. -/
theorem ref_ffn : val_main_v23 (F := Ideal) x0 x1 x2 x3 x4 = ffn x0 x1 x2 x3 x4 := by
  refine funext fun (i : (⟨2, ![8192, 2048]⟩ : Shape).Idx) => ?_
  have h0 : (i 0).val < 8192 := (i 0).isLt
  have h1 : (i 1).val < 2048 := (i 1).isLt
  have hi : i = ix2 (⟨(i 0).val, h0⟩ : Fin 8192) (⟨(i 1).val, h1⟩ : Fin 2048) :=
    funext fun a => Fin.ext (by match a with | ⟨0, _⟩ => rfl | ⟨1, _⟩ => rfl)
  refine (congrArg (val_main_v23 (F := Ideal) x0 x1 x2 x3 x4) hi).trans ((v23_at x0 x2 x1 x3 x4 _ _).trans ?_)
  exact congrArg (fun j : (⟨2, ![8192, 2048]⟩ : Shape).Idx => normAdd (outY x0 x1 x2 ⟨(i 0).val, h0⟩) (x3 j) (x4 (ix3 1 0 ⟨(i 1).val, h1⟩)) ⟨(i 1).val, h1⟩) hi.symm

end Ffn
end
-- ==== Proof.Proj.Kit.lean ====
/- The set-up the output projection's hand proof at the ideal elements is stated over: the windows' blocks, the
   closed forms of the body's two conditions, the staging and scratch memrefs, the invariant listed. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2048x2048 .bf16 := Memref.whole cc0_scratch0
abbrev scM0_1 : Memref sig .tc .vmem S2x256x2048 .f32 := Memref.whole cc0_scratch1
/-- The operands left in HBM that the body copies into scratch itself, whole. -/
abbrev hbM0_0 : Memref sig .tc .hbm S2x2048x2048 .f32 := Memref.whole main_arg1
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 10, SemLoc.dma 11] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0) := by
  rw [Pipeline.ownSems0_eq_of_list c osem0 [0, 1] (by decide) (by decide)]; rfl
/-- The HBM operands the body moves, as references: unscoped, no window's array (`Pipeline.restRefs`). -/
def H0 : Finset (Ref sig .tc) := {main_arg1}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg1)) := by
  rw [BI.bigSep_eq_bigSepL_of_eq [main_arg1] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 10) 0 ∗ semVal ((c : Thread nD τ), SemLoc.dma 11) 0) ∗ iprop(hbPt0 c hbM0_0 (V m c main_arg1))) := by
  rw [Pipeline.ΦD_eq, scopedRest0_eq, ownSems00_eq, hbmPts0_eq]; simp only [scM0_0, scM0_1, owns_whole]; try rfl

end Proj

end
-- ==== Proof.Proj.Spec.lean ====
/- What the output projection's body leaves, as plain functions of what it reads: the weight's cast, the new residual and
   its normalised rows; and how the run's terms (slots filled by copies, listed stores) read as those functions. -/
module

public import proofs.«01_k».proof.Proof.Proj.Kit
public import Idealize.ShloMosaic.Lib.Pointwise
public import Idealize.ShloMosaic.Lib.WholeRead
public import Idealize.ShloMosaic.Lib.Pipeline.Value

@[expose] public section

set_option maxRecDepth 16384

noncomputable section

namespace Proj

open Cert.Kernel3Ideal Cert.Kernel3Ideal.Gen
open Idealize.ShloMosaic Idealize.ShloMosaic.TcCoe Idealize.ShloMosaic.Tactic

variable {F : FTy → Type} [FloatOps F]

/-- The weight of layer 0 cast to the scratch's element type. -/
def wcast (w : S2x2048x2048.Idx → Elt F .f32) : Vec F S2048x2048 .bf16 :=
  truncf .bf16 (fun i : S2048x2048.Idx => w (ix3 0 (i 0) (i 1))) bitsLt_bf16_f32

/-- The new residual as the first point computes it, from eight partial products. -/
def xnFirst (x : Vec F S512x2048 .bf16) (w : Vec F S2048x2048 .bf16) (xr : Vec F S512x2048 .f32) (g : Vec F S1x1x2048 .f32) : FVec F S512x2048 .f32 :=
  k0_pay15 (k0_pay13 (k0_pay10 (k0_pay8 (k0_pay6 (k0_pay4
      (View.ld (Val := Elt F) x (Rect.unit (s := S512x2048) ![0, 0] S512x256.size inb_S512x2048_S512x256_0_0)) (View.ld (Val := Elt F) w (Rect.unit (s := S2048x2048) ![0, 0] S256x2048.size inb_S2048x2048_S256x2048_0_0))
      (View.ld (Val := Elt F) x (Rect.unit (s := S512x2048) ![0, 256] S512x256.size inb_S512x2048_S512x256_0_256)) (View.ld (Val := Elt F) w (Rect.unit (s := S2048x2048) ![256, 0] S256x2048.size inb_S2048x2048_S256x2048_256_0)))
      (View.ld (Val := Elt F) x (Rect.unit (s := S512x2048) ![0, 512] S512x256.size inb_S512x2048_S512x256_0_512)) (View.ld (Val := Elt F) w (Rect.unit (s := S2048x2048) ![512, 0] S256x2048.size inb_S2048x2048_S256x2048_512_0)))
      (View.ld (Val := Elt F) x (Rect.unit (s := S512x2048) ![0, 768] S512x256.size inb_S512x2048_S512x256_0_768)) (View.ld (Val := Elt F) w (Rect.unit (s := S2048x2048) ![768, 0] S256x2048.size inb_S2048x2048_S256x2048_768_0)))
      (View.ld (Val := Elt F) x (Rect.unit (s := S512x2048) ![0, 1024] S512x256.size inb_S512x2048_S512x256_0_1024)) (View.ld (Val := Elt F) w (Rect.unit (s := S2048x2048) ![1024, 0] S256x2048.size inb_S2048x2048_S256x2048_1024_0)))
      (View.ld (Val := Elt F) x (Rect.unit (s := S512x2048) ![0, 1280] S512x256.size inb_S512x2048_S512x256_0_1280)) (View.ld (Val := Elt F) w (Rect.unit (s := S2048x2048) ![1280, 0] S256x2048.size inb_S2048x2048_S256x2048_1280_0))
      (View.ld (Val := Elt F) x (Rect.unit (s := S512x2048) ![0, 1536] S512x256.size inb_S512x2048_S512x256_0_1536)) (View.ld (Val := Elt F) w (Rect.unit (s := S2048x2048) ![1536, 0] S256x2048.size inb_S2048x2048_S256x2048_1536_0)))
      (View.ld (Val := Elt F) x (Rect.unit (s := S512x2048) ![0, 1792] S512x256.size inb_S512x2048_S512x256_0_1792)) (View.ld (Val := Elt F) w (Rect.unit (s := S2048x2048) ![1792, 0] S256x2048.size inb_S2048x2048_S256x2048_1792_0)) xr g

/-- The first point's new residual, the weight's rows given as equal to the cast weight's. -/
theorem xnFirst_of (x : Vec F S512x2048 .bf16) (w : Vec F S2048x2048 .bf16) (xr : Vec F S512x2048 .f32) (g : Vec F S1x1x2048 .f32) (d0 d1 d2 d3 d4 d5 d6 d7 : Vec F S256x2048 .bf16)
    (h0 : d0 = View.ld (Val := Elt F) w (Rect.unit (s := S2048x2048) ![0, 0] S256x2048.size inb_S2048x2048_S256x2048_0_0))
    (h1 : d1 = View.ld (Val := Elt F) w (Rect.unit (s := S2048x2048) ![256, 0] S256x2048.size inb_S2048x2048_S256x2048_256_0))
    (h2 : d2 = View.ld (Val := Elt F) w (Rect.unit (s := S2048x2048) ![512, 0] S256x2048.size inb_S2048x2048_S256x2048_512_0))
    (h3 : d3 = View.ld (Val := Elt F) w (Rect.unit (s := S2048x2048) ![768, 0] S256x2048.size inb_S2048x2048_S256x2048_768_0))
    (h4 : d4 = View.ld (Val := Elt F) w (Rect.unit (s := S2048x2048) ![1024, 0] S256x2048.size inb_S2048x2048_S256x2048_1024_0))
    (h5 : d5 = View.ld (Val := Elt F) w (Rect.unit (s := S2048x2048) ![1280, 0] S256x2048.size inb_S2048x2048_S256x2048_1280_0))
    (h6 : d6 = View.ld (Val := Elt F) w (Rect.unit (s := S2048x2048) ![1536, 0] S256x2048.size inb_S2048x2048_S256x2048_1536_0))
    (h7 : d7 = View.ld (Val := Elt F) w (Rect.unit (s := S2048x2048) ![1792, 0] S256x2048.size inb_S2048x2048_S256x2048_1792_0)) :
    k0_pay15 (k0_pay13 (k0_pay10 (k0_pay8 (k0_pay6 (k0_pay4
          (View.ld (Val := Elt F) x (Rect.unit (s := S512x2048) ![0, 0] S512x256.size inb_S512x2048_S512x256_0_0)) d0
          (View.ld (Val := Elt F) x (Rect.unit (s := S512x2048) ![0, 256] S512x256.size inb_S512x2048_S512x256_0_256)) d1)
          (View.ld (Val := Elt F) x (Rect.unit (s := S512x2048) ![0, 512] S512x256.size inb_S512x2048_S512x256_0_512)) d2)
          (View.ld (Val := Elt F) x (Rect.unit (s := S512x2048) ![0, 768] S512x256.size inb_S512x2048_S512x256_0_768)) d3)
          (View.ld (Val := Elt F) x (Rect.unit (s := S512x2048) ![0, 1024] S512x256.size inb_S512x2048_S512x256_0_1024)) d4)
          (View.ld (Val := Elt F) x (Rect.unit (s := S512x2048) ![0, 1280] S512x256.size inb_S512x2048_S512x256_0_1280)) d5
          (View.ld (Val := Elt F) x (Rect.unit (s := S512x2048) ![0, 1536] S512x256.size inb_S512x2048_S512x256_0_1536)) d6)
          (View.ld (Val := Elt F) x (Rect.unit (s := S512x2048) ![0, 1792] S512x256.size inb_S512x2048_S512x256_0_1792)) d7 xr g = xnFirst x w xr g := by
  subst h0 h1 h2 h3 h4 h5 h6 h7
  rfl

/-- A load of a whole memref held at contents that read `x`, at a rectangle. -/
theorem load_ld {sp : Space} {s : Shape} {e : EltTy} {arg : Memref sig .tc sp s e} (harg : arg.IsWhole) (x : s.Idx → Elt F e) (r : Rect s) :
    View.readAt (Elt F) arg.view r.toLoadRect (harg.unread x) = View.ld (Val := Elt F) x r :=
  funext fun j => harg.readAt_unread x _ j

/-- A slot of the stage filled by a copy, loaded through the stage and freed of its unit axis, is what was copied. -/
theorem slot_load (M : Memref sig .tc .vmem S2x256x2048 .f32) (r : Rect S2x256x2048) (hr : ∀ a, r.stride a = 1) (hq : r.shape.Squeezes S256x2048)
    (hc : r.shape.ShapeCasts S256x2048) (f : M.view.ty.Contents (Elt F)) (d : S256x2048.Idx → Elt F .f32) :
    shapeCast S256x2048 (M.view.readAt (Elt F) r.toLoadRect (((M.slice r hr).squeeze S256x2048 hq).view.write (Elt F) f d Finset.univ)) hc = d := by
  rw [← Memref.read_squeeze_slice M r hr hq hc]
  exact View.read_write_univ _ _

/-- The rows of the weight of layer 0 that a copy brings. -/
theorem src_read (o : ℕ) (inb : ∀ a, (![0, o, 0] : Fin 3 → ℕ) a + S1x256x2048.size a ≤ S2x2048x2048.size a) (hr) (hq : S1x256x2048.Squeezes S256x2048)
    {c : Dev nD} (w : HbBuf0 (F := F) c hbM0_0) (j : S256x2048.Idx) :
    View.read (Elt F) ((hbM0_0.slice (Rect.unit (s := S2x2048x2048) ![0, o, 0] S1x256x2048.size inb) hr).squeeze S256x2048 hq).view w j
      = (w : S2x2048x2048.Idx → Elt F .f32) (ix3 0 ⟨o + (j 0).val, by have := inb 1; have : (j 0).val < 256 := (j 0).isLt; simp at *; omega⟩ (j 1)) := by
  refine (congrFun (Memref.read_squeeze_slice _ _ hr hq shapeCasts_S1x256x2048_S256x2048 _) j).trans ?_
  refine (shapeCast_apply _ _ j (ix3 (0 : Fin 1) (j 0 : Fin 256) (j 1 : Fin 2048)) ?_).trans ?_
  · rw [Shape.rowMajor_val_two, Shape.rowMajor_val_three]
    show (0 * 256 + (j 0).val) * 2048 + (j 1).val = (j 0).val * 2048 + (j 1).val
    omega
  refine congrArg (w : S2x2048x2048.Idx → Elt F .f32) (funext fun a => Fin.ext ?_)
  match a with
  | ⟨0, _⟩ => rfl
  | ⟨1, _⟩ => show o + 1 * (j 0).val = o + (j 0).val; omega
  | ⟨2, _⟩ => show 0 + 1 * (j 1).val = (j 1).val; omega

/-- A copy into one slot of the stage does not change what a load of the other slot reads. -/
theorem slot_skip (M : Memref sig .tc .vmem S2x256x2048 .f32) (a b : ℕ) (hab : a ≠ b)
    (ia : ∀ x, (![a, 0, 0] : Fin 3 → ℕ) x + S1x256x2048.size x ≤ S2x256x2048.size x) (ib : ∀ x, (![b, 0, 0] : Fin 3 → ℕ) x + S1x256x2048.size x ≤ S2x256x2048.size x)
    (hr) (hq : S1x256x2048.Squeezes S256x2048) (f : M.view.ty.Contents (Elt F)) (d : S256x2048.Idx → Elt F .f32) :
    M.view.readAt (Elt F) (Rect.unit (s := S2x256x2048) ![a, 0, 0] S1x256x2048.size ia).toLoadRect
        (((M.slice (Rect.unit (s := S2x256x2048) ![b, 0, 0] S1x256x2048.size ib) hr).squeeze S256x2048 hq).view.write (Elt F) f d Finset.univ)
      = M.view.readAt (Elt F) (Rect.unit (s := S2x256x2048) ![a, 0, 0] S1x256x2048.size ia).toLoadRect f := by
  funext j
  rw [View.readAt_apply, View.readAt_apply]
  show View.read (Elt F) M.view (((M.view.slice (Rect.unit (s := S2x256x2048) ![b, 0, 0] S1x256x2048.size ib)).reshape S256x2048 hq.numel_eq).write (Elt F) f d Finset.univ) _ = _
  rw [View.write_reshape_univ, View.read_slice_write_of_not_mem]
  rw [Rect.map_emb_univ, Rect.mem_set_unit]
  intro h
  have h0 := h 0
  have hj : (j 0).val < 1 := (j 0).isLt
  change b ≤ a + 1 * (j 0).val ∧ a + 1 * (j 0).val < b + 1 at h0
  omega

/-- The rows a copy left in a slot, loaded and cast, are the cast of what was copied. -/
theorem pay_slot (M : Memref sig .tc .vmem S2x256x2048 .f32) (a : ℕ)
    (ia : ∀ x, (![a, 0, 0] : Fin 3 → ℕ) x + S1x256x2048.size x ≤ S2x256x2048.size x) (hr) (hq : S1x256x2048.Squeezes S256x2048)
    (f : M.view.ty.Contents (Elt F)) (d : S256x2048.Idx → Elt F .f32) :
    k0_pay2 (M.view.readAt (Elt F) (Rect.unit (s := S2x256x2048) ![a, 0, 0] S1x256x2048.size ia).toLoadRect
        (((M.slice (Rect.unit (s := S2x256x2048) ![a, 0, 0] S1x256x2048.size ia) hr).squeeze S256x2048 hq).view.write (Elt F) f d Finset.univ))
      = truncf .bf16 (d : FVec F S256x2048 .f32) bitsLt_bf16_f32 := by
  unfold k0_pay2
  dsimp only
  rw [shapeCast_self, slot_load M _ hr hq]

/-- The cast of the rows a copy brings is the weight's cast at those rows. -/
theorem chunk_ld (o : ℕ) (inb : ∀ a, (![0, o, 0] : Fin 3 → ℕ) a + S1x256x2048.size a ≤ S2x2048x2048.size a) (hr') (hq' : S1x256x2048.Squeezes S256x2048)
    (inb' : ∀ x, (![o, 0] : Fin 2 → ℕ) x + S256x2048.size x ≤ S2048x2048.size x)
    {c : Dev nD} (w : HbBuf0 (F := F) c hbM0_0) :
    truncf .bf16 (ReadAs.same.apply (View.read (Elt F) ((hbM0_0.slice (Rect.unit (s := S2x2048x2048) ![0, o, 0] S1x256x2048.size inb) hr').squeeze S256x2048 hq').view w) : FVec F S256x2048 .f32) bitsLt_bf16_f32
      = View.ld (Val := Elt F) (wcast w) (Rect.unit (s := S2048x2048) ![o, 0] S256x2048.size inb') := by
  funext j
  refine congrArg (FloatOps.truncf (F := F) (φ := .f32) .bf16 bitsLt_bf16_f32) ((src_read o inb hr' hq' w j).trans (congrArg w (funext fun a => Fin.ext ?_)))
  match a with
  | ⟨0, _⟩ => rfl
  | ⟨1, _⟩ => show o + (j 0).val = o + 1 * (j 0).val; omega
  | ⟨2, _⟩ => show (j 1).val = 0 + 1 * (j 1).val; omega

/-- The eight chunks' casts are one function. -/
theorem pay_casts : k0_pay3 (F := F) = k0_pay2 ∧ k0_pay5 (F := F) = k0_pay2 ∧ k0_pay7 (F := F) = k0_pay2 ∧ k0_pay9 (F := F) = k0_pay2
    ∧ k0_pay11 (F := F) = k0_pay2 ∧ k0_pay12 (F := F) = k0_pay2 ∧ k0_pay14 (F := F) = k0_pay2 := ⟨rfl, rfl, rfl, rfl, rfl, rfl, rfl⟩

/-- The normalised rows the first point writes. -/
def hoFirst (x : Vec F S512x2048 .bf16) (w : Vec F S2048x2048 .bf16) (xr : Vec F S512x2048 .f32) (g gn : Vec F S1x1x2048 .f32) : FVec F S512x2048 .bf16 :=
  k0_pay1 (xnFirst x w xr g) gn

/-- 128 rows of a block, from row `128 k`. -/
def rowsOf {e : EltTy} (x : S512x2048.Idx → Elt F e) (k : ℕ) : S128x2048.Idx → Elt F e :=
  fun i => x (ix2 ⟨(128 * k + (i 0).val) % 512, Nat.mod_lt _ (by decide)⟩ (i 1))

/-- A block put together from four pieces of 128 rows. -/
def rows4 {e : EltTy} (b : ℕ → S128x2048.Idx → Elt F e) : S512x2048.Idx → Elt F e :=
  fun i => b ((i 0).val / 128) (ix2 ⟨(i 0).val % 128, Nat.mod_lt _ (by decide)⟩ (i 1))

/-- The new residual as a later point computes it, 128 rows at a time. -/
def xnLater (x : Vec F S512x2048 .bf16) (w : Vec F S2048x2048 .bf16) (xr : Vec F S512x2048 .f32) (g : Vec F S1x1x2048 .f32) : Vec F S512x2048 .f32 :=
  rows4 (e := .f32) fun k => k0_pay16 (rowsOf (e := .bf16) x k) w (rowsOf (e := .f32) xr k) g

/-- The normalised rows a later point writes, 128 at a time. -/
def hoLater (x : Vec F S512x2048 .bf16) (w : Vec F S2048x2048 .bf16) (xr : Vec F S512x2048 .f32) (g gn : Vec F S1x1x2048 .f32) : Vec F S512x2048 .bf16 :=
  rows4 (e := .bf16) fun k => k0_pay17 (rowsOf (e := .bf16) x k) w (rowsOf (e := .f32) xr k) g gn

/-- A load of 128 rows of a block. -/
theorem ld_rows {e : EltTy} (x : S512x2048.Idx → Elt F e) (k : ℕ) (hk : k < 4) (o : Fin 2 → ℕ) (ho : o = ![128 * k, 0]) (inb : ∀ a, o a + S128x2048.size a ≤ S512x2048.size a) :
    View.ld (Val := Elt F) x (Rect.unit (s := S512x2048) o S128x2048.size inb) = rowsOf x k := by
  subst ho
  refine funext fun j => congrArg x (funext fun a => Fin.ext ?_)
  have hj : (j 0).val < 128 := (j 0).isLt
  match a with
  | ⟨0, _⟩ => show 128 * k + 1 * (j 0).val = (128 * k + (j 0).val) % 512; omega
  | ⟨1, _⟩ => show 0 + 1 * (j 1).val = (j 1).val; omega

/-- One piece of a block put together, at its rows. -/
theorem rows4_at {e : EltTy} (b : ℕ → S128x2048.Idx → Elt F e) (k o : ℕ) (ho : o = 128 * k) (inb : ∀ a, (![o, 0] : Fin 2 → ℕ) a + S128x2048.size a ≤ S512x2048.size a) (y : S128x2048.Idx) :
    b k y = rows4 b ((Rect.unit (s := S512x2048) ![o, 0] S128x2048.size inb).emb y) := by
  subst ho
  have hy : (y 0).val < 128 := (y 0).isLt
  have h1 : ((((Rect.unit (s := S512x2048) ![128 * k, 0] S128x2048.size inb).emb y) 0).val) = 128 * k + 1 * (y 0).val := rfl
  unfold rows4
  have e1 : ((((Rect.unit (s := S512x2048) ![128 * k, 0] S128x2048.size inb).emb y) 0).val / 128) = k := by rw [h1]; omega
  rw [e1]
  refine congrArg _ (funext fun a => Fin.ext ?_)
  match a with
  | ⟨0, _⟩ => show (y 0).val = (128 * k + 1 * (y 0).val) % 128; omega
  | ⟨1, _⟩ => show (y 1).val = 0 + 1 * (y 1).val; omega

/-- Four stores of 128 rows, whatever the block held before, put the block together. -/
theorem out_pieces {e : EltTy} (M : Memref sig .tc .vmem S512x2048 e) (f : M.view.ty.Contents (Elt F)) (b : ℕ → S128x2048.Idx → Elt F e) :
    View.read (Elt F) M.view (M.view.writes (Elt F) f
      [⟨Rect.unit (s := S512x2048) ![384, 0] S128x2048.size inb_S512x2048_S128x2048_384_0, b 3⟩,
       ⟨Rect.unit (s := S512x2048) ![256, 0] S128x2048.size inb_S512x2048_S128x2048_256_0, b 2⟩,
       ⟨Rect.unit (s := S512x2048) ![128, 0] S128x2048.size inb_S512x2048_S128x2048_128_0, b 1⟩,
       ⟨Rect.unit (s := S512x2048) ![0, 0] S128x2048.size inb_S512x2048_S128x2048_0_0, b 0⟩]) = rows4 b := by
  refine funext fun y => View.read_writes_apply_of_pieces _ _ (rows4 b) _ ?_ y ?_
  · intro p hp z
    simp only [List.mem_cons, List.not_mem_nil, or_false] at hp
    rcases hp with rfl | rfl | rfl | rfl
    · exact rows4_at b 3 384 rfl inb_S512x2048_S128x2048_384_0 z
    · exact rows4_at b 2 256 rfl inb_S512x2048_S128x2048_256_0 z
    · exact rows4_at b 1 128 rfl inb_S512x2048_S128x2048_128_0 z
    · exact rows4_at b 0 0 rfl inb_S512x2048_S128x2048_0_0 z
  · refine View.cover_of_tiled (s := S512x2048) _ S128x2048.size ?_ y; rfl

/-- One store of the whole block leaves what was stored. -/
theorem out_whole {e : EltTy} (M : Memref sig .tc .vmem S512x2048 e) (f : M.view.ty.Contents (Elt F)) (b : S512x2048.Idx → Elt F e) :
    View.read (Elt F) M.view (M.view.writes (Elt F) f
      [⟨Rect.unit (s := S512x2048) ![0, 0] S512x2048.size inb_S512x2048_S512x2048_0_0, b⟩]) = b := by
  refine funext fun y => View.read_writes_apply_of_pieces _ _ b _ ?_ y ?_
  · intro p hp z
    simp only [List.mem_cons, List.not_mem_nil, or_false] at hp
    subst hp
    refine congrArg b (funext fun a => Fin.ext ?_)
    match a with
    | ⟨0, _⟩ => show (z 0).val = 0 + 1 * (z 0).val; omega
    | ⟨1, _⟩ => show (z 1).val = 0 + 1 * (z 1).val; omega
  · refine View.cover_of_tiled (s := S512x2048) _ S512x2048.size ?_ y; rfl

/-- The four pieces' payloads are one function each. -/
theorem pay_rows : k0_pay18 (F := F) = k0_pay16 ∧ k0_pay20 (F := F) = k0_pay16 ∧ k0_pay22 (F := F) = k0_pay16
    ∧ k0_pay19 (F := F) = k0_pay17 ∧ k0_pay21 (F := F) = k0_pay17 ∧ k0_pay23 (F := F) = k0_pay17 := ⟨rfl, rfl, rfl, rfl, rfl, rfl⟩

/-- Loads of a whole block, of the whole cast weight, or of a whole gain read the contents. -/
theorem ld_whole {e : EltTy} (x : S512x2048.Idx → Elt F e) : View.ld (Val := Elt F) x (Rect.unit (s := S512x2048) ![0, 0] S512x2048.size inb_S512x2048_S512x2048_0_0) = x :=
  View.ld_unit_zero (by decide) _ _

theorem ld_whole_w (w : Vec F S2048x2048 .bf16) : View.ld (Val := Elt F) w (Rect.unit (s := S2048x2048) ![0, 0] S2048x2048.size inb_S2048x2048_S2048x2048_0_0) = w :=
  View.ld_unit_zero (by decide) _ _

theorem ld_whole_g (g : Vec F S1x1x2048 .f32) : View.ld (Val := Elt F) g (Rect.unit (s := S1x1x2048) ![0, 0, 0] S1x1x2048.size inb_S1x1x2048_S1x1x2048_0_0_0) = g :=
  View.ld_unit_zero (by decide) _ _

end Proj

end
-- ==== Proof.Proj.RunA.lean ====
module

public import proofs.«01_k».proof.Proof.Proj.Spec

@[expose] public section

set_option maxRecDepth 16384

noncomputable section

namespace Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 400000 in set_option sl_exec.dmaWindow true in set_option sl_exec.dmaWindowSet true in
/-- The body at the first point: it copies the weight in, leaves the cast weight in the scratch, and writes the new residual and its normalised rows from the product of eight parts. -/
theorem runA (c : Dev nD) (i : grid0.Coords) (arg1 : Memref sig .tc .vmem S512x2048 .bf16) (harg1 : arg1.IsWhole) (arg2 : Memref sig .tc .vmem S512x2048 .f32) (harg2 : arg2.IsWhole) (arg3 : Memref sig .tc .vmem S1x1x2048 .f32) (harg3 : arg3.IsWhole) (arg4 : Memref sig .tc .vmem S1x1x2048 .f32) (harg4 : arg4.IsWhole) (arg6 : Memref sig .tc .vmem S512x2048 .f32) (harg6 : arg6.IsWhole) (arg7 : Memref sig .tc .vmem S512x2048 .bf16) (harg7 : arg7.IsWhole) (arg8 : Memref sig .tc .vmem S2048x2048 .bf16) (harg8 : arg8.IsWhole) (arg9 : Memref sig .tc .vmem S2x256x2048 .f32) (harg9 : arg9.IsWhole) (hc0 : cond0_0 i) (hc1 : ¬cond0_1 i)
    (x0 : Vec F S512x2048 .bf16) (x1 : Vec F S512x2048 .f32) (x2 : Vec F S1x1x2048 .f32) (x3 : Vec F S1x1x2048 .f32) (fh0 : HbBuf0 (F := F) c hbM0_0) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 10) 0 ∗ semVal ((c : Thread nD τ), SemLoc.dma 11) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare (xnFirst x0 (wcast fh0) x1 x2) ∗ owns (c : Thread nD τ) arg7 fullShare (hoFirst x0 (wcast fh0) x1 x2 x3) ∗ owns (c : Thread nD τ) arg8 fullShare (wcast fh0) ∗ (∃ d, owns (c : Thread nD τ) arg9 fullShare d) ∗ semVal ((c : Thread nD τ), SemLoc.dma 10) 0 ∗ semVal ((c : Thread nD τ), SemLoc.dma 11) 0 ∗ hbPt0 c hbM0_0 fh0 ∗ (∃ W', owes (c : Thread nD τ) 0 W')) -∗ K ⟨⟩))
          ⊢ wp frame (wpE (defs₀ (F := F)) Variants.none c none) Set.univ (cc0_proj_res i arg1 harg1 arg2 harg2 arg3 harg3 arg4 harg4 (Memref.whole main_arg1) (Memref.isWhole_whole _) arg6 harg6 arg7 harg7 arg8 harg8 arg9 harg9 cc0_scratch2) K := by
    intro W K
    simp only [cc0_proj_res_eq_skeleton]; unfold cc0_proj_res_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hq0, Hq1, Hh0, HW, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      sl_unfold_words
      simp -proj (disch := decide) only [pay_casts, slot_skip, pay_slot, View.readCov_cons_toLoadRect, load_ld, ld_whole, ld_whole_g]
      refine (out_whole arg6 f4 _).trans ?_
      apply xnFirst_of
      · exact chunk_ld 0 _ _ _ inb_S2048x2048_S256x2048_0_0 fh0
      · exact chunk_ld 256 _ _ _ inb_S2048x2048_S256x2048_256_0 fh0
      · exact chunk_ld 512 _ _ _ inb_S2048x2048_S256x2048_512_0 fh0
      · exact chunk_ld 768 _ _ _ inb_S2048x2048_S256x2048_768_0 fh0
      · exact chunk_ld 1024 _ _ _ inb_S2048x2048_S256x2048_1024_0 fh0
      · exact chunk_ld 1280 _ _ _ inb_S2048x2048_S256x2048_1280_0 fh0
      · exact chunk_ld 1536 _ _ _ inb_S2048x2048_S256x2048_1536_0 fh0
      · exact chunk_ld 1792 _ _ _ inb_S2048x2048_S256x2048_1792_0 fh0
    isplitl [H5]
    · iexists _; isplitr; swap; · iexact H5
      ipureintro
      sl_unfold_words
      simp -proj (disch := decide) only [pay_casts, slot_skip, pay_slot, View.readCov_cons_toLoadRect, load_ld, ld_whole, ld_whole_g]
      refine (out_whole arg7 f5 _).trans (congrArg₂ k0_pay1 ?_ (ld_whole_g x3))
      apply xnFirst_of
      · exact chunk_ld 0 _ _ _ inb_S2048x2048_S256x2048_0_0 fh0
      · exact chunk_ld 256 _ _ _ inb_S2048x2048_S256x2048_256_0 fh0
      · exact chunk_ld 512 _ _ _ inb_S2048x2048_S256x2048_512_0 fh0
      · exact chunk_ld 768 _ _ _ inb_S2048x2048_S256x2048_768_0 fh0
      · exact chunk_ld 1024 _ _ _ inb_S2048x2048_S256x2048_1024_0 fh0
      · exact chunk_ld 1280 _ _ _ inb_S2048x2048_S256x2048_1280_0 fh0
      · exact chunk_ld 1536 _ _ _ inb_S2048x2048_S256x2048_1536_0 fh0
      · exact chunk_ld 1792 _ _ _ inb_S2048x2048_S256x2048_1792_0 fh0
    isplitl [HS0]
    · iexists _; isplitr; swap; · iexact HS0
      ipureintro
      sl_unfold_words
      simp -proj (disch := decide) only [pay_casts, slot_skip, pay_slot]
      refine funext fun y => View.read_writes_apply_of_pieces _ _ (wcast fh0) _ ?_ y ?_
      · intro p hp x
        fin_cases hp
        · exact congrFun (chunk_ld 1792 _ _ _ inb_S2048x2048_S256x2048_1792_0 fh0) x
        · exact congrFun (chunk_ld 1536 _ _ _ inb_S2048x2048_S256x2048_1536_0 fh0) x
        · exact congrFun (chunk_ld 1280 _ _ _ inb_S2048x2048_S256x2048_1280_0 fh0) x
        · exact congrFun (chunk_ld 1024 _ _ _ inb_S2048x2048_S256x2048_1024_0 fh0) x
        · exact congrFun (chunk_ld 768 _ _ _ inb_S2048x2048_S256x2048_768_0 fh0) x
        · exact congrFun (chunk_ld 512 _ _ _ inb_S2048x2048_S256x2048_512_0 fh0) x
        · exact congrFun (chunk_ld 256 _ _ _ inb_S2048x2048_S256x2048_256_0 fh0) x
        · exact congrFun (chunk_ld 0 _ _ _ inb_S2048x2048_S256x2048_0_0 fh0) x
      · refine View.cover_of_tiled (s := S2048x2048) _ S256x2048.size ?_ y; rfl
    isplitl [HS1]
    · iexists _, _; isplitr; swap; · iexact HS1
      ipureintro; rfl
    isplitl [Hq0]; · iexact Hq0
    isplitl [Hq1]; · iexact Hq1
    isplitl [Hh0]; · iexact Hh0
    iexists _; iexact HW

end Proj

end
-- ==== Proof.Proj.RunB.lean ====
module

public import proofs.«01_k».proof.Proof.Proj.Spec

@[expose] public section

set_option maxRecDepth 16384

noncomputable section

namespace Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 400000 in set_option sl_exec.dmaWindow true in set_option sl_exec.dmaWindowSet true in
/-- The body at a later point: the scratch holds the cast weight and keeps it; the new residual and its normalised rows are written 128 rows at a time. -/
theorem runB (c : Dev nD) (i : grid0.Coords) (arg1 : Memref sig .tc .vmem S512x2048 .bf16) (harg1 : arg1.IsWhole) (arg2 : Memref sig .tc .vmem S512x2048 .f32) (harg2 : arg2.IsWhole) (arg3 : Memref sig .tc .vmem S1x1x2048 .f32) (harg3 : arg3.IsWhole) (arg4 : Memref sig .tc .vmem S1x1x2048 .f32) (harg4 : arg4.IsWhole) (arg6 : Memref sig .tc .vmem S512x2048 .f32) (harg6 : arg6.IsWhole) (arg7 : Memref sig .tc .vmem S512x2048 .bf16) (harg7 : arg7.IsWhole) (arg8 : Memref sig .tc .vmem S2048x2048 .bf16) (harg8 : arg8.IsWhole) (arg9 : Memref sig .tc .vmem S2x256x2048 .f32) (harg9 : arg9.IsWhole) (hc0 : ¬cond0_0 i) (hc1 : cond0_1 i)
    (x0 : Vec F S512x2048 .bf16) (x1 : Vec F S512x2048 .f32) (x2 : Vec F S1x1x2048 .f32) (x3 : Vec F S1x1x2048 .f32) (w : Vec F S2048x2048 .bf16) (fh0 : HbBuf0 (F := F) c hbM0_0) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ (∃ d, owns (c : Thread nD τ) arg7 fullShare d) ∗ owns (c : Thread nD τ) arg8 fullShare w ∗ (∃ d, owns (c : Thread nD τ) arg9 fullShare d) ∗ semVal ((c : Thread nD τ), SemLoc.dma 10) 0 ∗ semVal ((c : Thread nD τ), SemLoc.dma 11) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare (xnLater x0 w x1 x2) ∗ owns (c : Thread nD τ) arg7 fullShare (hoLater x0 w x1 x2 x3) ∗ owns (c : Thread nD τ) arg8 fullShare w ∗ (∃ d, owns (c : Thread nD τ) arg9 fullShare d) ∗ semVal ((c : Thread nD τ), SemLoc.dma 10) 0 ∗ semVal ((c : Thread nD τ), SemLoc.dma 11) 0 ∗ hbPt0 c hbM0_0 fh0 ∗ (∃ W', owes (c : Thread nD τ) 0 W')) -∗ K ⟨⟩))
          ⊢ wp frame (wpE (defs₀ (F := F)) Variants.none c none) Set.univ (cc0_proj_res i arg1 harg1 arg2 harg2 arg3 harg3 arg4 harg4 (Memref.whole main_arg1) (Memref.isWhole_whole _) arg6 harg6 arg7 harg7 arg8 harg8 arg9 harg9 cc0_scratch2) K := by
    intro W K
    simp only [cc0_proj_res_eq_skeleton]; unfold cc0_proj_res_skel
    simp only [k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs, HS0⟩, ⟨%ds1, %fs1, -, HS1⟩, Hq0, Hq1, Hh0, HW, Hk⟩
    obtain rfl := harg1.eq_unread hf0; obtain rfl := harg2.eq_unread hf1; obtain rfl := harg3.eq_unread hf2; obtain rfl := harg4.eq_unread hf3; obtain rfl := harg8.eq_unread hfs
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      sl_unfold_words
      simp -proj (disch := decide) only [pay_rows, load_ld, ld_whole_w, ld_whole_g, ld_rows _ 0 (by decide) ![0, 0] rfl, ld_rows _ 1 (by decide) ![128, 0] rfl, ld_rows _ 2 (by decide) ![256, 0] rfl, ld_rows _ 3 (by decide) ![384, 0] rfl]
      exact out_pieces (e := .f32) arg6 f4 fun k => k0_pay16 (rowsOf (e := .bf16) x0 k) w (rowsOf (e := .f32) x1 k) x2
    isplitl [H5]
    · iexists _; isplitr; swap; · iexact H5
      ipureintro
      sl_unfold_words
      simp -proj (disch := decide) only [pay_rows, load_ld, ld_whole_w, ld_whole_g, ld_rows _ 0 (by decide) ![0, 0] rfl, ld_rows _ 1 (by decide) ![128, 0] rfl, ld_rows _ 2 (by decide) ![256, 0] rfl, ld_rows _ 3 (by decide) ![384, 0] rfl]
      exact out_pieces (e := .bf16) arg7 f5 fun k => k0_pay17 (rowsOf (e := .bf16) x0 k) w (rowsOf (e := .f32) x1 k) x2 x3
    isplitl [HS0]
    · iexists _; isplitr; swap; · iexact HS0
      ipureintro; exact harg8.read_unread _
    isplitl [HS1]
    · iexists _, _; isplitr; swap; · iexact HS1
      ipureintro; rfl
    isplitl [Hq0]; · iexact Hq0
    isplitl [Hq1]; · iexact Hq1
    isplitl [Hh0]; · iexact Hh0
    iexists _; iexact HW

end Proj

end
-- ==== Proof.Proj.Launch.lean ====
module

public import proofs.«01_k».proof.Proof.Proj.RunA
public import proofs.«01_k».proof.Proof.Proj.RunB
public import Idealize.ShloMosaic.Lib.Claim

@[expose] public section

set_option maxRecDepth 16384

noncomputable section

namespace Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The new residual is written at every point. -/
theorem live4 (t : Fin cfg0.N) : cfg0.idle 4 (grid0.coords t) = false := by
  have hN : t.val < 16 := lt_of_lt_of_eq t.isLt (show cfg0.N = 16 from N_0)
  show (!(k0_cond1 (grid0.coords t) == 1#1) && !(k0_cond2 (grid0.coords t) == 1#1)) = false
  by_cases h0 : t.val % 16 = 0
  · have h : k0_cond1 (grid0.coords t) = 1#1 := (hcond0_0 t).mpr h0
    simp [h]
  · have h : k0_cond2 (grid0.coords t) = 1#1 := (hcond0_1 t).mpr (by omega)
    simp [h]

/-- The normalised rows are written at every point. -/
theorem live5 (t : Fin cfg0.N) : cfg0.idle 5 (grid0.coords t) = false := by
  have hN : t.val < 16 := lt_of_lt_of_eq t.isLt (show cfg0.N = 16 from N_0)
  show (!(k0_cond1 (grid0.coords t) == 1#1) && !(k0_cond2 (grid0.coords t) == 1#1)) = false
  by_cases h0 : t.val % 16 = 0
  · have h : k0_cond1 (grid0.coords t) = 1#1 := (hcond0_0 t).mpr h0
    simp [h]
  · have h : k0_cond2 (grid0.coords t) = 1#1 := (hcond0_1 t).mpr (by omega)
    simp [h]

/-! ## The pipeline's proof data -/

/-- The cast weight of layer 0. -/
def wAt (c : Dev nD) : Vec F S2048x2048 .bf16 := wcast (V m c main_arg1)

/-- The new residual of a point: at the first point from the product of eight parts, later 128 rows at a time. -/
def xoAt (c : Dev nD) (t : Fin cfg0.N) : Vec F S512x2048 .f32 :=
  if t.val = 0 then xnFirst (iblk m c 0 t) (wAt m c) (iblk m c 1 t) (iblk m c 2 t) else xnLater (iblk m c 0 t) (wAt m c) (iblk m c 1 t) (iblk m c 2 t)

/-- The normalised rows of a point, likewise. -/
def hoAt (c : Dev nD) (t : Fin cfg0.N) : Vec F S512x2048 .bf16 :=
  if t.val = 0 then hoFirst (iblk m c 0 t) (wAt m c) (iblk m c 1 t) (iblk m c 2 t) (iblk m c 3 t) else hoLater (iblk m c 0 t) (wAt m c) (iblk m c 1 t) (iblk m c 2 t) (iblk m c 3 t)

/-- The weight scratch before point `n`: anything at the first point, the cast weight later. -/
def scratchAt (c : Dev nD) (n : ℕ) : sProp 𝕄 :=
  if n = 0 then iprop(∃ d, owns (c : Thread nD τ) scM0_0 fullShare d) else owns (c : Thread nD τ) scM0_0 fullShare (wAt m c)

/-- The invariant between points: the weight scratch, the stage at anything, the generator register, the body's own
    counters at zero and the weight array as launched. -/
def PhiV (c : Dev nD) (n : ℕ) : sProp 𝕄 :=
  iprop(iprop(scratchAt m c n ∗ (∃ d, owns (c : Thread nD τ) scM0_1 fullShare d)) ∗ (∃ r, prngReg c r) ∗ iprop(semVal ((c : Thread nD τ), SemLoc.dma 10) 0 ∗ semVal ((c : Thread nD τ), SemLoc.dma 11) 0) ∗ iprop(hbPt0 c hbM0_0 (V m c main_arg1)))

/-- The proof data of the pipeline: each input's buffer keeps its block, the outputs' are the point's new residual and its normalised rows. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => xoAt m c t
    | ⟨5, _⟩ => hoAt m c t
  Φ t := PhiV m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = xoAt m c t := by dsimp only [dats]
theorem after0_5 (c : Dev nD) (t : Fin cfg0.N) : (dats m 0 c).after 5 t = hoAt m c t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 800000 in
/-- The body at any point: the inputs' memrefs hold their blocks (`before0_W`); the closed forms say which case the point is in (`by_cases`), an output the case reads before covering holds what the point before left (`before0_W_κ`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiV m c (t.val + 1) from rfl, show (dats m 0 c).Φ t.castSucc = PhiV m c t.val from rfl]
  unfold PhiV
  rw [scratchAt, scratchAt, if_neg (show ¬ (t.val + 1 = 0) by omega)]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases h1 : 1 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
        unfold Dat.leavesExact; rw [live4 t], after0_4]
      rw [show (dats m 0 c).leavesExact 5 t = owns (c : Thread nD τ) (ms0_5 t) fullShare ((dats m 0 c).after 5 t) from by
        unfold Dat.leavesExact; rw [live5 t], after0_5]
      rw [xoAt, hoAt, if_pos (show t.val = 0 by omega), if_pos (show t.val = 0 by omega), if_pos (show t.val = 0 by omega)]
      iintro ⟨⟨⟨HS0, HS1⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩⟩
      iapply ((runA c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (V m c main_arg1)) W _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [Hq0]; · iexact Hq0
      isplitl [Hq1]; · iexact Hq1
      isplitl [Hh0]; · iexact Hh0
      isplitl [HW]; · iexact HW
      iintro ⟨H0, H1, H2, H3, H4, H5, HS0, HS1, Hq0, Hq1, Hh0, ⟨%W', HW'⟩⟩
      isplitl [HS0 HS1 Hg Hq0 Hq1 Hh0]
      · isplitl [HS0 HS1]
        · isplitl [HS0]; · iexact HS0
          iexact HS1
        isplitl [Hg]
        · iexact Hg
        isplitl [Hq0 Hq1]
        · isplitl [Hq0]; · iexact Hq0
          iexact Hq1
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      iexact H5
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
        unfold Dat.leavesExact; rw [live4 t], after0_4]
      rw [show (dats m 0 c).leavesExact 5 t = owns (c : Thread nD τ) (ms0_5 t) fullShare ((dats m 0 c).after 5 t) from by
        unfold Dat.leavesExact; rw [live5 t], after0_5]
      rw [xoAt, hoAt, if_neg (show ¬ (t.val = 0) by omega), if_neg (show ¬ (t.val = 0) by omega), if_neg (show ¬ (t.val = 0) by omega)]
      iintro ⟨⟨⟨HS0, HS1⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩⟩
      iapply ((runB c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (wAt m c) (V m c main_arg1)) W _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [Hq0]; · iexact Hq0
      isplitl [Hq1]; · iexact Hq1
      isplitl [Hh0]; · iexact Hh0
      isplitl [HW]; · iexact HW
      iintro ⟨H0, H1, H2, H3, H4, H5, HS0, HS1, Hq0, Hq1, Hh0, ⟨%W', HW'⟩⟩
      isplitl [HS0 HS1 Hg Hq0 Hq1 Hh0]
      · isplitl [HS0 HS1]
        · isplitl [HS0]; · iexact HS0
          iexact HS1
        isplitl [Hg]
        · iexact Hg
        isplitl [Hq0 Hq1]
        · isplitl [Hq0]; · iexact Hq0
          iexact Hq1
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      iexact H5
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The invariant before the first point is what the launch hands over. -/
theorem phi_in (c : Dev nD) : Pipeline.ΦD osem0 spec0 H0 (V m) c ⊢ (dats m 0 c).Φ 0 := by
  rw [show (dats m 0 c).Φ 0 = PhiV m c 0 from rfl, PhiD0_eq]
  exact .rfl

/-- The invariant after the last point gives back what the launch takes. -/
theorem phi_out (c : Dev nD) : (dats m 0 c).Φ (Fin.last cfg0.N) ⊢ Pipeline.ΦD osem0 spec0 H0 (V m) c := by
  rw [show (dats m 0 c).Φ (Fin.last cfg0.N) = PhiV m c 16 from rfl, PhiD0_eq]
  unfold PhiV
  rw [scratchAt, if_neg (by decide)]
  iintro ⟨⟨HS0, HS1⟩, Hg, Hq, Hh⟩
  isplitl [HS0 HS1]
  · isplitl [HS0]; · iexists _; iexact HS0
    iexact HS1
  isplitl [Hg]; · iexact Hg
  isplitl [Hq]; · iexact Hq
  iexact Hh

set_option backward.isDefEq.respectTransparency.types false in
/-- The launch: every execution terminates with the arrays at the proof data's contents, every other unscoped buffer
    unchanged and every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- What a run ends with: the two result arrays at the proof data's contents, the arguments unchanged, every counter at zero. -/
theorem run_result : θ_run defs (onTc (τ := τ) (main (F := F))) ⟨m, fun _ => 0, ρ⟩ (fun r => (∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 4), ((h.1 c).1 5),
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 1).trans (((dats m 0 c).arrAt_in 1 rfl _).trans ((A_eq m c 1).trans (V_main_arg2 m c))),
      ((h.1 c).1 2).trans (((dats m 0 c).arrAt_in 2 rfl _).trans ((A_eq m c 2).trans (V_main_arg3 m c))),
      ((h.1 c).1 3).trans (((dats m 0 c).arrAt_in 3 rfl _).trans ((A_eq m c 3).trans (V_main_arg4 m c)))⟩, h.2⟩) (run_main m ρ)

end Proj

end
-- ==== Proof.Proj.Value.lean ====
/- The output projection's two result arrays over the extended reals, as functions of the argument arrays. -/
module

public import proofs.«01_k».proof.Proof.Proj.Launch

@[expose] public section

set_option maxRecDepth 16384

noncomputable section

namespace Proj

open Cert.Kernel3Ideal Cert.Kernel3Ideal.Gen
open Idealize.ShloMosaic Idealize.ShloMosaic.TcCoe Idealize.ShloMosaic.Tactic Idealize.SL.Sem

/-! ## The whole arrays' functions -/

/-- A row scaled to unit root mean square, times the gain. -/
def rms (y : Fin 2048 → EReal) (g : EReal) (c : Fin 2048) : EReal :=
  y c * Ideal.rsqrt (Ideal.div (∑ k : Fin 2048, y k * y k) (Ideal.ofBits .f32 0x45000000#32) + Ideal.ofBits .f32 0x358637BD#32) * g

/-- A row of the input times a column of the weight of layer 0. -/
def prod (A : (⟨2, ![8192, 2048]⟩ : Shape).Idx → EReal) (W : (⟨3, ![2, 2048, 2048]⟩ : Shape).Idx → EReal) (r : Fin 8192) (c : Fin 2048) : EReal :=
  ∑ k : Fin 2048, A (ix2 r k) * W (ix3 0 k c)

/-- The new residual. -/
def xnew (A : (⟨2, ![8192, 2048]⟩ : Shape).Idx → EReal) (W : (⟨3, ![2, 2048, 2048]⟩ : Shape).Idx → EReal) (X : (⟨2, ![8192, 2048]⟩ : Shape).Idx → EReal)
    (G : (⟨3, ![2, 1, 2048]⟩ : Shape).Idx → EReal) (i : (⟨2, ![8192, 2048]⟩ : Shape).Idx) : EReal :=
  X i + rms (prod A W ⟨(i 0).val, (i 0).isLt⟩) (G (ix3 0 0 ⟨(i 1).val, (i 1).isLt⟩)) ⟨(i 1).val, (i 1).isLt⟩

/-- The normalised rows of the new residual. -/
def hnew (A : (⟨2, ![8192, 2048]⟩ : Shape).Idx → EReal) (W : (⟨3, ![2, 2048, 2048]⟩ : Shape).Idx → EReal) (X : (⟨2, ![8192, 2048]⟩ : Shape).Idx → EReal)
    (G Gn : (⟨3, ![2, 1, 2048]⟩ : Shape).Idx → EReal) (i : (⟨2, ![8192, 2048]⟩ : Shape).Idx) : EReal :=
  rms (fun c => xnew A W X G (ix2 ⟨(i 0).val, (i 0).isLt⟩ c)) (Gn (ix3 0 0 ⟨(i 1).val, (i 1).isLt⟩)) ⟨(i 1).val, (i 1).isLt⟩

/-! ## The body's blocks, element by element -/

theorem pay16_apply (a : Vec Ideal S128x2048 .bf16) (w : Vec Ideal S2048x2048 .bf16) (x : Vec Ideal S128x2048 .f32) (g : Vec Ideal S1x1x2048 .f32) (r : Fin 128) (c : Fin 2048) :
    k0_pay16 a w x g (ix2 r c) = x (ix2 r c) + rms (fun c => ∑ k : Fin 2048, a (ix2 r k) * w (ix2 k c)) (g (ix3 0 0 c)) c := by
  unfold rms
  pointwise [k0_pay16]

theorem pay17_apply (a : Vec Ideal S128x2048 .bf16) (w : Vec Ideal S2048x2048 .bf16) (x : Vec Ideal S128x2048 .f32) (g gn : Vec Ideal S1x1x2048 .f32) (r : Fin 128) (c : Fin 2048) :
    k0_pay17 a w x g gn (ix2 r c) = rms (fun c => k0_pay16 a w x g (ix2 r c)) (gn (ix3 0 0 c)) c := by
  unfold rms k0_pay17
  generalize k0_pay16 a w x g = y
  pointwise []

theorem pay15_apply (y : Vec Ideal S512x2048 .f32) (a : Vec Ideal S512x256 .bf16) (w : Vec Ideal S256x2048 .bf16) (x : Vec Ideal S512x2048 .f32) (g : Vec Ideal S1x1x2048 .f32) (r : Fin 512) (c : Fin 2048) :
    k0_pay15 y a w x g (ix2 r c) = x (ix2 r c) + rms (fun c => y (ix2 r c) + ∑ k : Fin 256, a (ix2 r k) * w (ix2 k c)) (g (ix3 0 0 c)) c := by
  unfold rms
  pointwise [k0_pay15]

theorem pay1_apply (y : Vec Ideal S512x2048 .f32) (g : Vec Ideal S1x1x2048 .f32) (r : Fin 512) (c : Fin 2048) :
    k0_pay1 y g (ix2 r c) = rms (fun c => y (ix2 r c)) (g (ix3 0 0 c)) c := by
  unfold rms
  pointwise [k0_pay1]

theorem xnFirst_apply (a : Vec Ideal S512x2048 .bf16) (w : Vec Ideal S2048x2048 .bf16) (x : Vec Ideal S512x2048 .f32) (g : Vec Ideal S1x1x2048 .f32) (r : Fin 512) (c : Fin 2048) :
    xnFirst a w x g (ix2 r c) = x (ix2 r c) + rms (fun c => ∑ k : Fin 2048, a (ix2 r k) * w (ix2 k c)) (g (ix3 0 0 c)) c := by
  unfold xnFirst
  refine (pay15_apply _ _ _ x g r c).trans (congrArg (fun y => x (ix2 r c) + rms y (g (ix3 0 0 c)) c) (funext fun c => ?_))
  rw [Fin.sum_univ_tiles 8 256 rfl, Fin.sum_univ_eight]
  pointwise [k0_pay13, k0_pay10, k0_pay8, k0_pay6, k0_pay4]

theorem rowsOf_at {e : EltTy} (x : S512x2048.Idx → Elt Ideal e) (r : Fin 512) (k : Fin 2048) :
    rowsOf x (r.val / 128) (ix2 ⟨r.val % 128, Nat.mod_lt _ (by decide)⟩ k) = x (ix2 r k) := by
  refine congrArg x (funext fun a => Fin.ext ?_)
  match a with
  | ⟨0, _⟩ => show (128 * (r.val / 128) + r.val % 128) % 512 = r.val; omega
  | ⟨1, _⟩ => rfl

theorem xnLater_apply (a : Vec Ideal S512x2048 .bf16) (w : Vec Ideal S2048x2048 .bf16) (x : Vec Ideal S512x2048 .f32) (g : Vec Ideal S1x1x2048 .f32) (r : Fin 512) (c : Fin 2048) :
    xnLater a w x g (ix2 r c) = x (ix2 r c) + rms (fun c => ∑ k : Fin 2048, a (ix2 r k) * w (ix2 k c)) (g (ix3 0 0 c)) c := by
  refine (pay16_apply _ w _ g ⟨r.val % 128, Nat.mod_lt _ (by decide)⟩ c).trans ?_
  exact congrArg₂ (· + ·) (rowsOf_at (e := .f32) x r c) (congrArg (fun y => rms y (g (ix3 0 0 c)) c) (funext fun c => Finset.sum_congr rfl fun k _ => congrArg (· * _) (rowsOf_at (e := .bf16) a r k)))

theorem hoFirst_apply (a : Vec Ideal S512x2048 .bf16) (w : Vec Ideal S2048x2048 .bf16) (x : Vec Ideal S512x2048 .f32) (g gn : Vec Ideal S1x1x2048 .f32) (r : Fin 512) (c : Fin 2048) :
    hoFirst a w x g gn (ix2 r c) = rms (fun c => xnFirst a w x g (ix2 r c)) (gn (ix3 0 0 c)) c :=
  pay1_apply _ gn r c

theorem hoLater_apply (a : Vec Ideal S512x2048 .bf16) (w : Vec Ideal S2048x2048 .bf16) (x : Vec Ideal S512x2048 .f32) (g gn : Vec Ideal S1x1x2048 .f32) (r : Fin 512) (c : Fin 2048) :
    hoLater a w x g gn (ix2 r c) = rms (fun c => xnLater a w x g (ix2 r c)) (gn (ix3 0 0 c)) c :=
  pay17_apply _ w _ g gn ⟨r.val % 128, Nat.mod_lt _ (by decide)⟩ c

variable (m : (ℓ : Loc nD τ sig) → Buf (Elt Ideal) ℓ) (ρ : Dev nD → PrngReg)

/-- Where each window's block stands in its array at each point. -/
theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = t.val ∧ win0_1.index t (1 : Fin 2) = 0 := (by decide +kernel : ∀ t : Fin grid0.N, _)
theorem index4 : ∀ t : Fin cfg0.N, win0_4.index t (0 : Fin 2) = t.val ∧ win0_4.index t (1 : Fin 2) = 0 := (by decide +kernel : ∀ t : Fin grid0.N, _)
theorem index5 : ∀ t : Fin cfg0.N, win0_5.index t (0 : Fin 2) = t.val ∧ win0_5.index t (1 : Fin 2) = 0 := (by decide +kernel : ∀ t : Fin grid0.N, _)
theorem index2 : ∀ t : Fin cfg0.N, win0_2.index t (0 : Fin 3) = 0 ∧ win0_2.index t (1 : Fin 3) = 0 ∧ win0_2.index t (2 : Fin 3) = 0 :=
  (by decide +kernel : ∀ t : Fin grid0.N, _)
theorem index3 : ∀ t : Fin cfg0.N, win0_3.index t (0 : Fin 3) = 0 ∧ win0_3.index t (1 : Fin 3) = 0 ∧ win0_3.index t (2 : Fin 3) = 0 :=
  (by decide +kernel : ∀ t : Fin grid0.N, _)

theorem tlt (t : Fin cfg0.N) : t.val < 16 := lt_of_lt_of_eq t.isLt (show cfg0.N = 16 from N_0)

/-- The point's rows of the input. -/
theorem iblk0_apply (c : Dev nD) (t : Fin cfg0.N) (r : Fin 512) (k : Fin 2048) :
    (iblk m c 0 t : Vec Ideal S512x2048 .bf16) (ix2 r k) = (V m c main_arg0 : S8192x2048.Idx → EReal) (ix2 ⟨512 * t.val + r.val, by have := tlt t; omega⟩ k) := by
  obtain ⟨e0, e1⟩ := index0 t
  show V m c main_arg0 (((cfg0.win 0).blk t).view.emb (ix2 r k)) = _
  refine congrArg (V m c main_arg0) (funext fun a => Fin.ext ?_)
  match a with
  | ⟨0, _⟩ => show win0_0.index t (0 : Fin 2) * 512 + 1 * r.val = 512 * t.val + r.val; omega
  | ⟨1, _⟩ => show win0_0.index t (1 : Fin 2) * 2048 + 1 * k.val = k.val; omega

/-- The point's rows of the residual. -/
theorem iblk1_apply (c : Dev nD) (t : Fin cfg0.N) (r : Fin 512) (k : Fin 2048) :
    (iblk m c 1 t : Vec Ideal S512x2048 .f32) (ix2 r k) = (V m c main_arg2 : S8192x2048.Idx → EReal) (ix2 ⟨512 * t.val + r.val, by have := tlt t; omega⟩ k) := by
  obtain ⟨e0, e1⟩ := index1 t
  show V m c main_arg2 (((cfg0.win 1).blk t).view.emb (ix2 r k)) = _
  refine congrArg (V m c main_arg2) (funext fun a => Fin.ext ?_)
  match a with
  | ⟨0, _⟩ => show win0_1.index t (0 : Fin 2) * 512 + 1 * r.val = 512 * t.val + r.val; omega
  | ⟨1, _⟩ => show win0_1.index t (1 : Fin 2) * 2048 + 1 * k.val = k.val; omega

/-- The gain after the projection. -/
theorem iblk2_apply (c : Dev nD) (t : Fin cfg0.N) (k : Fin 2048) :
    (iblk m c 2 t : Vec Ideal S1x1x2048 .f32) (ix3 0 0 k) = (V m c main_arg3 : S2x1x2048.Idx → EReal) (ix3 0 0 k) := by
  obtain ⟨e0, e1, e2⟩ := index2 t
  show V m c main_arg3 (((cfg0.win 2).blk t).view.emb (ix3 0 0 k)) = _
  refine congrArg (V m c main_arg3) (funext fun a => Fin.ext ?_)
  match a with
  | ⟨0, _⟩ => show win0_2.index t (0 : Fin 3) * 1 + 1 * 0 = 0; omega
  | ⟨1, _⟩ => show win0_2.index t (1 : Fin 3) * 1 + 1 * 0 = 0; omega
  | ⟨2, _⟩ => show win0_2.index t (2 : Fin 3) * 2048 + 1 * k.val = k.val; omega

/-- The gain of the next normalisation. -/
theorem iblk3_apply (c : Dev nD) (t : Fin cfg0.N) (k : Fin 2048) :
    (iblk m c 3 t : Vec Ideal S1x1x2048 .f32) (ix3 0 0 k) = (V m c main_arg4 : S2x1x2048.Idx → EReal) (ix3 0 0 k) := by
  obtain ⟨e0, e1, e2⟩ := index3 t
  show V m c main_arg4 (((cfg0.win 3).blk t).view.emb (ix3 0 0 k)) = _
  refine congrArg (V m c main_arg4) (funext fun a => Fin.ext ?_)
  match a with
  | ⟨0, _⟩ => show win0_3.index t (0 : Fin 3) * 1 + 1 * 0 = 0; omega
  | ⟨1, _⟩ => show win0_3.index t (1 : Fin 3) * 1 + 1 * 0 = 0; omega
  | ⟨2, _⟩ => show win0_3.index t (2 : Fin 3) * 2048 + 1 * k.val = k.val; omega

/-- The new residual's rows of a point. -/
theorem xoAt_apply (c : Dev nD) (t : Fin cfg0.N) (r : Fin 512) (k : Fin 2048) :
    xoAt m c t (ix2 r k) = xnew (V m c main_arg0) (V m c main_arg1) (V m c main_arg2) (V m c main_arg3) (ix2 ⟨512 * t.val + r.val, by have := tlt t; omega⟩ k) := by
  have h : ∀ (a : Vec Ideal S512x2048 .bf16) (w : Vec Ideal S2048x2048 .bf16) (x : Vec Ideal S512x2048 .f32) (g : Vec Ideal S1x1x2048 .f32),
      (if t.val = 0 then xnFirst a w x g else xnLater a w x g) (ix2 r k) = x (ix2 r k) + rms (fun c => ∑ k : Fin 2048, a (ix2 r k) * w (ix2 k c)) (g (ix3 0 0 k)) k := by
    intro a w x g
    split
    · exact xnFirst_apply a w x g r k
    · exact xnLater_apply a w x g r k
  refine (h _ _ _ _).trans ?_
  refine congrArg₂ (· + ·) (iblk1_apply m c t r k) (congrArg₂ (fun y g => rms y g k) (funext fun c' => ?_) (iblk2_apply m c t k))
  exact Finset.sum_congr rfl fun j _ => congrArg₂ (· * ·) (iblk0_apply m c t r j) rfl

/-- The normalised rows of a point. -/
theorem hoAt_apply (c : Dev nD) (t : Fin cfg0.N) (r : Fin 512) (k : Fin 2048) :
    hoAt m c t (ix2 r k) = hnew (V m c main_arg0) (V m c main_arg1) (V m c main_arg2) (V m c main_arg3) (V m c main_arg4) (ix2 ⟨512 * t.val + r.val, by have := tlt t; omega⟩ k) := by
  have h : ∀ (a : Vec Ideal S512x2048 .bf16) (w : Vec Ideal S2048x2048 .bf16) (x : Vec Ideal S512x2048 .f32) (g gn : Vec Ideal S1x1x2048 .f32),
      (if t.val = 0 then hoFirst a w x g gn else hoLater a w x g gn) (ix2 r k)
        = rms (fun c => (if t.val = 0 then xnFirst a w x g else xnLater a w x g) (ix2 r c)) (gn (ix3 0 0 k)) k := by
    intro a w x g gn
    split
    · exact hoFirst_apply a w x g gn r k
    · exact hoLater_apply a w x g gn r k
  refine (h _ _ _ _ _).trans ?_
  exact congrArg₂ (fun y g => rms y g k) (funext fun c' => xoAt_apply m c t r c') (iblk3_apply m c t k)

/-- What the point writes back is its block of the new residual. -/
theorem flushed4_eq (c : Dev nD) (t : Fin cfg0.N) :
    (dats m 0 c).flushed 4 t = ((cfg0.win 4).blk t).view.read (Elt Ideal) (xnew (V m c main_arg0) (V m c main_arg1) (V m c main_arg2) (V m c main_arg3)) := by
  obtain ⟨e0, e1⟩ := index4 t
  refine funext fun (j : S512x2048.Idx) => ?_
  show xoAt m c t j = xnew _ _ _ _ (((cfg0.win 4).blk t).view.emb j)
  have hj : j = ix2 (⟨(j 0).val, (j 0).isLt⟩ : Fin 512) (⟨(j 1).val, (j 1).isLt⟩ : Fin 2048) :=
    funext fun a => Fin.ext (by match a with | ⟨0, _⟩ => rfl | ⟨1, _⟩ => rfl)
  refine (congrArg (xoAt m c t) hj).trans ((xoAt_apply m c t _ _).trans ?_)
  refine congrArg (xnew _ _ _ _) (funext fun a => Fin.ext ?_)
  match a with
  | ⟨0, _⟩ => show 512 * t.val + (j 0).val = win0_4.index t (0 : Fin 2) * 512 + 1 * (j 0).val; omega
  | ⟨1, _⟩ => show (j 1).val = win0_4.index t (1 : Fin 2) * 2048 + 1 * (j 1).val; omega

/-- Every element of the new residual is in some point's block. -/
theorem covered4 (i : S8192x2048.Idx) : ∃ t : Fin cfg0.N, (cfg0.win 4).flush t = true ∧ i ∈ ((cfg0.win 4).blk t).view.set := by
  have h0 : (i 0).val < 8192 := (i 0).isLt
  have h1 : (i 1).val < 2048 := (i 1).isLt
  have ht : (i 0).val / 512 < cfg0.N := by rw [show cfg0.N = 16 from N_0]; omega
  refine ⟨⟨(i 0).val / 512, ht⟩, flush0_4 _, ?_⟩
  obtain ⟨e0, e1⟩ := index4 ⟨(i 0).val / 512, ht⟩
  have e : i = ((cfg0.win 4).blk ⟨(i 0).val / 512, ht⟩).view.emb (ix2 (⟨(i 0).val % 512, by omega⟩ : Fin 512) (⟨(i 1).val, h1⟩ : Fin 2048) : S512x2048.Idx) := by
    refine funext fun a => Fin.ext ?_
    match a with
    | ⟨0, _⟩ => show (i 0).val = win0_4.index ⟨(i 0).val / 512, ht⟩ (0 : Fin 2) * 512 + 1 * ((i 0).val % 512); rw [e0]; show (i 0).val = (i 0).val / 512 * 512 + 1 * ((i 0).val % 512); omega
    | ⟨1, _⟩ => show (i 1).val = win0_4.index ⟨(i 0).val / 512, ht⟩ (1 : Fin 2) * 2048 + 1 * (i 1).val; rw [e1]; omega
  exact (congrArg (fun x : S8192x2048.Idx => x ∈ ((cfg0.win 4).blk ⟨(i 0).val / 512, ht⟩).view.set) e).mpr (View.emb_mem_set _ _)

/-- The array of the new residual after the run. -/
theorem final4 (c : Dev nD) : (dats m 0 c).arrAt 4 cfg0.N = xnew (m ((c.tc : Thread nD τ).loc main_arg0)) (m ((c.tc : Thread nD τ).loc main_arg1)) (m ((c.tc : Thread nD τ).loc main_arg2)) (m ((c.tc : Thread nD τ).loc main_arg3)) :=
  ((dats m 0 c).arrAt_eq_of_cover 4 (xnew (V m c main_arg0) (V m c main_arg1) (V m c main_arg2) (V m c main_arg3)) (fun t _ => flushed4_eq m c t) covered4).trans
    (by rw [V_main_arg0, V_main_arg1, V_main_arg2, V_main_arg3])

/-- What the point writes back is its block of the normalised rows. -/
theorem flushed5_eq (c : Dev nD) (t : Fin cfg0.N) :
    (dats m 0 c).flushed 5 t = ((cfg0.win 5).blk t).view.read (Elt Ideal) (hnew (V m c main_arg0) (V m c main_arg1) (V m c main_arg2) (V m c main_arg3) (V m c main_arg4)) := by
  obtain ⟨e0, e1⟩ := index5 t
  refine funext fun (j : S512x2048.Idx) => ?_
  show hoAt m c t j = hnew _ _ _ _ _ (((cfg0.win 5).blk t).view.emb j)
  have hj : j = ix2 (⟨(j 0).val, (j 0).isLt⟩ : Fin 512) (⟨(j 1).val, (j 1).isLt⟩ : Fin 2048) :=
    funext fun a => Fin.ext (by match a with | ⟨0, _⟩ => rfl | ⟨1, _⟩ => rfl)
  refine (congrArg (hoAt m c t) hj).trans ((hoAt_apply m c t _ _).trans ?_)
  refine congrArg (hnew _ _ _ _ _) (funext fun a => Fin.ext ?_)
  match a with
  | ⟨0, _⟩ => show 512 * t.val + (j 0).val = win0_5.index t (0 : Fin 2) * 512 + 1 * (j 0).val; omega
  | ⟨1, _⟩ => show (j 1).val = win0_5.index t (1 : Fin 2) * 2048 + 1 * (j 1).val; omega

/-- Every element of the normalised rows is in some point's block. -/
theorem covered5 (i : S8192x2048.Idx) : ∃ t : Fin cfg0.N, (cfg0.win 5).flush t = true ∧ i ∈ ((cfg0.win 5).blk t).view.set := by
  have h0 : (i 0).val < 8192 := (i 0).isLt
  have h1 : (i 1).val < 2048 := (i 1).isLt
  have ht : (i 0).val / 512 < cfg0.N := by rw [show cfg0.N = 16 from N_0]; omega
  refine ⟨⟨(i 0).val / 512, ht⟩, flush0_5 _, ?_⟩
  obtain ⟨e0, e1⟩ := index5 ⟨(i 0).val / 512, ht⟩
  have e : i = ((cfg0.win 5).blk ⟨(i 0).val / 512, ht⟩).view.emb (ix2 (⟨(i 0).val % 512, by omega⟩ : Fin 512) (⟨(i 1).val, h1⟩ : Fin 2048) : S512x2048.Idx) := by
    refine funext fun a => Fin.ext ?_
    match a with
    | ⟨0, _⟩ => show (i 0).val = win0_5.index ⟨(i 0).val / 512, ht⟩ (0 : Fin 2) * 512 + 1 * ((i 0).val % 512); rw [e0]; show (i 0).val = (i 0).val / 512 * 512 + 1 * ((i 0).val % 512); omega
    | ⟨1, _⟩ => show (i 1).val = win0_5.index ⟨(i 0).val / 512, ht⟩ (1 : Fin 2) * 2048 + 1 * (i 1).val; rw [e1]; omega
  exact (congrArg (fun x : S8192x2048.Idx => x ∈ ((cfg0.win 5).blk ⟨(i 0).val / 512, ht⟩).view.set) e).mpr (View.emb_mem_set _ _)

/-- The array of the normalised rows after the run. -/
theorem final5 (c : Dev nD) : (dats m 0 c).arrAt 5 cfg0.N = hnew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  ((dats m 0 c).arrAt_eq_of_cover 5 (hnew (V m c main_arg0) (V m c main_arg1) (V m c main_arg2) (V m c main_arg3) (V m c main_arg4)) (fun t _ => flushed5_eq m c t) covered5).trans
    (by rw [V_main_arg0, V_main_arg1, V_main_arg2, V_main_arg3, V_main_arg4])

end Proj
end
-- ==== Proof.Proj.Ref.lean ====
/- The reference's output projection read element by element: it is the kernel's two functions. -/
module

public import proofs.«01_k».proof.Proof.Proj.Value
public import proofs.«01_k».proof.Proof.Gen.Reference3Ideal.Read
public import Idealize.ShloMosaic.Lib.Pointwise
public import Idealize.ShloMosaic.PureOps.Ideal.Laws

@[expose] public section

set_option maxRecDepth 16384

noncomputable section

namespace Proj

open Cert.Reference3Ideal Cert.Reference3Ideal.Gen Cert.Reference3Ideal.Read
open Idealize.ShloMosaic Idealize.ShloMosaic.TcCoe Idealize.ShloMosaic.Tactic

variable (x0 : (⟨S8192x2048, .bf16⟩ : BufTy).Contents (Elt Ideal)) (x1 : (⟨S2x2048x2048, .f32⟩ : BufTy).Contents (Elt Ideal)) (x2 : (⟨S8192x2048, .f32⟩ : BufTy).Contents (Elt Ideal)) (x3 x4 : (⟨S2x1x2048, .f32⟩ : BufTy).Contents (Elt Ideal))

/-- The product. -/
theorem v3_at (r : Fin 8192) (c : Fin 2048) : val_main_v3 (F := Ideal) x0 x1 (ix2 r c) = prod x0 x1 r c := by
  unfold prod
  pointwise [val_main_v3, val_main_v2, val_main_v1, val_main_v0]

/-- The new residual at a row and a column. -/
theorem v18_at (r : Fin 8192) (c : Fin 2048) :
    val_main_v18 (F := Ideal) x0 x1 x2 x3 (ix2 r c) = xnew x0 x1 x2 x3 (ix2 r c) := by
  show _ = x2 (ix2 r c) + rms (prod x0 x1 r) (x3 (ix3 0 0 c)) c
  rw [show prod x0 x1 r = fun c => val_main_v3 (F := Ideal) x0 x1 (ix2 r c) from funext fun c => (v3_at x0 x1 r c).symm]
  unfold rms
  unfold val_main_v18 val_main_v17 val_main_v16 val_main_v15 val_main_v14 val_main_v13 val_main_v12 val_main_v11 val_main_v10 val_main_v9 val_main_v8 val_main_v7 val_main_v6 val_main_v5 val_main_v4 val_main_cst val_main_cst_0 val_main_cst_1
  generalize val_main_v3 (F := Ideal) x0 x1 = y
  pointwise []

/-- The normalised rows at a row and a column. -/
theorem v33_at (r : Fin 8192) (c : Fin 2048) :
    val_main_v33 (F := Ideal) x0 x1 x2 x3 x4 (ix2 r c) = hnew x0 x1 x2 x3 x4 (ix2 r c) := by
  show _ = rms (fun c => xnew x0 x1 x2 x3 (ix2 r c)) (x4 (ix3 0 0 c)) c
  rw [show (fun c => xnew x0 x1 x2 x3 (ix2 r c)) = fun c => val_main_v18 (F := Ideal) x0 x1 x2 x3 (ix2 r c) from funext fun c => (v18_at x0 x1 x2 x3 r c).symm]
  unfold rms
  unfold val_main_v33 val_main_v32 val_main_v31 val_main_v30 val_main_v29 val_main_v28 val_main_v27 val_main_v26 val_main_v25 val_main_v24 val_main_v23 val_main_v22 val_main_v21 val_main_v20 val_main_v19 val_main_cst_2 val_main_cst_3 val_main_cst_4
  generalize val_main_v18 (F := Ideal) x0 x1 x2 x3 = y
  pointwise []

/-- An index is its row and its column. -/
theorem idx_eq (i : (⟨2, ![8192, 2048]⟩ : Shape).Idx) : i = ix2 (⟨(i 0).val, (i 0).isLt⟩ : Fin 8192) (⟨(i 1).val, (i 1).isLt⟩ : Fin 2048) :=
  funext fun a => Fin.ext (by match a with | ⟨0, _⟩ => rfl | ⟨1, _⟩ => rfl)

/-- The reference's new residual is the kernel's function. -/
theorem ref_xnew : val_main_v18 (F := Ideal) x0 x1 x2 x3 = xnew x0 x1 x2 x3 :=
  funext fun (i : (⟨2, ![8192, 2048]⟩ : Shape).Idx) =>
    (congrArg (val_main_v18 (F := Ideal) x0 x1 x2 x3) (idx_eq i)).trans ((v18_at x0 x1 x2 x3 _ _).trans (congrArg (xnew x0 x1 x2 x3) (idx_eq i).symm))

/-- The reference's normalised rows are the kernel's function. -/
theorem ref_hnew : val_main_v33 (F := Ideal) x0 x1 x2 x3 x4 = hnew x0 x1 x2 x3 x4 :=
  funext fun (i : (⟨2, ![8192, 2048]⟩ : Shape).Idx) =>
    (congrArg (val_main_v33 (F := Ideal) x0 x1 x2 x3 x4) (idx_eq i)).trans ((v33_at x0 x1 x2 x3 x4 _ _).trans (congrArg (hnew x0 x1 x2 x3 x4) (idx_eq i).symm))

end Proj
end
-- ==== Proof.Mixer.Kit.lean ====
/- The set-up the mixer input's hand proof at the ideal elements is stated over: the windows' blocks, the closed form
   of the body's condition, the staging and scratch memrefs, the invariant listed. -/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Mixer

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's `scf.if` 0 (`k0_h1`), from the grid coordinates. -/
abbrev cond0_0 (i : grid0.Coords) : Prop := Scalar.cmpi .ne (Scalar.extui (Scalar.cmpi .eq (BitVec.ofNat 32 (i 0).val) 0#32) : BitVec 32) 0#32 = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## Where the windows are idle (the printed configuration's table `Cfg.idle`) -/

/-- Window 0 is never idle. -/
theorem liveAt0_0 : ∀ t : Fin cfg0.N, cfg0.idle 0 (grid0.coords t) = false := fun _ => rfl
/-- Window 1 is never idle. -/
theorem liveAt0_1 : ∀ t : Fin cfg0.N, cfg0.idle 1 (grid0.coords t) = false := fun _ => rfl
/-- Window 2 is never idle. -/
theorem liveAt0_2 : ∀ t : Fin cfg0.N, cfg0.idle 2 (grid0.coords t) = false := fun _ => rfl
/-- Window 3 is never idle. -/
theorem liveAt0_3 : ∀ t : Fin cfg0.N, cfg0.idle 3 (grid0.coords t) = false := fun _ => rfl
/-- Window 4 is never idle. -/
theorem liveAt0_4 : ∀ t : Fin cfg0.N, cfg0.idle 4 (grid0.coords t) = false := fun _ => rfl
/-- Window 5 is never idle. -/
theorem liveAt0_5 : ∀ t : Fin cfg0.N, cfg0.idle 5 (grid0.coords t) = false := fun _ => rfl
/-- Window 6 is never idle. -/
theorem liveAt0_6 : ∀ t : Fin cfg0.N, cfg0.idle 6 (grid0.coords t) = false := fun _ => rfl
/-- Window 7 is never idle. -/
theorem liveAt0_7 : ∀ t : Fin cfg0.N, cfg0.idle 7 (grid0.coords t) = false := fun _ => rfl
/-- Window 8 is never idle. -/
theorem liveAt0_8 : ∀ t : Fin cfg0.N, cfg0.idle 8 (grid0.coords t) = false := fun _ => rfl

/-! ## The kernel body on any staging memrefs: a subtype the run finds -/

/-- Each window's current staging memref at point `t`, spelled as the pipeline passes it (`bodyAt0`), and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x2048 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S2048x3584 .bf16 := Memref.whole cc0_scratch0
abbrev scM0_1 : Memref sig .tc .vmem S2x128x3584 .f32 := Memref.whole cc0_scratch1
/-- The operands left in HBM that the body copies into scratch itself, whole. -/
abbrev hbM0_0 : Memref sig .tc .hbm S2x2048x3584 .f32 := Memref.whole main_arg2
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 16, SemLoc.dma 17] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 16) 0 ∗ semVal ((c : Thread nD τ), SemLoc.dma 17) 0) := by
  rw [Pipeline.ownSems0_eq_of_list c osem0 [0, 1] (by decide) (by decide)]; rfl
/-- The HBM operands the body moves, as references: unscoped, no window's array (`Pipeline.restRefs`). -/
def H0 : Finset (Ref sig .tc) := {main_arg2}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg2)) := by
  rw [BI.bigSep_eq_bigSepL_of_eq [main_arg2] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 16) 0 ∗ semVal ((c : Thread nD τ), SemLoc.dma 17) 0) ∗ iprop(hbPt0 c hbM0_0 (V m c main_arg2))) := by
  rw [Pipeline.ΦD_eq, scopedRest0_eq, ownSems00_eq, hbmPts0_eq]; simp only [scM0_0, scM0_1, owns_whole]; try rfl

end Mixer

end
-- ==== Proof.Mixer.Spec.lean ====
/- What the mixer input's body leaves, as plain functions of what it reads: the weight's cast and the five results; and
   how the run's terms (slots filled by copies, listed stores, one head at a time) read as those functions. -/
module

public import proofs.«01_k».proof.Proof.Mixer.Kit
public import Idealize.ShloMosaic.Lib.Pointwise
public import Idealize.ShloMosaic.Lib.WholeRead
public import Idealize.ShloMosaic.Lib.Pipeline.Value

@[expose] public section

set_option maxRecDepth 16384

noncomputable section

namespace Mixer

open Cert.Kernel4Ideal Cert.Kernel4Ideal.Gen
open Idealize.ShloMosaic Idealize.ShloMosaic.TcCoe Idealize.ShloMosaic.Tactic

variable {F : FTy → Type} [FloatOps F]

/-- The weight of layer 0 cast to the scratch's element type. -/
def wcast (w : S2x2048x3584.Idx → Elt F .f32) : Vec F S2048x3584 .bf16 :=
  truncf .bf16 (fun i : S2048x3584.Idx => w (ix3 0 (i 0) (i 1))) bitsLt_bf16_f32

/-- A load of a whole memref held at contents that read `x`, at a rectangle. -/
theorem load_ld {sp : Space} {s : Shape} {e : EltTy} {arg : Memref sig .tc sp s e} (harg : arg.IsWhole) (x : s.Idx → Elt F e) (r : Rect s) :
    View.readAt (Elt F) arg.view r.toLoadRect (harg.unread x) = View.ld (Val := Elt F) x r :=
  funext fun j => harg.readAt_unread x _ j

/-- A slot of the stage filled by a copy, loaded through the stage and freed of its unit axis, is what was copied. -/
theorem slot_load (M : Memref sig .tc .vmem S2x128x3584 .f32) (r : Rect S2x128x3584) (hr : ∀ a, r.stride a = 1) (hq : r.shape.Squeezes S128x3584)
    (hc : r.shape.ShapeCasts S128x3584) (f : M.view.ty.Contents (Elt F)) (d : S128x3584.Idx → Elt F .f32) :
    shapeCast S128x3584 (M.view.readAt (Elt F) r.toLoadRect (((M.slice r hr).squeeze S128x3584 hq).view.write (Elt F) f d Finset.univ)) hc = d := by
  rw [← Memref.read_squeeze_slice M r hr hq hc]
  exact View.read_write_univ _ _

/-- The rows of the weight of layer 0 that a copy brings. -/
theorem src_read (o : ℕ) (inb : ∀ a, (![0, o, 0] : Fin 3 → ℕ) a + S1x128x3584.size a ≤ S2x2048x3584.size a) (hr) (hq : S1x128x3584.Squeezes S128x3584)
    {c : Dev nD} (w : HbBuf0 (F := F) c hbM0_0) (j : S128x3584.Idx) :
    View.read (Elt F) ((hbM0_0.slice (Rect.unit (s := S2x2048x3584) ![0, o, 0] S1x128x3584.size inb) hr).squeeze S128x3584 hq).view w j
      = (w : S2x2048x3584.Idx → Elt F .f32) (ix3 0 ⟨o + (j 0).val, by have := inb 1; have : (j 0).val < 128 := (j 0).isLt; simp at *; omega⟩ (j 1)) := by
  refine (congrFun (Memref.read_squeeze_slice _ _ hr hq shapeCasts_S1x128x3584_S128x3584 _) j).trans ?_
  refine (shapeCast_apply _ _ j (ix3 (0 : Fin 1) (j 0 : Fin 128) (j 1 : Fin 3584)) ?_).trans ?_
  · rw [Shape.rowMajor_val_two, Shape.rowMajor_val_three]
    show (0 * 128 + (j 0).val) * 3584 + (j 1).val = (j 0).val * 3584 + (j 1).val
    omega
  refine congrArg (w : S2x2048x3584.Idx → Elt F .f32) (funext fun a => Fin.ext ?_)
  match a with
  | ⟨0, _⟩ => rfl
  | ⟨1, _⟩ => show o + 1 * (j 0).val = o + (j 0).val; omega
  | ⟨2, _⟩ => show 0 + 1 * (j 1).val = (j 1).val; omega

/-- A copy into one slot of the stage does not change what a load of the other slot reads. -/
theorem slot_skip (M : Memref sig .tc .vmem S2x128x3584 .f32) (a b : ℕ) (hab : a ≠ b)
    (ia : ∀ x, (![a, 0, 0] : Fin 3 → ℕ) x + S1x128x3584.size x ≤ S2x128x3584.size x) (ib : ∀ x, (![b, 0, 0] : Fin 3 → ℕ) x + S1x128x3584.size x ≤ S2x128x3584.size x)
    (hr) (hq : S1x128x3584.Squeezes S128x3584) (f : M.view.ty.Contents (Elt F)) (d : S128x3584.Idx → Elt F .f32) :
    M.view.readAt (Elt F) (Rect.unit (s := S2x128x3584) ![a, 0, 0] S1x128x3584.size ia).toLoadRect
        (((M.slice (Rect.unit (s := S2x128x3584) ![b, 0, 0] S1x128x3584.size ib) hr).squeeze S128x3584 hq).view.write (Elt F) f d Finset.univ)
      = M.view.readAt (Elt F) (Rect.unit (s := S2x128x3584) ![a, 0, 0] S1x128x3584.size ia).toLoadRect f := by
  funext j
  rw [View.readAt_apply, View.readAt_apply]
  show View.read (Elt F) M.view (((M.view.slice (Rect.unit (s := S2x128x3584) ![b, 0, 0] S1x128x3584.size ib)).reshape S128x3584 hq.numel_eq).write (Elt F) f d Finset.univ) _ = _
  rw [View.write_reshape_univ, View.read_slice_write_of_not_mem]
  rw [Rect.map_emb_univ, Rect.mem_set_unit]
  intro h
  have h0 := h 0
  have hj : (j 0).val < 1 := (j 0).isLt
  change b ≤ a + 1 * (j 0).val ∧ a + 1 * (j 0).val < b + 1 at h0
  omega

/-- The rows a copy left in a slot, loaded and cast, are the cast of what was copied. -/
theorem pay_slot (M : Memref sig .tc .vmem S2x128x3584 .f32) (a : ℕ)
    (ia : ∀ x, (![a, 0, 0] : Fin 3 → ℕ) x + S1x128x3584.size x ≤ S2x128x3584.size x) (hr) (hq : S1x128x3584.Squeezes S128x3584)
    (f : M.view.ty.Contents (Elt F)) (d : S128x3584.Idx → Elt F .f32) :
    k0_pay3 (M.view.readAt (Elt F) (Rect.unit (s := S2x128x3584) ![a, 0, 0] S1x128x3584.size ia).toLoadRect
        (((M.slice (Rect.unit (s := S2x128x3584) ![a, 0, 0] S1x128x3584.size ia) hr).squeeze S128x3584 hq).view.write (Elt F) f d Finset.univ))
      = truncf .bf16 (d : FVec F S128x3584 .f32) bitsLt_bf16_f32 := by
  unfold k0_pay3
  dsimp only
  rw [shapeCast_self, slot_load M _ hr hq]

/-- The cast of the rows a copy brings is the weight's cast at those rows. -/
theorem chunk_ld (o : ℕ) (inb : ∀ a, (![0, o, 0] : Fin 3 → ℕ) a + S1x128x3584.size a ≤ S2x2048x3584.size a) (hr') (hq' : S1x128x3584.Squeezes S128x3584)
    (inb' : ∀ x, (![o, 0] : Fin 2 → ℕ) x + S128x3584.size x ≤ S2048x3584.size x)
    {c : Dev nD} (w : HbBuf0 (F := F) c hbM0_0) :
    truncf .bf16 (ReadAs.same.apply (View.read (Elt F) ((hbM0_0.slice (Rect.unit (s := S2x2048x3584) ![0, o, 0] S1x128x3584.size inb) hr').squeeze S128x3584 hq').view w) : FVec F S128x3584 .f32) bitsLt_bf16_f32
      = View.ld (Val := Elt F) (wcast w) (Rect.unit (s := S2048x3584) ![o, 0] S128x3584.size inb') := by
  funext j
  refine congrArg (FloatOps.truncf (F := F) (φ := .f32) .bf16 bitsLt_bf16_f32) ((src_read o inb hr' hq' w j).trans (congrArg w (funext fun a => Fin.ext ?_)))
  match a with
  | ⟨0, _⟩ => rfl
  | ⟨1, _⟩ => show o + (j 0).val = o + 1 * (j 0).val; omega
  | ⟨2, _⟩ => show (j 1).val = 0 + 1 * (j 1).val; omega

/-- The sixteen chunks' casts are one function. -/
theorem pay_casts : k0_pay4 (F := F) = k0_pay3 ∧ k0_pay5 (F := F) = k0_pay3 ∧ k0_pay6 (F := F) = k0_pay3 ∧ k0_pay7 (F := F) = k0_pay3 ∧ k0_pay8 (F := F) = k0_pay3 ∧ k0_pay9 (F := F) = k0_pay3 ∧ k0_pay10 (F := F) = k0_pay3 ∧ k0_pay11 (F := F) = k0_pay3 ∧ k0_pay12 (F := F) = k0_pay3 ∧ k0_pay13 (F := F) = k0_pay3 ∧ k0_pay14 (F := F) = k0_pay3 ∧ k0_pay15 (F := F) = k0_pay3 ∧ k0_pay16 (F := F) = k0_pay3 ∧ k0_pay18 (F := F) = k0_pay3 ∧ k0_pay19 (F := F) = k0_pay3 := ⟨rfl, rfl, rfl, rfl, rfl, rfl, rfl, rfl, rfl, rfl, rfl, rfl, rfl, rfl, rfl⟩

/-- A buffer filled by stores whose payloads are pieces of one block, and which cover it, reads as the block. -/
theorem read_filled {sp : Space} {s : Shape} {e : EltTy} (M : Memref sig .tc sp s e) (w : s.Idx → Elt F e) (L : List (View.Piece (Elt F) s e))
    (hL : ∀ p ∈ L, ∀ x, p.2 x = w (p.1.emb x)) (hc : ∀ y, ∃ p ∈ L, y ∈ p.1.set) (r : Rect s) :
    M.view.readCov (Val := Elt F) L r.toLoadRect = View.ld (Val := Elt F) w r :=
  funext fun j => View.read_writes_apply_of_pieces _ _ w L hL _ (hc _)

/-- Loads of a whole block or of a whole gain read the contents. -/
theorem ld_whole {e : EltTy} (x : S512x2048.Idx → Elt F e) : View.ld (Val := Elt F) x (Rect.unit (s := S512x2048) ![0, 0] S512x2048.size inb_S512x2048_S512x2048_0_0) = x :=
  View.ld_unit_zero (by decide) _ _

theorem ld_whole_g (g : Vec F S1x1x2048 .f32) : View.ld (Val := Elt F) g (Rect.unit (s := S1x1x2048) ![0, 0, 0] S1x1x2048.size inb_S1x1x2048_S1x1x2048_0_0_0) = g :=
  View.ld_unit_zero (by decide) _ _

theorem ld_whole_s (x : Vec F S1x512x2048 .f32) : View.ld (Val := Elt F) x (Rect.unit (s := S1x512x2048) ![0, 0, 0] S1x512x2048.size inb_S1x512x2048_S1x512x2048_0_0_0) = x :=
  View.ld_unit_zero (by decide) _ _

/-- One store of a whole block leaves what was stored. -/
theorem out_whole {sp : Space} {s : Shape} {e : EltTy} (M : Memref sig .tc sp s e) (f : M.view.ty.Contents (Elt F)) (o : Fin s.rank → ℕ) (ho : ∀ a, o a = 0) (inb : ∀ a, o a + s.size a ≤ s.size a)
    (b : s.Idx → Elt F e) : View.read (Elt F) M.view (M.view.writes (Elt F) f [⟨Rect.unit (s := s) o s.size inb, b⟩]) = b := by
  funext y
  have e1 : (Rect.unit (s := s) o s.size inb).emb y = y := funext fun a => Fin.ext (show o a + 1 * (y a).val = (y a).val by rw [ho a]; omega)
  have h := View.read_writes_cons_emb M.view f (Rect.unit (s := s) o s.size inb) b [] y
  rwa [e1] at h

/-! ## The results of a point -/

/-- The gated half: the tanh gelu of the first 1024 columns of the product. -/
def uOut (x : Vec F S512x2048 .f32) (g : Vec F S1x1x2048 .f32) (w : Vec F S2048x3584 .bf16) : FVec F S512x1024 .bf16 :=
  k0_pay23 (k0_pay21 x g (View.ld (Val := Elt F) w (Rect.unit (s := S2048x3584) ![0, 0] S2048x1024.size inb_S2048x3584_S2048x1024_0_0))) (k0_pay22 x g (View.ld (Val := Elt F) w (Rect.unit (s := S2048x3584) ![0, 0] S2048x1024.size inb_S2048x3584_S2048x1024_0_0))) (Scalar.ofBits .f32 0x3F000000#32)

/-- The other half before its normalisation: the tanh gelu of the next 1024 columns. -/
def vRaw (x : Vec F S512x2048 .f32) (g : Vec F S1x1x2048 .f32) (w : Vec F S2048x3584 .bf16) : FVec F S512x1024 .f32 :=
  k0_pay24 (k0_pay20 x g) (View.ld (Val := Elt F) w (Rect.unit (s := S2048x3584) ![0, 1024] S2048x1024.size inb_S2048x3584_S2048x1024_0_1024))

/-- The 128 columns of head `h` of a block. -/
def hcols (y : FVec F S512x1024 .f32) (h : ℕ) : FVec F S512x128 .f32 :=
  fun i => y (ix2 (i 0) ⟨(128 * h + (i 1).val) % 1024, Nat.mod_lt _ (by decide)⟩)

/-- The 128 gains of head `h`. -/
def gcols (g : Vec F S1x1x1024 .f32) (h : ℕ) : Vec F S1x1x128 .f32 :=
  fun i => g (ix3 0 0 ⟨(128 * h + (i 2).val) % 1024, Nat.mod_lt _ (by decide)⟩)

/-- One head normalised: minus its mean, over its deviation, times its gains. -/
def hnorm (y : FVec F S512x128 .f32) (g : Vec F S1x1x128 .f32) : Vec F S512x128 .bf16 := k0_pay38 y (k0_pay37 g)

/-- The normalised half, head by head. -/
def vnOf (y : FVec F S512x1024 .f32) (gv : Vec F S1x1x1024 .f32) : Vec F S512x1024 .bf16 :=
  fun i => hnorm (hcols y ((i 1).val / 128)) (gcols gv ((i 1).val / 128)) (ix2 (i 0) ⟨(i 1).val % 128, Nat.mod_lt _ (by decide)⟩)

/-- The pooled input: 512 columns of the product. -/
def pOut (x : Vec F S512x2048 .f32) (g : Vec F S1x1x2048 .f32) (w : Vec F S2048x3584 .bf16) : FVec F S512x512 .f32 :=
  k0_pay1 (k0_pay20 x g) (View.ld (Val := Elt F) w (Rect.unit (s := S2048x3584) ![0, 2048] S2048x512.size inb_S2048x3584_S2048x512_0_2048))

/-- The gated linear unit of the last two groups of 512 columns. -/
def gluOut (x : Vec F S512x2048 .f32) (g : Vec F S1x1x2048 .f32) (w : Vec F S2048x3584 .bf16) : FVec F S512x512 .f32 :=
  k0_pay2 (k0_pay20 x g) (View.ld (Val := Elt F) w (Rect.unit (s := S2048x3584) ![0, 2560] S2048x512.size inb_S2048x3584_S2048x512_0_2560)) (View.ld (Val := Elt F) w (Rect.unit (s := S2048x3584) ![0, 3072] S2048x512.size inb_S2048x3584_S2048x512_0_3072))

/-- A head's columns cut out by the strided slice. -/
theorem slice_hcols (y : FVec F S512x1024 .f32) (h : ℕ) (hh : h < 8) (o : ℕ) (ho : o = 128 * h) (hs : S512x1024.Slices ![0, o] S512x128) :
    extractStridedSlice S512x128 ![0, o] y hs = hcols y h := by
  subst ho; funext j
  have hj : (j 1).val < 128 := (j 1).isLt
  refine extractStridedSlice_apply _ _ _ _ _ fun a => ?_
  match a with
  | ⟨0, _⟩ => show (j 0).val = 0 + (j 0).val; omega
  | ⟨1, _⟩ => show (128 * h + (j 1).val) % 1024 = 128 * h + (j 1).val; omega

/-- A load of a head's gains. -/
theorem ld_gcols (g : Vec F S1x1x1024 .f32) (h : ℕ) (hh : h < 8) (o : ℕ) (ho : o = 128 * h) (inb : ∀ a, (![0, 0, o] : Fin 3 → ℕ) a + S1x1x128.size a ≤ S1x1x1024.size a) :
    View.ld (Val := Elt F) g (Rect.unit (s := S1x1x1024) ![0, 0, o] S1x1x128.size inb) = gcols g h := by
  subst ho
  refine funext fun j => congrArg g (funext fun a => Fin.ext ?_)
  have hj : (j 2).val < 128 := (j 2).isLt
  have h0 : (j 0).val < 1 := (j 0).isLt
  have h1 : (j 1).val < 1 := (j 1).isLt
  match a with
  | ⟨0, _⟩ => show 0 + 1 * (j 0).val = 0; omega
  | ⟨1, _⟩ => show 0 + 1 * (j 1).val = 0; omega
  | ⟨2, _⟩ => show 128 * h + 1 * (j 2).val = (128 * h + (j 2).val) % 1024; omega

/-- One head of the normalised half, at its columns. -/
theorem vnOf_at (y : FVec F S512x1024 .f32) (gv : Vec F S1x1x1024 .f32) (h o : ℕ) (ho : o = 128 * h) (inb : ∀ a, (![0, o] : Fin 2 → ℕ) a + S512x128.size a ≤ S512x1024.size a) (z : S512x128.Idx) :
    hnorm (hcols y h) (gcols gv h) z = vnOf y gv ((Rect.unit (s := S512x1024) ![0, o] S512x128.size inb).emb z) := by
  subst ho
  have hz : (z 1).val < 128 := (z 1).isLt
  have h1 : ((((Rect.unit (s := S512x1024) ![0, 128 * h] S512x128.size inb).emb z) 1).val) = 128 * h + 1 * (z 1).val := rfl
  unfold vnOf
  have e1 : ((((Rect.unit (s := S512x1024) ![0, 128 * h] S512x128.size inb).emb z) 1).val / 128) = h := by rw [h1]; omega
  rw [e1]
  refine congrArg _ (funext fun a => Fin.ext ?_)
  match a with
  | ⟨0, _⟩ => show (z 0).val = 0 + 1 * (z 0).val; omega
  | ⟨1, _⟩ => show (z 1).val = (128 * h + 1 * (z 1).val) % 128; omega

/-- The eight stores of the heads put the normalised half together. -/
theorem out_heads (M : Memref sig .tc .vmem S512x1024 .bf16) (f : M.view.ty.Contents (Elt F)) (y : FVec F S512x1024 .f32) (gv : Vec F S1x1x1024 .f32) (d0 d1 d2 d3 d4 d5 d6 d7 : Vec F S512x128 .bf16)
    (h0 : d0 = hnorm (hcols y 0) (gcols gv 0))
    (h1 : d1 = hnorm (hcols y 1) (gcols gv 1))
    (h2 : d2 = hnorm (hcols y 2) (gcols gv 2))
    (h3 : d3 = hnorm (hcols y 3) (gcols gv 3))
    (h4 : d4 = hnorm (hcols y 4) (gcols gv 4))
    (h5 : d5 = hnorm (hcols y 5) (gcols gv 5))
    (h6 : d6 = hnorm (hcols y 6) (gcols gv 6))
    (h7 : d7 = hnorm (hcols y 7) (gcols gv 7)) :
    View.read (Elt F) M.view (M.view.writes (Elt F) f
      [⟨Rect.unit (s := S512x1024) ![0, 896] S512x128.size inb_S512x1024_S512x128_0_896, d7⟩,
       ⟨Rect.unit (s := S512x1024) ![0, 768] S512x128.size inb_S512x1024_S512x128_0_768, d6⟩,
       ⟨Rect.unit (s := S512x1024) ![0, 640] S512x128.size inb_S512x1024_S512x128_0_640, d5⟩,
       ⟨Rect.unit (s := S512x1024) ![0, 512] S512x128.size inb_S512x1024_S512x128_0_512, d4⟩,
       ⟨Rect.unit (s := S512x1024) ![0, 384] S512x128.size inb_S512x1024_S512x128_0_384, d3⟩,
       ⟨Rect.unit (s := S512x1024) ![0, 256] S512x128.size inb_S512x1024_S512x128_0_256, d2⟩,
       ⟨Rect.unit (s := S512x1024) ![0, 128] S512x128.size inb_S512x1024_S512x128_0_128, d1⟩,
       ⟨Rect.unit (s := S512x1024) ![0, 0] S512x128.size inb_S512x1024_S512x128_0_0, d0⟩]) = vnOf y gv := by
  subst h0 h1 h2 h3 h4 h5 h6 h7
  refine funext fun z => View.read_writes_apply_of_pieces _ _ (vnOf y gv) _ ?_ z ?_
  · intro p hp x
    simp only [List.mem_cons, List.not_mem_nil, or_false] at hp
    rcases hp with rfl | rfl | rfl | rfl | rfl | rfl | rfl | rfl
    · exact vnOf_at y gv 7 896 rfl inb_S512x1024_S512x128_0_896 x
    · exact vnOf_at y gv 6 768 rfl inb_S512x1024_S512x128_0_768 x
    · exact vnOf_at y gv 5 640 rfl inb_S512x1024_S512x128_0_640 x
    · exact vnOf_at y gv 4 512 rfl inb_S512x1024_S512x128_0_512 x
    · exact vnOf_at y gv 3 384 rfl inb_S512x1024_S512x128_0_384 x
    · exact vnOf_at y gv 2 256 rfl inb_S512x1024_S512x128_0_256 x
    · exact vnOf_at y gv 1 128 rfl inb_S512x1024_S512x128_0_128 x
    · exact vnOf_at y gv 0 0 rfl inb_S512x1024_S512x128_0_0 x
  · refine View.cover_of_tiled (s := S512x1024) _ S512x128.size ?_ z; rfl

/-! ## Each head as the body computes it -/

theorem head0 (v : FVec F S512x2048 .bf16) (w : Vec F S2048x1024 .bf16) (gv : Vec F S1x1x1024 .f32) :
    k0_pay25 v w (View.ld (Val := Elt F) gv (Rect.unit (s := S1x1x1024) ![0, 0, 0] S1x1x128.size inb_S1x1x1024_S1x1x128_0_0_0)) = hnorm (hcols (k0_pay24 v w) 0) (gcols gv 0) := by
  rw [← slice_hcols (k0_pay24 v w) 0 (by decide) 0 rfl slices_S512x1024_o0_0_S512x128, ← ld_gcols gv 0 (by decide) 0 rfl inb_S1x1x1024_S1x1x128_0_0_0]
  rfl

theorem head1 (y : FVec F S512x1024 .f32) (gv : Vec F S1x1x1024 .f32) :
    k0_pay26 y (View.ld (Val := Elt F) gv (Rect.unit (s := S1x1x1024) ![0, 0, 128] S1x1x128.size inb_S1x1x1024_S1x1x128_0_0_128)) = hnorm (hcols y 1) (gcols gv 1) := by
  rw [← slice_hcols y 1 (by decide) 128 rfl slices_S512x1024_o0_128_S512x128, ← ld_gcols gv 1 (by decide) 128 rfl inb_S1x1x1024_S1x1x128_0_0_128]
  rfl

theorem head2 (y : FVec F S512x1024 .f32) (gv : Vec F S1x1x1024 .f32) :
    k0_pay30 (k0_pay27 (View.ld (Val := Elt F) gv (Rect.unit (s := S1x1x1024) ![0, 0, 256] S1x1x128.size inb_S1x1x1024_S1x1x128_0_0_256))) (k0_pay28 y) (k0_pay29 y) (Scalar.ofBits .f32 0x3727C5AC#32) = hnorm (hcols y 2) (gcols gv 2) := by
  rw [← slice_hcols y 2 (by decide) 256 rfl slices_S512x1024_o0_256_S512x128, ← ld_gcols gv 2 (by decide) 256 rfl inb_S1x1x1024_S1x1x128_0_0_256]
  rfl

theorem head3 (y : FVec F S512x1024 .f32) (gv : Vec F S1x1x1024 .f32) :
    k0_pay31 y (View.ld (Val := Elt F) gv (Rect.unit (s := S1x1x1024) ![0, 0, 384] S1x1x128.size inb_S1x1x1024_S1x1x128_0_0_384)) = hnorm (hcols y 3) (gcols gv 3) := by
  rw [← slice_hcols y 3 (by decide) 384 rfl slices_S512x1024_o0_384_S512x128, ← ld_gcols gv 3 (by decide) 384 rfl inb_S1x1x1024_S1x1x128_0_0_384]
  rfl

theorem head4 (y : FVec F S512x1024 .f32) (gv : Vec F S1x1x1024 .f32) :
    k0_pay34 (k0_pay32 (View.ld (Val := Elt F) gv (Rect.unit (s := S1x1x1024) ![0, 0, 512] S1x1x128.size inb_S1x1x1024_S1x1x128_0_0_512))) (k0_pay33 y) = hnorm (hcols y 4) (gcols gv 4) := by
  rw [← slice_hcols y 4 (by decide) 512 rfl slices_S512x1024_o0_512_S512x128, ← ld_gcols gv 4 (by decide) 512 rfl inb_S1x1x1024_S1x1x128_0_0_512]
  rfl

theorem head5 (y : FVec F S512x1024 .f32) (gv : Vec F S1x1x1024 .f32) :
    k0_pay35 y (View.ld (Val := Elt F) gv (Rect.unit (s := S1x1x1024) ![0, 0, 640] S1x1x128.size inb_S1x1x1024_S1x1x128_0_0_640)) = hnorm (hcols y 5) (gcols gv 5) := by
  rw [← slice_hcols y 5 (by decide) 640 rfl slices_S512x1024_o0_640_S512x128, ← ld_gcols gv 5 (by decide) 640 rfl inb_S1x1x1024_S1x1x128_0_0_640]
  rfl

theorem head6 (y : FVec F S512x1024 .f32) (gv : Vec F S1x1x1024 .f32) :
    k0_pay38 (k0_pay36 y) (k0_pay37 (View.ld (Val := Elt F) gv (Rect.unit (s := S1x1x1024) ![0, 0, 768] S1x1x128.size inb_S1x1x1024_S1x1x128_0_0_768))) = hnorm (hcols y 6) (gcols gv 6) := by
  rw [← slice_hcols y 6 (by decide) 768 rfl slices_S512x1024_o0_768_S512x128, ← ld_gcols gv 6 (by decide) 768 rfl inb_S1x1x1024_S1x1x128_0_0_768]
  rfl

theorem head7 (y : FVec F S512x1024 .f32) (gv : Vec F S1x1x1024 .f32) :
    k0_pay39 y (View.ld (Val := Elt F) gv (Rect.unit (s := S1x1x1024) ![0, 0, 896] S1x1x128.size inb_S1x1x1024_S1x1x128_0_0_896)) = hnorm (hcols y 7) (gcols gv 7) := by
  rw [← slice_hcols y 7 (by decide) 896 rfl slices_S512x1024_o0_896_S512x128, ← ld_gcols gv 7 (by decide) 896 rfl inb_S1x1x1024_S1x1x128_0_0_896]
  rfl

end Mixer

end
-- ==== Proof.Mixer.Head.lean ====
/- The contract of the body's first part, which only at the first point copies the weight in. -/
module

public import proofs.«01_k».proof.Proof.Mixer.Spec

@[expose] public section

set_option maxRecDepth 16384

noncomputable section

namespace Mixer

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What the body's first part does from a weight scratch in state `Ps`: it casts the side input, leaves the scratch at
    the weight `w`, and hands on the normalised rows, their first product and its gelu's factor. -/
def Head (c : Dev nD) (i : grid0.Coords) (arg1 : Memref sig .tc .vmem S512x2048 .f32) (harg1 : arg1.IsWhole) (arg2 : Memref sig .tc .vmem S1x1x2048 .f32) (harg2 : arg2.IsWhole) (arg3 : Memref sig .tc .vmem S1x1x1024 .f32) (harg3 : arg3.IsWhole) (arg5 : Memref sig .tc .vmem S1x512x2048 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x512 .f32) (harg8 : arg8.IsWhole) (arg9 : Memref sig .tc .vmem S512x512 .f32) (harg9 : arg9.IsWhole) (arg10 : Memref sig .tc .vmem S512x2048 .bf16) (harg10 : arg10.IsWhole) (arg11 : Memref sig .tc .vmem S2048x3584 .bf16) (harg11 : arg11.IsWhole) (arg12 : Memref sig .tc .vmem S2x128x3584 .f32) (harg12 : arg12.IsWhole)
    (x0 : Vec F S512x2048 .f32) (x1 : Vec F S1x1x2048 .f32) (x3 : Vec F S1x512x2048 .f32) (w : Vec F S2048x3584 .bf16) (fh0 : HbBuf0 (F := F) c hbM0_0) (Ps : sProp 𝕄) : Prop :=
  ∀ (W : Waits sig Unit) (K : (Σ' (v22 : FVec F S512x2048 .bf16) (v24 : FVec F S512x1024 .f32) (v34 : FVec F S512x1024 .f32), F .f32) → sProp 𝕄),
    iprop(owns (c : Thread nD τ) arg1 fullShare x0 ∗ owns (c : Thread nD τ) arg2 fullShare x1 ∗ owns (c : Thread nD τ) arg5 fullShare x3 ∗ (∃ d, owns (c : Thread nD τ) arg10 fullShare d) ∗ Ps ∗ (∃ d, owns (c : Thread nD τ) arg12 fullShare d) ∗ semVal ((c : Thread nD τ), SemLoc.dma 16) 0 ∗ semVal ((c : Thread nD τ), SemLoc.dma 17) 0 ∗ hbPt0 c hbM0_0 fh0 ∗ owes (c : Thread nD τ) 0 W
        ∗ (∀ r, iprop(⌜r = ⟨k0_pay20 x0 x1, k0_pay21 x0 x1 (View.ld (Val := Elt F) w (Rect.unit (s := S2048x3584) ![0, 0] S2048x1024.size inb_S2048x3584_S2048x1024_0_0)), k0_pay22 x0 x1 (View.ld (Val := Elt F) w (Rect.unit (s := S2048x3584) ![0, 0] S2048x1024.size inb_S2048x3584_S2048x1024_0_0)), Scalar.ofBits .f32 0x3F000000#32⟩⌝ ∗ owns (c : Thread nD τ) arg1 fullShare x0 ∗ owns (c : Thread nD τ) arg2 fullShare x1 ∗ owns (c : Thread nD τ) arg5 fullShare x3 ∗ owns (c : Thread nD τ) arg10 fullShare (k0_pay17 x3) ∗ owns (c : Thread nD τ) arg11 fullShare w ∗ (∃ d, owns (c : Thread nD τ) arg12 fullShare d) ∗ semVal ((c : Thread nD τ), SemLoc.dma 16) 0 ∗ semVal ((c : Thread nD τ), SemLoc.dma 17) 0 ∗ hbPt0 c hbM0_0 fh0 ∗ (∃ W', owes (c : Thread nD τ) 0 W')) -∗ K r))
      ⊢ wp frame (wpE (defs₀ (F := F)) Variants.none c none) Set.univ (k0_part11 i arg1 harg1 arg2 harg2 arg3 harg3 (Memref.whole main_arg2) (Memref.isWhole_whole _) arg5 harg5 arg6 harg6 arg7 harg7 arg8 harg8 arg9 harg9 arg10 harg10 arg11 harg11 arg12 harg12 cc0_scratch2) K

end Mixer

end
-- ==== Proof.Mixer.HeadA.lean ====
module

public import proofs.«01_k».proof.Proof.Mixer.Head

@[expose] public section

set_option maxRecDepth 16384

noncomputable section

namespace Mixer

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1600000 in set_option sl_exec.dmaWindow true in set_option sl_exec.dmaWindowSet true in
/-- The first part at the first point: it copies the weight in, sixteen chunks through two slots, and casts them. -/
theorem headA (c : Dev nD) (i : grid0.Coords) (arg1 : Memref sig .tc .vmem S512x2048 .f32) (harg1 : arg1.IsWhole) (arg2 : Memref sig .tc .vmem S1x1x2048 .f32) (harg2 : arg2.IsWhole) (arg3 : Memref sig .tc .vmem S1x1x1024 .f32) (harg3 : arg3.IsWhole) (arg5 : Memref sig .tc .vmem S1x512x2048 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x512 .f32) (harg8 : arg8.IsWhole) (arg9 : Memref sig .tc .vmem S512x512 .f32) (harg9 : arg9.IsWhole) (arg10 : Memref sig .tc .vmem S512x2048 .bf16) (harg10 : arg10.IsWhole) (arg11 : Memref sig .tc .vmem S2048x3584 .bf16) (harg11 : arg11.IsWhole) (arg12 : Memref sig .tc .vmem S2x128x3584 .f32) (harg12 : arg12.IsWhole) (hc0 : cond0_0 i)
    (x0 : Vec F S512x2048 .f32) (x1 : Vec F S1x1x2048 .f32) (x3 : Vec F S1x512x2048 .f32) (fh0 : HbBuf0 (F := F) c hbM0_0) :
    Head c i arg1 harg1 arg2 harg2 arg3 harg3 arg5 harg5 arg6 harg6 arg7 harg7 arg8 harg8 arg9 harg9 arg10 harg10 arg11 harg11 arg12 harg12 x0 x1 x3 (wcast fh0) fh0 iprop((∃ d, owns (c : Thread nD τ) arg11 fullShare d)) := by
    intro W K
    rw [k0_part11_eq_skeleton]; unfold k0_part11_skel
    simp -proj only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f3, %hf3, H3⟩, ⟨%d8, %f8, -, H8⟩, ⟨%ds0, %fs0, -, HS0⟩, ⟨%ds1, %fs1, -, HS1⟩, Hq0, Hq1, Hh0, HW, Hk⟩
    obtain rfl := harg1.eq_unread hf0; obtain rfl := harg2.eq_unread hf1; obtain rfl := harg5.eq_unread hf3
    sl_exec (disch := sl_exact hc0)
    sl_step
    iapply Hk
    isplitr
    · ipureintro
      sl_unfold_words
      simp -proj (disch := decide) only [pay_casts, slot_skip, pay_slot, load_ld, ld_whole, ld_whole_g]
      rw [read_filled arg11 (wcast fh0)]
      · intro p hp x
        fin_cases hp
        · exact congrFun (chunk_ld 1920 _ _ _ inb_S2048x3584_S128x3584_1920_0 fh0) x
        · exact congrFun (chunk_ld 1792 _ _ _ inb_S2048x3584_S128x3584_1792_0 fh0) x
        · exact congrFun (chunk_ld 1664 _ _ _ inb_S2048x3584_S128x3584_1664_0 fh0) x
        · exact congrFun (chunk_ld 1536 _ _ _ inb_S2048x3584_S128x3584_1536_0 fh0) x
        · exact congrFun (chunk_ld 1408 _ _ _ inb_S2048x3584_S128x3584_1408_0 fh0) x
        · exact congrFun (chunk_ld 1280 _ _ _ inb_S2048x3584_S128x3584_1280_0 fh0) x
        · exact congrFun (chunk_ld 1152 _ _ _ inb_S2048x3584_S128x3584_1152_0 fh0) x
        · exact congrFun (chunk_ld 1024 _ _ _ inb_S2048x3584_S128x3584_1024_0 fh0) x
        · exact congrFun (chunk_ld 896 _ _ _ inb_S2048x3584_S128x3584_896_0 fh0) x
        · exact congrFun (chunk_ld 768 _ _ _ inb_S2048x3584_S128x3584_768_0 fh0) x
        · exact congrFun (chunk_ld 640 _ _ _ inb_S2048x3584_S128x3584_640_0 fh0) x
        · exact congrFun (chunk_ld 512 _ _ _ inb_S2048x3584_S128x3584_512_0 fh0) x
        · exact congrFun (chunk_ld 384 _ _ _ inb_S2048x3584_S128x3584_384_0 fh0) x
        · exact congrFun (chunk_ld 256 _ _ _ inb_S2048x3584_S128x3584_256_0 fh0) x
        · exact congrFun (chunk_ld 128 _ _ _ inb_S2048x3584_S128x3584_128_0 fh0) x
        · exact congrFun (chunk_ld 0 _ _ _ inb_S2048x3584_S128x3584_0_0 fh0) x
      · refine fun y => View.cover_of_tiled (s := S2048x3584) _ S128x3584.size ?_ y; rfl
    isplitl [H0]
    · iexists _; isplitr; · ipureintro; exact harg1.read_unread _
      iexact H0
    isplitl [H1]
    · iexists _; isplitr; · ipureintro; exact harg2.read_unread _
      iexact H1
    isplitl [H3]
    · iexists _; isplitr; · ipureintro; exact harg5.read_unread _
      iexact H3
    isplitl [H8]
    · iexists _; isplitr; swap; · iexact H8
      ipureintro
      sl_unfold_words
      simp -proj only [load_ld, ld_whole_s]
      exact out_whole arg10 f8 _ (by decide) _ _
    isplitl [HS0]
    · iexists _; isplitr; swap; · iexact HS0
      ipureintro
      sl_unfold_words
      simp -proj (disch := decide) only [pay_casts, slot_skip, pay_slot]
      refine funext fun y => View.read_writes_apply_of_pieces _ _ (wcast fh0) _ ?_ y ?_
      · intro p hp x
        fin_cases hp
        · exact congrFun (chunk_ld 1920 _ _ _ inb_S2048x3584_S128x3584_1920_0 fh0) x
        · exact congrFun (chunk_ld 1792 _ _ _ inb_S2048x3584_S128x3584_1792_0 fh0) x
        · exact congrFun (chunk_ld 1664 _ _ _ inb_S2048x3584_S128x3584_1664_0 fh0) x
        · exact congrFun (chunk_ld 1536 _ _ _ inb_S2048x3584_S128x3584_1536_0 fh0) x
        · exact congrFun (chunk_ld 1408 _ _ _ inb_S2048x3584_S128x3584_1408_0 fh0) x
        · exact congrFun (chunk_ld 1280 _ _ _ inb_S2048x3584_S128x3584_1280_0 fh0) x
        · exact congrFun (chunk_ld 1152 _ _ _ inb_S2048x3584_S128x3584_1152_0 fh0) x
        · exact congrFun (chunk_ld 1024 _ _ _ inb_S2048x3584_S128x3584_1024_0 fh0) x
        · exact congrFun (chunk_ld 896 _ _ _ inb_S2048x3584_S128x3584_896_0 fh0) x
        · exact congrFun (chunk_ld 768 _ _ _ inb_S2048x3584_S128x3584_768_0 fh0) x
        · exact congrFun (chunk_ld 640 _ _ _ inb_S2048x3584_S128x3584_640_0 fh0) x
        · exact congrFun (chunk_ld 512 _ _ _ inb_S2048x3584_S128x3584_512_0 fh0) x
        · exact congrFun (chunk_ld 384 _ _ _ inb_S2048x3584_S128x3584_384_0 fh0) x
        · exact congrFun (chunk_ld 256 _ _ _ inb_S2048x3584_S128x3584_256_0 fh0) x
        · exact congrFun (chunk_ld 128 _ _ _ inb_S2048x3584_S128x3584_128_0 fh0) x
        · exact congrFun (chunk_ld 0 _ _ _ inb_S2048x3584_S128x3584_0_0 fh0) x
      · refine View.cover_of_tiled (s := S2048x3584) _ S128x3584.size ?_ y; rfl
    isplitl [HS1]
    · iexists _, _; isplitr; swap; · iexact HS1
      ipureintro; rfl
    isplitl [Hq0]; · iexact Hq0
    isplitl [Hq1]; · iexact Hq1
    isplitl [Hh0]; · iexact Hh0
    iexists _; iexact HW

end Mixer

end
-- ==== Proof.Mixer.HeadB.lean ====
module

public import proofs.«01_k».proof.Proof.Mixer.Head

@[expose] public section

set_option maxRecDepth 16384

noncomputable section

namespace Mixer

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 400000 in
/-- The first part at a later point: the scratch holds the weight and keeps it. -/
theorem headB (c : Dev nD) (i : grid0.Coords) (arg1 : Memref sig .tc .vmem S512x2048 .f32) (harg1 : arg1.IsWhole) (arg2 : Memref sig .tc .vmem S1x1x2048 .f32) (harg2 : arg2.IsWhole) (arg3 : Memref sig .tc .vmem S1x1x1024 .f32) (harg3 : arg3.IsWhole) (arg5 : Memref sig .tc .vmem S1x512x2048 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x512 .f32) (harg8 : arg8.IsWhole) (arg9 : Memref sig .tc .vmem S512x512 .f32) (harg9 : arg9.IsWhole) (arg10 : Memref sig .tc .vmem S512x2048 .bf16) (harg10 : arg10.IsWhole) (arg11 : Memref sig .tc .vmem S2048x3584 .bf16) (harg11 : arg11.IsWhole) (arg12 : Memref sig .tc .vmem S2x128x3584 .f32) (harg12 : arg12.IsWhole) (hc0 : ¬cond0_0 i)
    (x0 : Vec F S512x2048 .f32) (x1 : Vec F S1x1x2048 .f32) (x3 : Vec F S1x512x2048 .f32) (w : Vec F S2048x3584 .bf16) (fh0 : HbBuf0 (F := F) c hbM0_0) :
    Head c i arg1 harg1 arg2 harg2 arg3 harg3 arg5 harg5 arg6 harg6 arg7 harg7 arg8 harg8 arg9 harg9 arg10 harg10 arg11 harg11 arg12 harg12 x0 x1 x3 w fh0 iprop(owns (c : Thread nD τ) arg11 fullShare w) := by
    intro W K
    rw [k0_part11_eq_skeleton]; unfold k0_part11_skel

    unfold owns
    iintro ⟨⟨%f0, %hf0, H0⟩, ⟨%f1, %hf1, H1⟩, ⟨%f3, %hf3, H3⟩, ⟨%d8, %f8, -, H8⟩, ⟨%fs0, %hfs, HS0⟩, ⟨%ds1, %fs1, -, HS1⟩, Hq0, Hq1, Hh0, HW, Hk⟩
    obtain rfl := harg1.eq_unread hf0; obtain rfl := harg2.eq_unread hf1; obtain rfl := harg5.eq_unread hf3; obtain rfl := harg11.eq_unread hfs
    sl_exec (disch := sl_exact hc0)
    sl_step
    iapply Hk
    isplitr
    · ipureintro
      sl_unfold_words
      simp -proj only [load_ld, ld_whole, ld_whole_g]
    isplitl [H0]
    · iexists _; isplitr; · ipureintro; exact harg1.read_unread _
      iexact H0
    isplitl [H1]
    · iexists _; isplitr; · ipureintro; exact harg2.read_unread _
      iexact H1
    isplitl [H3]
    · iexists _; isplitr; · ipureintro; exact harg5.read_unread _
      iexact H3
    isplitl [H8]
    · iexists _; isplitr; swap; · iexact H8
      ipureintro
      sl_unfold_words
      simp -proj only [load_ld, ld_whole_s]
      exact out_whole arg10 f8 _ (by decide) _ _
    isplitl [HS0]
    · iexists _; isplitr; swap; · iexact HS0
      ipureintro
      exact harg11.read_unread _
    isplitl [HS1]
    · iexists _, _; isplitr; swap; · iexact HS1
      ipureintro; rfl
    isplitl [Hq0]; · iexact Hq0
    isplitl [Hq1]; · iexact Hq1
    isplitl [Hh0]; · iexact Hh0
    iexists _; iexact HW

end Mixer

end
-- ==== Proof.Mixer.Run.lean ====
module

public import proofs.«01_k».proof.Proof.Mixer.Head

@[expose] public section

set_option maxRecDepth 16384

noncomputable section

namespace Mixer

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1600000 in
/-- The whole body, from its first part's contract: the five results of the point, the weight left in the scratch. -/
theorem run (c : Dev nD) (i : grid0.Coords) (arg1 : Memref sig .tc .vmem S512x2048 .f32) (harg1 : arg1.IsWhole) (arg2 : Memref sig .tc .vmem S1x1x2048 .f32) (harg2 : arg2.IsWhole) (arg3 : Memref sig .tc .vmem S1x1x1024 .f32) (harg3 : arg3.IsWhole) (arg5 : Memref sig .tc .vmem S1x512x2048 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x512 .f32) (harg8 : arg8.IsWhole) (arg9 : Memref sig .tc .vmem S512x512 .f32) (harg9 : arg9.IsWhole) (arg10 : Memref sig .tc .vmem S512x2048 .bf16) (harg10 : arg10.IsWhole) (arg11 : Memref sig .tc .vmem S2048x3584 .bf16) (harg11 : arg11.IsWhole) (arg12 : Memref sig .tc .vmem S2x128x3584 .f32) (harg12 : arg12.IsWhole)
    (x0 : Vec F S512x2048 .f32) (x1 : Vec F S1x1x2048 .f32) (x2 : Vec F S1x1x1024 .f32) (x3 : Vec F S1x512x2048 .f32) (w : Vec F S2048x3584 .bf16) (fh0 : HbBuf0 (F := F) c hbM0_0) (Ps : sProp 𝕄)
    (hh : Head c i arg1 harg1 arg2 harg2 arg3 harg3 arg5 harg5 arg6 harg6 arg7 harg7 arg8 harg8 arg9 harg9 arg10 harg10 arg11 harg11 arg12 harg12 x0 x1 x3 w fh0 Ps) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ Ps ∗ (∃ d, owns (c : Thread nD τ) arg12 fullShare d) ∗ semVal ((c : Thread nD τ), SemLoc.dma 16) 0 ∗ semVal ((c : Thread nD τ), SemLoc.dma 17) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg6 fullShare (uOut x0 x1 w) ∗ owns (c : Thread nD τ) arg7 fullShare (vnOf (vRaw x0 x1 w) x2) ∗ owns (c : Thread nD τ) arg8 fullShare (pOut x0 x1 w) ∗ owns (c : Thread nD τ) arg9 fullShare (gluOut x0 x1 w) ∗ owns (c : Thread nD τ) arg10 fullShare (k0_pay17 x3) ∗ owns (c : Thread nD τ) arg11 fullShare w ∗ (∃ d, owns (c : Thread nD τ) arg12 fullShare d) ∗ semVal ((c : Thread nD τ), SemLoc.dma 16) 0 ∗ semVal ((c : Thread nD τ), SemLoc.dma 17) 0 ∗ hbPt0 c hbM0_0 fh0 ∗ (∃ W', owes (c : Thread nD τ) 0 W')) -∗ K ⟨⟩))
          ⊢ wp frame (wpE (defs₀ (F := F)) Variants.none c none) Set.univ (cc0_mixer_in i arg1 harg1 arg2 harg2 arg3 harg3 (Memref.whole main_arg2) (Memref.isWhole_whole _) arg5 harg5 arg6 harg6 arg7 harg7 arg8 harg8 arg9 harg9 arg10 harg10 arg11 harg11 arg12 harg12 cc0_scratch2) K := by
    intro W K
    rw [cc0_mixer_in_eq_skeleton]; unfold cc0_mixer_in_skel
    rw [wp_bind]
    iintro ⟨H1, H2, H3, H5, H6, H7, H8, H9, H10, HS0, HS1, Hq0, Hq1, Hh0, HW, Hk⟩
    iapply (hh W _)
    isplitl [H1]; · iexact H1
    isplitl [H2]; · iexact H2
    isplitl [H5]; · iexact H5
    isplitl [H10]; · iexact H10
    isplitl [HS0]; · iexact HS0
    isplitl [HS1]; · iexact HS1
    isplitl [Hq0]; · iexact Hq0
    isplitl [Hq1]; · iexact Hq1
    isplitl [Hh0]; · iexact Hh0
    isplitl [HW]; · iexact HW
    iintro %r ⟨%hr, H1, H2, H5, H10, HS0, HS1, Hq0, Hq1, Hh0, ⟨%W1, HW⟩⟩
    subst hr
    simp only [k0_part12_eq_skeleton, k0_part13_eq_skeleton, k0_part14_eq_skeleton, k0_part15_eq_skeleton, k0_part16_eq_skeleton]
    unfold owns
    icases H3 with ⟨%f3, %hf3, H3⟩
    icases H6 with ⟨%d6, %f6, -, H6⟩
    icases H7 with ⟨%d7, %f7, -, H7⟩
    icases H8 with ⟨%d8, %f8, -, H8⟩
    icases H9 with ⟨%d9, %f9, -, H9⟩
    icases HS0 with ⟨%fs0, %hfs, HS0⟩
    obtain rfl := harg3.eq_unread hf3; obtain rfl := harg11.eq_unread hfs
    sl_exec
    sl_step
    iapply Hk
    isplitl [H1]; · iexact H1
    isplitl [H2]; · iexact H2
    isplitl [H3]
    · iexists _; isplitr; · ipureintro; exact harg3.read_unread _
      iexact H3
    isplitl [H5]; · iexact H5
    isplitl [H6]
    · iexists _; isplitr; swap; · iexact H6
      ipureintro
      sl_unfold_words
      exact out_whole arg6 f6 _ (by decide) _ _
    isplitl [H7]
    · iexists _; isplitr; swap; · iexact H7
      ipureintro
      sl_unfold_words
      simp -proj only [load_ld]
      apply out_heads
      · exact head0 _ _ x2
      · exact head1 _ x2
      · exact head2 _ x2
      · exact head3 _ x2
      · exact head4 _ x2
      · exact head5 _ x2
      · exact head6 _ x2
      · exact head7 _ x2
    isplitl [H8]
    · iexists _; isplitr; swap; · iexact H8
      ipureintro
      sl_unfold_words
      simp -proj only [load_ld]
      exact out_whole arg8 f8 _ (by decide) _ _
    isplitl [H9]
    · iexists _; isplitr; swap; · iexact H9
      ipureintro
      sl_unfold_words
      simp -proj only [load_ld]
      exact out_whole arg9 f9 _ (by decide) _ _
    isplitl [H10]; · iexact H10
    isplitl [HS0]
    · iexists _; isplitr; · ipureintro; exact harg11.read_unread _
      iexact HS0
    isplitl [HS1]; · iexact HS1
    isplitl [Hq0]; · iexact Hq0
    isplitl [Hq1]; · iexact Hq1
    isplitl [Hh0]; · iexact Hh0
    iexists _; iexact HW

end Mixer

end
-- ==== Proof.Mixer.Launch.lean ====
module

public import proofs.«01_k».proof.Proof.Mixer.HeadA
public import proofs.«01_k».proof.Proof.Mixer.HeadB
public import proofs.«01_k».proof.Proof.Mixer.Run
public import Idealize.ShloMosaic.Lib.Claim

@[expose] public section

set_option maxRecDepth 16384

noncomputable section

namespace Mixer

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The pipeline's proof data -/

/-- The cast weight of layer 0. -/
def wAt (c : Dev nD) : Vec F S2048x3584 .bf16 := wcast (V m c main_arg2)

/-- The five results of a point. -/
def uAt (c : Dev nD) (t : Fin cfg0.N) : Vec F S512x1024 .bf16 := uOut (iblk m c 0 t) (iblk m c 1 t) (wAt m c)
def vAt (c : Dev nD) (t : Fin cfg0.N) : Vec F S512x1024 .bf16 := vnOf (vRaw (iblk m c 0 t) (iblk m c 1 t) (wAt m c)) (iblk m c 2 t)
def pAt (c : Dev nD) (t : Fin cfg0.N) : Vec F S512x512 .f32 := pOut (iblk m c 0 t) (iblk m c 1 t) (wAt m c)
def gAt (c : Dev nD) (t : Fin cfg0.N) : Vec F S512x512 .f32 := gluOut (iblk m c 0 t) (iblk m c 1 t) (wAt m c)
def sAt (c : Dev nD) (t : Fin cfg0.N) : Vec F S512x2048 .bf16 := k0_pay17 (iblk m c 3 t)

/-- The weight scratch before point `n`: anything at the first point, the cast weight later. -/
def scratchAt (c : Dev nD) (n : ℕ) : sProp 𝕄 :=
  if n = 0 then iprop(∃ d, owns (c : Thread nD τ) scM0_0 fullShare d) else owns (c : Thread nD τ) scM0_0 fullShare (wAt m c)

/-- The invariant between points: the weight scratch, the stage at anything, the generator register, the body's own
    counters at zero and the weight array as launched. -/
def PhiV (c : Dev nD) (n : ℕ) : sProp 𝕄 :=
  iprop(iprop(scratchAt m c n ∗ (∃ d, owns (c : Thread nD τ) scM0_1 fullShare d)) ∗ (∃ r, prngReg c r) ∗ iprop(semVal ((c : Thread nD τ), SemLoc.dma 16) 0 ∗ semVal ((c : Thread nD τ), SemLoc.dma 17) 0) ∗ iprop(hbPt0 c hbM0_0 (V m c main_arg2)))

/-- The proof data of the pipeline: each input's buffer keeps its block, the outputs' are the point's five results. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => uAt m c t
    | ⟨5, _⟩ => vAt m c t
    | ⟨6, _⟩ => pAt m c t
    | ⟨7, _⟩ => gAt m c t
    | ⟨8, _⟩ => sAt m c t
  Φ t := PhiV m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = uAt m c t := by dsimp only [dats]
theorem after0_5 (c : Dev nD) (t : Fin cfg0.N) : (dats m 0 c).after 5 t = vAt m c t := by dsimp only [dats]
theorem after0_6 (c : Dev nD) (t : Fin cfg0.N) : (dats m 0 c).after 6 t = pAt m c t := by dsimp only [dats]
theorem after0_7 (c : Dev nD) (t : Fin cfg0.N) : (dats m 0 c).after 7 t = gAt m c t := by dsimp only [dats]
theorem after0_8 (c : Dev nD) (t : Fin cfg0.N) : (dats m 0 c).after 8 t = sAt m c t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 800000 in
/-- The body at any point: the inputs' memrefs hold their blocks (`before0_W`), the closed form of the condition says
    which first part runs, and `run` gives the rest; the invariant hands the body its scratch, the register, its DMA
    cells at zero and the weight array, and takes them back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiV m c (t.val + 1) from rfl, show (dats m 0 c).Φ t.castSucc = PhiV m c t.val from rfl]
  unfold PhiV
  rw [scratchAt, scratchAt, if_neg (show ¬ (t.val + 1 = 0) by omega)]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  by_cases h0 : t.val % 16 = 0
  · rw [if_pos (show t.val = 0 by omega)]
    iintro ⟨⟨⟨HS0, HS1⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run c (grid0.coords t) _ _ _ _ _ _ _ _ _ _ _ _ _ _ _ _ _ _ _ _ _ _ (iblk m c 0 t) (iblk m c 1 t) (iblk m c 2 t) (iblk m c 3 t) (wAt m c) (V m c main_arg2) _
      (headA c (grid0.coords t) _ _ _ _ _ _ _ _ _ _ _ _ _ _ _ _ _ _ _ _ _ _ ((hcond0_0 t).mpr h0) (iblk m c 0 t) (iblk m c 1 t) (iblk m c 3 t) (V m c main_arg2)) W _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [HS0]; · iexact HS0
    isplitl [HS1]; · iexact HS1
    isplitl [Hq0]; · iexact Hq0
    isplitl [Hq1]; · iexact Hq1
    isplitl [Hh0]; · iexact Hh0
    isplitl [HW]; · iexact HW
    iintro ⟨H0, H1, H2, H3, H4, H5, H6, H7, H8, HS0, HS1, Hq0, Hq1, Hh0, ⟨%W', HW'⟩⟩
    isplitl [HS0 HS1 Hg Hq0 Hq1 Hh0]
    · isplitl [HS0 HS1]
      · isplitl [HS0]; · iexact HS0
        iexact HS1
      isplitl [Hg]
      · iexact Hg
      isplitl [Hq0 Hq1]
      · isplitl [Hq0]; · iexact Hq0
        iexact Hq1
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [if_neg (show ¬ (t.val = 0) by omega)]
    iintro ⟨⟨⟨HS0, HS1⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run c (grid0.coords t) _ _ _ _ _ _ _ _ _ _ _ _ _ _ _ _ _ _ _ _ _ _ (iblk m c 0 t) (iblk m c 1 t) (iblk m c 2 t) (iblk m c 3 t) (wAt m c) (V m c main_arg2) _
      (headB c (grid0.coords t) _ _ _ _ _ _ _ _ _ _ _ _ _ _ _ _ _ _ _ _ _ _ (fun h => h0 ((hcond0_0 t).mp h)) (iblk m c 0 t) (iblk m c 1 t) (iblk m c 3 t) (wAt m c) (V m c main_arg2)) W _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [HS0]; · iexact HS0
    isplitl [HS1]; · iexact HS1
    isplitl [Hq0]; · iexact Hq0
    isplitl [Hq1]; · iexact Hq1
    isplitl [Hh0]; · iexact Hh0
    isplitl [HW]; · iexact HW
    iintro ⟨H0, H1, H2, H3, H4, H5, H6, H7, H8, HS0, HS1, Hq0, Hq1, Hh0, ⟨%W', HW'⟩⟩
    isplitl [HS0 HS1 Hg Hq0 Hq1 Hh0]
    · isplitl [HS0 HS1]
      · isplitl [HS0]; · iexact HS0
        iexact HS1
      isplitl [Hg]
      · iexact Hg
      isplitl [Hq0 Hq1]
      · isplitl [Hq0]; · iexact Hq0
        iexact Hq1
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The invariant before the first point is what the launch hands over. -/
theorem phi_in (c : Dev nD) : Pipeline.ΦD osem0 spec0 H0 (V m) c ⊢ (dats m 0 c).Φ 0 := by
  rw [show (dats m 0 c).Φ 0 = PhiV m c 0 from rfl, PhiD0_eq]
  exact .rfl

/-- The invariant after the last point gives back what the launch takes. -/
theorem phi_out (c : Dev nD) : (dats m 0 c).Φ (Fin.last cfg0.N) ⊢ Pipeline.ΦD osem0 spec0 H0 (V m) c := by
  rw [show (dats m 0 c).Φ (Fin.last cfg0.N) = PhiV m c 16 from rfl, PhiD0_eq]
  unfold PhiV
  rw [scratchAt, if_neg (by decide)]
  iintro ⟨⟨HS0, HS1⟩, Hg, Hq, Hh⟩
  isplitl [HS0 HS1]
  · isplitl [HS0]; · iexists _; iexact HS0
    iexact HS1
  isplitl [Hg]; · iexact Hg
  isplitl [Hq]; · iexact Hq
  iexact Hh

set_option backward.isDefEq.respectTransparency.types false in
/-- The launch: every execution terminates with the arrays at the proof data's contents, every other unscoped buffer
    unchanged and every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- What a run ends with: the five result arrays at the proof data's contents, the arguments unchanged, every counter at zero. -/
theorem run_result : θ_run defs (onTc (τ := τ) (main (F := F))) ⟨m, fun _ => 0, ρ⟩ (fun r => (∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_v0_2) = (dats m 0 c).arrAt 6 cfg0.N
      ∧ r.2.mem ((c.tc : Thread nD τ).loc main_v0_3) = (dats m 0 c).arrAt 7 cfg0.N
      ∧ r.2.mem ((c.tc : Thread nD τ).loc main_v0_4) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 4), ((h.1 c).1 5), ((h.1 c).1 6), ((h.1 c).1 7), ((h.1 c).1 8),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).1 2).trans (((dats m 0 c).arrAt_in 2 rfl _).trans ((A_eq m c 2).trans (V_main_arg3 m c))),
      ((h.1 c).1 3).trans (((dats m 0 c).arrAt_in 3 rfl _).trans ((A_eq m c 3).trans (V_main_arg4 m c)))⟩, h.2⟩) (run_main m ρ)

end Mixer

end
-- ==== Proof.Mixer.Value.lean ====
/- The mixer input's five result arrays over the extended reals, as functions of the argument arrays. -/
module

public import proofs.«01_k».proof.Proof.Mixer.Launch

@[expose] public section

set_option maxRecDepth 16384

noncomputable section

namespace Mixer

open Cert.Kernel4Ideal Cert.Kernel4Ideal.Gen
open Idealize.ShloMosaic Idealize.ShloMosaic.TcCoe Idealize.ShloMosaic.Tactic Idealize.SL.Sem

/-! ## The whole arrays' functions -/

/-- A row scaled to unit root mean square, times the gain. -/
def rms (y : Fin 2048 → EReal) (g : EReal) (c : Fin 2048) : EReal :=
  y c * Ideal.rsqrt (Ideal.div (∑ k : Fin 2048, y k * y k) (Ideal.ofBits .f32 0x45000000#32) + Ideal.ofBits .f32 0x358637BD#32) * g

/-- The smooth gate, in the form that uses the hyperbolic tangent. -/
def gelu (z : EReal) : EReal :=
  z * (Ideal.ofBits .f32 0x3F000000#32 * (Ideal.ofBits .f32 0x3F800000#32 + Ideal.tanh (Ideal.ofBits .f32 0x3F4C422A#32 * (z + Ideal.ofBits .f32 0x3D372713#32 * (z * (z * z))))))

/-- A head's row less its mean. -/
def cent (y : Fin 128 → EReal) (c : Fin 128) : EReal := y c - Ideal.div (∑ k : Fin 128, y k) (Ideal.ofBits .f32 0x43000000#32)

/-- A head's row less its mean, over its deviation, times the gain. -/
def hn (y : Fin 128 → EReal) (g : EReal) (c : Fin 128) : EReal :=
  cent y c * Ideal.rsqrt (Ideal.div (∑ k : Fin 128, cent y k * cent y k) (Ideal.ofBits .f32 0x43000000#32) + Ideal.ofBits .f32 0x3727C5AC#32) * g

/-- A normalised row of the input times a column of the weight of layer 0. -/
def prod (X : (⟨2, ![8192, 2048]⟩ : Shape).Idx → EReal) (G : (⟨3, ![2, 1, 2048]⟩ : Shape).Idx → EReal) (W : (⟨3, ![2, 2048, 3584]⟩ : Shape).Idx → EReal) (r : Fin 8192) (c : Fin 3584) : EReal :=
  ∑ k : Fin 2048, rms (fun k => X (ix2 r k)) (G (ix3 0 0 k)) k * W (ix3 0 k c)

/-- The gated half. -/
def uF (X : (⟨2, ![8192, 2048]⟩ : Shape).Idx → EReal) (G : (⟨3, ![2, 1, 2048]⟩ : Shape).Idx → EReal) (W : (⟨3, ![2, 2048, 3584]⟩ : Shape).Idx → EReal) (i : (⟨2, ![8192, 1024]⟩ : Shape).Idx) : EReal :=
  gelu (prod X G W ⟨(i 0).val, (i 0).isLt⟩ ⟨(i 1).val, by have h : (i 1).val < 1024 := (i 1).isLt; omega⟩)

/-- The other half's head `h` of a row, before its normalisation. -/
def vrow (X : (⟨2, ![8192, 2048]⟩ : Shape).Idx → EReal) (G : (⟨3, ![2, 1, 2048]⟩ : Shape).Idx → EReal) (W : (⟨3, ![2, 2048, 3584]⟩ : Shape).Idx → EReal) (r : Fin 8192) (h : Fin 8) (k : Fin 128) : EReal :=
  gelu (prod X G W r ⟨1024 + (128 * h.val + k.val), by omega⟩)

/-- The normalised half. -/
def vF (X : (⟨2, ![8192, 2048]⟩ : Shape).Idx → EReal) (G : (⟨3, ![2, 1, 2048]⟩ : Shape).Idx → EReal) (W : (⟨3, ![2, 2048, 3584]⟩ : Shape).Idx → EReal) (Gv : (⟨3, ![2, 1, 1024]⟩ : Shape).Idx → EReal)
    (i : (⟨2, ![8192, 1024]⟩ : Shape).Idx) : EReal :=
  hn (vrow X G W ⟨(i 0).val, (i 0).isLt⟩ ⟨(i 1).val / 128, by have h : (i 1).val < 1024 := (i 1).isLt; omega⟩) (Gv (ix3 0 0 ⟨(i 1).val, (i 1).isLt⟩)) ⟨(i 1).val % 128, Nat.mod_lt _ (by decide)⟩

/-- The pooled input. -/
def pF (X : (⟨2, ![8192, 2048]⟩ : Shape).Idx → EReal) (G : (⟨3, ![2, 1, 2048]⟩ : Shape).Idx → EReal) (W : (⟨3, ![2, 2048, 3584]⟩ : Shape).Idx → EReal) (i : (⟨2, ![8192, 512]⟩ : Shape).Idx) : EReal :=
  prod X G W ⟨(i 0).val, (i 0).isLt⟩ ⟨2048 + (i 1).val, by have h : (i 1).val < 512 := (i 1).isLt; omega⟩

/-- The gated linear unit. -/
def gF (X : (⟨2, ![8192, 2048]⟩ : Shape).Idx → EReal) (G : (⟨3, ![2, 1, 2048]⟩ : Shape).Idx → EReal) (W : (⟨3, ![2, 2048, 3584]⟩ : Shape).Idx → EReal) (i : (⟨2, ![8192, 512]⟩ : Shape).Idx) : EReal :=
  prod X G W ⟨(i 0).val, (i 0).isLt⟩ ⟨2560 + (i 1).val, by have h : (i 1).val < 512 := (i 1).isLt; omega⟩
    * Ideal.logistic (prod X G W ⟨(i 0).val, (i 0).isLt⟩ ⟨3072 + (i 1).val, by have h : (i 1).val < 512 := (i 1).isLt; omega⟩)

/-- Layer 0 of the later weight. -/
def sF (S : (⟨3, ![2, 8192, 2048]⟩ : Shape).Idx → EReal) (i : (⟨2, ![8192, 2048]⟩ : Shape).Idx) : EReal :=
  S (ix3 0 ⟨(i 0).val, (i 0).isLt⟩ ⟨(i 1).val, (i 1).isLt⟩)

/-! ## The body's blocks, element by element -/

theorem pay20_apply (x : Vec Ideal S512x2048 .f32) (g : Vec Ideal S1x1x2048 .f32) (r : Fin 512) (c : Fin 2048) :
    k0_pay20 x g (ix2 r c) = rms (fun c => x (ix2 r c)) (g (ix3 0 0 c)) c := by
  unfold rms
  pointwise [k0_pay20]

/-- A block's normalised row times a column of the cast weight. -/
def bprod (x : Vec Ideal S512x2048 .f32) (g : Vec Ideal S1x1x2048 .f32) (w : Vec Ideal S2048x3584 .bf16) (r : Fin 512) (c : Fin 3584) : EReal :=
  ∑ k : Fin 2048, k0_pay20 x g (ix2 r k) * w (ix2 k c)

/-- A load of `n` columns of the weight from column `o`. -/
theorem ld_cols (w : Vec Ideal S2048x3584 .bf16) (n o : ℕ) (inb : ∀ a, (![0, o] : Fin 2 → ℕ) a + (![2048, n] : Fin 2 → ℕ) a ≤ S2048x3584.size a) (k : Fin 2048) (c : Fin n) (h : o + c.val < 3584) :
    View.ld (Val := Elt Ideal) w (Rect.unit (s := S2048x3584) ![0, o] ![2048, n] inb) (ix2 k c : (⟨2, ![2048, n]⟩ : Shape).Idx) = w (ix2 k ⟨o + c.val, h⟩) := by
  refine congrArg w (funext fun a => Fin.ext ?_)
  match a with
  | ⟨0, _⟩ => show 0 + 1 * k.val = k.val; omega
  | ⟨1, _⟩ => show o + 1 * c.val = o + c.val; omega

theorem pay21_apply (x : Vec Ideal S512x2048 .f32) (g : Vec Ideal S1x1x2048 .f32) (w : Vec Ideal S2048x1024 .bf16) (r : Fin 512) (c : Fin 1024) :
    k0_pay21 x g w (ix2 r c) = ∑ k : Fin 2048, k0_pay20 x g (ix2 r k) * w (ix2 k c) := by
  unfold k0_pay21
  generalize k0_pay20 x g = y
  pointwise []

theorem pay23_apply (x : Vec Ideal S512x2048 .f32) (g : Vec Ideal S1x1x2048 .f32) (w : Vec Ideal S2048x1024 .bf16) (r : Fin 512) (c : Fin 1024) :
    k0_pay23 (k0_pay21 x g w) (k0_pay22 x g w) (Scalar.ofBits .f32 0x3F000000#32) (ix2 r c) = gelu (k0_pay21 x g w (ix2 r c)) := by
  unfold gelu k0_pay23 k0_pay22
  generalize k0_pay21 x g w = y
  pointwise []

theorem pay24_apply (y : Vec Ideal S512x2048 .bf16) (w : Vec Ideal S2048x1024 .bf16) (r : Fin 512) (c : Fin 1024) :
    k0_pay24 y w (ix2 r c) = gelu (∑ k : Fin 2048, y (ix2 r k) * w (ix2 k c)) := by
  unfold gelu
  pointwise [k0_pay24]

theorem pay1_apply (y : Vec Ideal S512x2048 .bf16) (w : Vec Ideal S2048x512 .bf16) (r : Fin 512) (c : Fin 512) :
    k0_pay1 y w (ix2 r c) = ∑ k : Fin 2048, y (ix2 r k) * w (ix2 k c) := by
  pointwise [k0_pay1]

theorem pay2_apply (y : Vec Ideal S512x2048 .bf16) (w w' : Vec Ideal S2048x512 .bf16) (r : Fin 512) (c : Fin 512) :
    k0_pay2 y w w' (ix2 r c) = (∑ k : Fin 2048, y (ix2 r k) * w (ix2 k c)) * Ideal.logistic (∑ k : Fin 2048, y (ix2 r k) * w' (ix2 k c)) := by
  pointwise [k0_pay2]

theorem pay17_apply (x : Vec Ideal S1x512x2048 .f32) (r : Fin 512) (c : Fin 2048) : k0_pay17 x (ix2 r c) = x (ix3 0 r c) := by
  pointwise [k0_pay17]

theorem hnorm_apply (y : Vec Ideal S512x128 .f32) (g : Vec Ideal S1x1x128 .f32) (r : Fin 512) (c : Fin 128) :
    hnorm y g (ix2 r c) = hn (fun c => y (ix2 r c)) (g (ix3 0 0 c)) c := by
  unfold hn cent hnorm
  pointwise [k0_pay38, k0_pay37]

/-- The gated half of a block. -/
theorem uOut_apply (x : Vec Ideal S512x2048 .f32) (g : Vec Ideal S1x1x2048 .f32) (w : Vec Ideal S2048x3584 .bf16) (r : Fin 512) (c : Fin 1024) (h : 0 + c.val < 3584) :
    uOut x g w (ix2 r c) = gelu (bprod x g w r ⟨0 + c.val, h⟩) :=
  (pay23_apply x g _ r c).trans (congrArg gelu ((pay21_apply x g _ r c).trans (Finset.sum_congr rfl fun k _ => congrArg (_ * ·) (ld_cols w 1024 0 _ k c h))))

/-- The other half of a block before its normalisation. -/
theorem vRaw_apply (x : Vec Ideal S512x2048 .f32) (g : Vec Ideal S1x1x2048 .f32) (w : Vec Ideal S2048x3584 .bf16) (r : Fin 512) (c : Fin 1024) (h : 1024 + c.val < 3584) :
    vRaw x g w (ix2 r c) = gelu (bprod x g w r ⟨1024 + c.val, h⟩) :=
  (pay24_apply _ _ r c).trans (congrArg gelu (Finset.sum_congr rfl fun k _ => congrArg (_ * ·) (ld_cols w 1024 1024 _ k c h)))

/-- The pooled input of a block. -/
theorem pOut_apply (x : Vec Ideal S512x2048 .f32) (g : Vec Ideal S1x1x2048 .f32) (w : Vec Ideal S2048x3584 .bf16) (r : Fin 512) (c : Fin 512) (h : 2048 + c.val < 3584) :
    pOut x g w (ix2 r c) = bprod x g w r ⟨2048 + c.val, h⟩ :=
  (pay1_apply _ _ r c).trans (Finset.sum_congr rfl fun k _ => congrArg (_ * ·) (ld_cols w 512 2048 _ k c h))

/-- The gated linear unit of a block. -/
theorem gluOut_apply (x : Vec Ideal S512x2048 .f32) (g : Vec Ideal S1x1x2048 .f32) (w : Vec Ideal S2048x3584 .bf16) (r : Fin 512) (c : Fin 512) (h : 2560 + c.val < 3584) (h' : 3072 + c.val < 3584) :
    gluOut x g w (ix2 r c) = bprod x g w r ⟨2560 + c.val, h⟩ * Ideal.logistic (bprod x g w r ⟨3072 + c.val, h'⟩) :=
  (pay2_apply _ _ _ r c).trans (congrArg₂ (fun a b => a * Ideal.logistic b)
    (Finset.sum_congr rfl fun k _ => congrArg (_ * ·) (ld_cols w 512 2560 _ k c h)) (Finset.sum_congr rfl fun k _ => congrArg (_ * ·) (ld_cols w 512 3072 _ k c h')))

/-! ## The blocks' places in their arrays -/

variable (m : (ℓ : Loc nD τ sig) → Buf (Elt Ideal) ℓ) (ρ : Dev nD → PrngReg)

theorem tlt (t : Fin cfg0.N) : t.val < 16 := lt_of_lt_of_eq t.isLt (show cfg0.N = 16 from N_0)

/-- Row `r` of the point's block, in the whole array. -/
def rowOf (t : Fin cfg0.N) (r : Fin 512) : Fin 8192 := ⟨512 * t.val + r.val, by have := tlt t; omega⟩

/-- An index is its row and its column. -/
theorem eta2 {a b : ℕ} (i : (⟨2, ![a, b]⟩ : Shape).Idx) : i = ix2 (⟨(i 0).val, (i 0).isLt⟩ : Fin a) (⟨(i 1).val, (i 1).isLt⟩ : Fin b) :=
  funext fun a => Fin.ext (by match a with | ⟨0, _⟩ => rfl | ⟨1, _⟩ => rfl)

/-- Every index of an array of 8192 rows lies in some point's block. -/
theorem rows_cover {n : ℕ} (i : (⟨2, ![8192, n]⟩ : Shape).Idx) : ∃ (t : Fin cfg0.N) (r : Fin 512), i = ix2 (rowOf t r) (⟨(i 1).val, (i 1).isLt⟩ : Fin n) := by
  have h0 : (i 0).val < 8192 := (i 0).isLt
  refine ⟨⟨(i 0).val / 512, by rw [show cfg0.N = 16 from N_0]; omega⟩, ⟨(i 0).val % 512, Nat.mod_lt _ (by decide)⟩, (eta2 i).trans ?_⟩
  exact congrArg (fun r : Fin 8192 => (ix2 r (⟨(i 1).val, (i 1).isLt⟩ : Fin n) : (⟨2, ![8192, n]⟩ : Shape).Idx)) (Fin.ext (by show (i 0).val = 512 * ((i 0).val / 512) + (i 0).val % 512; omega))

/-- Where each window's block stands in its array at each point. -/
theorem index1 : ∀ t : Fin cfg0.N, win0_1.index t (0 : Fin 3) = 0 ∧ win0_1.index t (1 : Fin 3) = 0 ∧ win0_1.index t (2 : Fin 3) = 0 :=
  (by decide +kernel : ∀ t : Fin grid0.N, _)
theorem index2 : ∀ t : Fin cfg0.N, win0_2.index t (0 : Fin 3) = 0 ∧ win0_2.index t (1 : Fin 3) = 0 ∧ win0_2.index t (2 : Fin 3) = 0 :=
  (by decide +kernel : ∀ t : Fin grid0.N, _)
theorem index3 : ∀ t : Fin cfg0.N, win0_3.index t (0 : Fin 3) = 0 ∧ win0_3.index t (1 : Fin 3) = t.val ∧ win0_3.index t (2 : Fin 3) = 0 :=
  (by decide +kernel : ∀ t : Fin grid0.N, _)
theorem index0 : ∀ t : Fin cfg0.N, win0_0.index t (0 : Fin 2) = t.val ∧ win0_0.index t (1 : Fin 2) = 0 := (by decide +kernel : ∀ t : Fin grid0.N, _)
theorem index4 : ∀ t : Fin cfg0.N, win0_4.index t (0 : Fin 2) = t.val ∧ win0_4.index t (1 : Fin 2) = 0 := (by decide +kernel : ∀ t : Fin grid0.N, _)
theorem index5 : ∀ t : Fin cfg0.N, win0_5.index t (0 : Fin 2) = t.val ∧ win0_5.index t (1 : Fin 2) = 0 := (by decide +kernel : ∀ t : Fin grid0.N, _)
theorem index6 : ∀ t : Fin cfg0.N, win0_6.index t (0 : Fin 2) = t.val ∧ win0_6.index t (1 : Fin 2) = 0 := (by decide +kernel : ∀ t : Fin grid0.N, _)
theorem index7 : ∀ t : Fin cfg0.N, win0_7.index t (0 : Fin 2) = t.val ∧ win0_7.index t (1 : Fin 2) = 0 := (by decide +kernel : ∀ t : Fin grid0.N, _)
theorem index8 : ∀ t : Fin cfg0.N, win0_8.index t (0 : Fin 2) = t.val ∧ win0_8.index t (1 : Fin 2) = 0 := (by decide +kernel : ∀ t : Fin grid0.N, _)

/-- A block of 512 rows stands at its point's rows. -/
theorem emb0 (t : Fin cfg0.N) (r : Fin 512) (k : Fin 2048) : ((cfg0.win 0).blk t).view.emb (ix2 r k : S512x2048.Idx) = (ix2 (rowOf t r) k : S8192x2048.Idx) := by
  obtain ⟨e0, e1⟩ := index0 t
  refine funext fun a => Fin.ext ?_
  match a with
  | ⟨0, _⟩ => show win0_0.index t (0 : Fin 2) * 512 + 1 * r.val = 512 * t.val + r.val; omega
  | ⟨1, _⟩ => show win0_0.index t (1 : Fin 2) * 2048 + 1 * k.val = k.val; omega
theorem emb4 (t : Fin cfg0.N) (r : Fin 512) (k : Fin 1024) : ((cfg0.win 4).blk t).view.emb (ix2 r k : S512x1024.Idx) = (ix2 (rowOf t r) k : S8192x1024.Idx) := by
  obtain ⟨e0, e1⟩ := index4 t
  refine funext fun a => Fin.ext ?_
  match a with
  | ⟨0, _⟩ => show win0_4.index t (0 : Fin 2) * 512 + 1 * r.val = 512 * t.val + r.val; omega
  | ⟨1, _⟩ => show win0_4.index t (1 : Fin 2) * 1024 + 1 * k.val = k.val; omega
theorem emb5 (t : Fin cfg0.N) (r : Fin 512) (k : Fin 1024) : ((cfg0.win 5).blk t).view.emb (ix2 r k : S512x1024.Idx) = (ix2 (rowOf t r) k : S8192x1024.Idx) := by
  obtain ⟨e0, e1⟩ := index5 t
  refine funext fun a => Fin.ext ?_
  match a with
  | ⟨0, _⟩ => show win0_5.index t (0 : Fin 2) * 512 + 1 * r.val = 512 * t.val + r.val; omega
  | ⟨1, _⟩ => show win0_5.index t (1 : Fin 2) * 1024 + 1 * k.val = k.val; omega
theorem emb6 (t : Fin cfg0.N) (r : Fin 512) (k : Fin 512) : ((cfg0.win 6).blk t).view.emb (ix2 r k : S512x512.Idx) = (ix2 (rowOf t r) k : S8192x512.Idx) := by
  obtain ⟨e0, e1⟩ := index6 t
  refine funext fun a => Fin.ext ?_
  match a with
  | ⟨0, _⟩ => show win0_6.index t (0 : Fin 2) * 512 + 1 * r.val = 512 * t.val + r.val; omega
  | ⟨1, _⟩ => show win0_6.index t (1 : Fin 2) * 512 + 1 * k.val = k.val; omega
theorem emb7 (t : Fin cfg0.N) (r : Fin 512) (k : Fin 512) : ((cfg0.win 7).blk t).view.emb (ix2 r k : S512x512.Idx) = (ix2 (rowOf t r) k : S8192x512.Idx) := by
  obtain ⟨e0, e1⟩ := index7 t
  refine funext fun a => Fin.ext ?_
  match a with
  | ⟨0, _⟩ => show win0_7.index t (0 : Fin 2) * 512 + 1 * r.val = 512 * t.val + r.val; omega
  | ⟨1, _⟩ => show win0_7.index t (1 : Fin 2) * 512 + 1 * k.val = k.val; omega
theorem emb8 (t : Fin cfg0.N) (r : Fin 512) (k : Fin 2048) : ((cfg0.win 8).blk t).view.emb (ix2 r k : S512x2048.Idx) = (ix2 (rowOf t r) k : S8192x2048.Idx) := by
  obtain ⟨e0, e1⟩ := index8 t
  refine funext fun a => Fin.ext ?_
  match a with
  | ⟨0, _⟩ => show win0_8.index t (0 : Fin 2) * 512 + 1 * r.val = 512 * t.val + r.val; omega
  | ⟨1, _⟩ => show win0_8.index t (1 : Fin 2) * 2048 + 1 * k.val = k.val; omega

/-- The point's rows of the input. -/
theorem iblk0_apply (c : Dev nD) (t : Fin cfg0.N) (r : Fin 512) (k : Fin 2048) :
    (iblk m c 0 t : Vec Ideal S512x2048 .f32) (ix2 r k) = (V m c main_arg0 : S8192x2048.Idx → EReal) (ix2 (rowOf t r) k) :=
  congrArg (V m c main_arg0) (emb0 t r k)

/-- The gain of the first normalisation. -/
theorem iblk1_apply (c : Dev nD) (t : Fin cfg0.N) (k : Fin 2048) :
    (iblk m c 1 t : Vec Ideal S1x1x2048 .f32) (ix3 0 0 k) = (V m c main_arg1 : S2x1x2048.Idx → EReal) (ix3 0 0 k) := by
  obtain ⟨e0, e1, e2⟩ := index1 t
  show V m c main_arg1 (((cfg0.win 1).blk t).view.emb (ix3 0 0 k)) = _
  refine congrArg (V m c main_arg1) (funext fun a => Fin.ext ?_)
  match a with
  | ⟨0, _⟩ => show win0_1.index t (0 : Fin 3) * 1 + 1 * 0 = 0; omega
  | ⟨1, _⟩ => show win0_1.index t (1 : Fin 3) * 1 + 1 * 0 = 0; omega
  | ⟨2, _⟩ => show win0_1.index t (2 : Fin 3) * 2048 + 1 * k.val = k.val; omega

/-- The gains of the heads. -/
theorem iblk2_apply (c : Dev nD) (t : Fin cfg0.N) (k : Fin 1024) :
    (iblk m c 2 t : Vec Ideal S1x1x1024 .f32) (ix3 0 0 k) = (V m c main_arg3 : S2x1x1024.Idx → EReal) (ix3 0 0 k) := by
  obtain ⟨e0, e1, e2⟩ := index2 t
  show V m c main_arg3 (((cfg0.win 2).blk t).view.emb (ix3 0 0 k)) = _
  refine congrArg (V m c main_arg3) (funext fun a => Fin.ext ?_)
  match a with
  | ⟨0, _⟩ => show win0_2.index t (0 : Fin 3) * 1 + 1 * 0 = 0; omega
  | ⟨1, _⟩ => show win0_2.index t (1 : Fin 3) * 1 + 1 * 0 = 0; omega
  | ⟨2, _⟩ => show win0_2.index t (2 : Fin 3) * 1024 + 1 * k.val = k.val; omega

/-- The point's rows of the later weight. -/
theorem iblk3_apply (c : Dev nD) (t : Fin cfg0.N) (r : Fin 512) (k : Fin 2048) :
    (iblk m c 3 t : Vec Ideal S1x512x2048 .f32) (ix3 0 r k) = (V m c main_arg4 : S2x8192x2048.Idx → EReal) (ix3 0 (rowOf t r) k) := by
  obtain ⟨e0, e1, e2⟩ := index3 t
  show V m c main_arg4 (((cfg0.win 3).blk t).view.emb (ix3 0 r k)) = _
  refine congrArg (V m c main_arg4) (funext fun a => Fin.ext ?_)
  match a with
  | ⟨0, _⟩ => show win0_3.index t (0 : Fin 3) * 1 + 1 * 0 = 0; omega
  | ⟨1, _⟩ => show win0_3.index t (1 : Fin 3) * 512 + 1 * r.val = 512 * t.val + r.val; omega
  | ⟨2, _⟩ => show win0_3.index t (2 : Fin 3) * 2048 + 1 * k.val = k.val; omega

/-- A block's product is the whole arrays' at its rows. -/
theorem bprod_eq (c : Dev nD) (t : Fin cfg0.N) (r : Fin 512) (k : Fin 3584) :
    bprod (iblk m c 0 t) (iblk m c 1 t) (wAt m c) r k = prod (V m c main_arg0) (V m c main_arg1) (V m c main_arg2) (rowOf t r) k := by
  unfold bprod prod
  refine Finset.sum_congr rfl fun j _ => congrArg₂ (· * ·) ((pay20_apply _ _ r j).trans ?_) rfl
  exact congrArg₂ (fun y g => rms y g j) (funext fun k => iblk0_apply m c t r k) (iblk1_apply m c t j)

/-! ## The five results of a point -/

theorem uAt_apply (c : Dev nD) (t : Fin cfg0.N) (r : Fin 512) (k : Fin 1024) :
    uAt m c t (ix2 r k) = uF (V m c main_arg0) (V m c main_arg1) (V m c main_arg2) (ix2 (rowOf t r) k) :=
  (uOut_apply _ _ _ r k (by omega)).trans (congrArg gelu ((bprod_eq m c t r _).trans (congrArg (prod _ _ _ _) (Fin.ext (Nat.zero_add _)))))

theorem vAt_apply (c : Dev nD) (t : Fin cfg0.N) (r : Fin 512) (k : Fin 1024) :
    vAt m c t (ix2 r k) = vF (V m c main_arg0) (V m c main_arg1) (V m c main_arg2) (V m c main_arg3) (ix2 (rowOf t r) k) := by
  have hk := k.isLt
  refine (hnorm_apply (hcols (vRaw (iblk m c 0 t) (iblk m c 1 t) (wAt m c)) (k.val / 128)) (gcols (iblk m c 2 t) (k.val / 128)) r ⟨k.val % 128, Nat.mod_lt _ (by decide)⟩).trans ?_
  refine congrArg₂ (fun y g => hn y g _) (funext fun j => ?_) ?_
  · refine (vRaw_apply _ _ _ r ⟨(128 * (k.val / 128) + j.val) % 1024, Nat.mod_lt _ (by decide)⟩ (by show 1024 + (128 * (k.val / 128) + j.val) % 1024 < 3584; omega)).trans (congrArg gelu ((bprod_eq m c t r _).trans ?_))
    exact congrArg (prod _ _ _ _) (Fin.ext (by show 1024 + (128 * (k.val / 128) + j.val) % 1024 = 1024 + (128 * (k.val / 128) + j.val); omega))
  · refine Eq.trans ?_ (iblk2_apply m c t k)
    exact congrArg (fun j : Fin 1024 => (iblk m c 2 t : Vec Ideal S1x1x1024 .f32) (ix3 0 0 j)) (Fin.ext (by show (128 * (k.val / 128) + k.val % 128) % 1024 = k.val; omega))

theorem pAt_apply (c : Dev nD) (t : Fin cfg0.N) (r : Fin 512) (k : Fin 512) :
    pAt m c t (ix2 r k) = pF (V m c main_arg0) (V m c main_arg1) (V m c main_arg2) (ix2 (rowOf t r) k) :=
  (pOut_apply _ _ _ r k (by omega)).trans (bprod_eq m c t r _)

theorem gAt_apply (c : Dev nD) (t : Fin cfg0.N) (r : Fin 512) (k : Fin 512) :
    gAt m c t (ix2 r k) = gF (V m c main_arg0) (V m c main_arg1) (V m c main_arg2) (ix2 (rowOf t r) k) :=
  (gluOut_apply _ _ _ r k (by omega) (by omega)).trans (congrArg₂ (fun a b => a * Ideal.logistic b) (bprod_eq m c t r _) (bprod_eq m c t r _))

theorem sAt_apply (c : Dev nD) (t : Fin cfg0.N) (r : Fin 512) (k : Fin 2048) :
    sAt m c t (ix2 r k) = sF (V m c main_arg4) (ix2 (rowOf t r) k) :=
  (pay17_apply _ r k).trans (iblk3_apply m c t r k)

/-! ## The arrays after the run -/

/-- The array of the gated half after the run: every point writes its block, and the blocks cover it. -/
theorem final4 (c : Dev nD) : (dats m 0 c).arrAt 4 cfg0.N = uF (m ((c.tc : Thread nD τ).loc main_arg0)) (m ((c.tc : Thread nD τ).loc main_arg1)) (m ((c.tc : Thread nD τ).loc main_arg2)) :=
  ((dats m 0 c).arrAt_eq_of_cover 4 (uF (V m c main_arg0) (V m c main_arg1) (V m c main_arg2))
    (fun t _ => funext fun (j : S512x1024.Idx) => by
      rw [eta2 j]
      exact (uAt_apply m c t _ _).trans (congrArg (uF (V m c main_arg0) (V m c main_arg1) (V m c main_arg2)) (emb4 t _ _).symm))
    (fun (i : S8192x1024.Idx) => by
      obtain ⟨t, r, e⟩ := rows_cover i
      exact ⟨t, flush0_4 t, (congrArg (fun x : S8192x1024.Idx => x ∈ ((cfg0.win 4).blk t).view.set) (e.trans (emb4 t r _).symm)).mpr (View.emb_mem_set _ _)⟩)).trans
    (by rw [V_main_arg0, V_main_arg1, V_main_arg2])

/-- The array of the normalised half after the run: every point writes its block, and the blocks cover it. -/
theorem final5 (c : Dev nD) : (dats m 0 c).arrAt 5 cfg0.N = vF (m ((c.tc : Thread nD τ).loc main_arg0)) (m ((c.tc : Thread nD τ).loc main_arg1)) (m ((c.tc : Thread nD τ).loc main_arg2)) (m ((c.tc : Thread nD τ).loc main_arg3)) :=
  ((dats m 0 c).arrAt_eq_of_cover 5 (vF (V m c main_arg0) (V m c main_arg1) (V m c main_arg2) (V m c main_arg3))
    (fun t _ => funext fun (j : S512x1024.Idx) => by
      rw [eta2 j]
      exact (vAt_apply m c t _ _).trans (congrArg (vF (V m c main_arg0) (V m c main_arg1) (V m c main_arg2) (V m c main_arg3)) (emb5 t _ _).symm))
    (fun (i : S8192x1024.Idx) => by
      obtain ⟨t, r, e⟩ := rows_cover i
      exact ⟨t, flush0_5 t, (congrArg (fun x : S8192x1024.Idx => x ∈ ((cfg0.win 5).blk t).view.set) (e.trans (emb5 t r _).symm)).mpr (View.emb_mem_set _ _)⟩)).trans
    (by rw [V_main_arg0, V_main_arg1, V_main_arg2, V_main_arg3])

/-- The array of the pooled input after the run: every point writes its block, and the blocks cover it. -/
theorem final6 (c : Dev nD) : (dats m 0 c).arrAt 6 cfg0.N = pF (m ((c.tc : Thread nD τ).loc main_arg0)) (m ((c.tc : Thread nD τ).loc main_arg1)) (m ((c.tc : Thread nD τ).loc main_arg2)) :=
  ((dats m 0 c).arrAt_eq_of_cover 6 (pF (V m c main_arg0) (V m c main_arg1) (V m c main_arg2))
    (fun t _ => funext fun (j : S512x512.Idx) => by
      rw [eta2 j]
      exact (pAt_apply m c t _ _).trans (congrArg (pF (V m c main_arg0) (V m c main_arg1) (V m c main_arg2)) (emb6 t _ _).symm))
    (fun (i : S8192x512.Idx) => by
      obtain ⟨t, r, e⟩ := rows_cover i
      exact ⟨t, flush0_6 t, (congrArg (fun x : S8192x512.Idx => x ∈ ((cfg0.win 6).blk t).view.set) (e.trans (emb6 t r _).symm)).mpr (View.emb_mem_set _ _)⟩)).trans
    (by rw [V_main_arg0, V_main_arg1, V_main_arg2])

/-- The array of the gated linear unit after the run: every point writes its block, and the blocks cover it. -/
theorem final7 (c : Dev nD) : (dats m 0 c).arrAt 7 cfg0.N = gF (m ((c.tc : Thread nD τ).loc main_arg0)) (m ((c.tc : Thread nD τ).loc main_arg1)) (m ((c.tc : Thread nD τ).loc main_arg2)) :=
  ((dats m 0 c).arrAt_eq_of_cover 7 (gF (V m c main_arg0) (V m c main_arg1) (V m c main_arg2))
    (fun t _ => funext fun (j : S512x512.Idx) => by
      rw [eta2 j]
      exact (gAt_apply m c t _ _).trans (congrArg (gF (V m c main_arg0) (V m c main_arg1) (V m c main_arg2)) (emb7 t _ _).symm))
    (fun (i : S8192x512.Idx) => by
      obtain ⟨t, r, e⟩ := rows_cover i
      exact ⟨t, flush0_7 t, (congrArg (fun x : S8192x512.Idx => x ∈ ((cfg0.win 7).blk t).view.set) (e.trans (emb7 t r _).symm)).mpr (View.emb_mem_set _ _)⟩)).trans
    (by rw [V_main_arg0, V_main_arg1, V_main_arg2])

/-- The array of the later weight's cast after the run: every point writes its block, and the blocks cover it. -/
theorem final8 (c : Dev nD) : (dats m 0 c).arrAt 8 cfg0.N = sF (m ((c.tc : Thread nD τ).loc main_arg4)) :=
  ((dats m 0 c).arrAt_eq_of_cover 8 (sF (V m c main_arg4))
    (fun t _ => funext fun (j : S512x2048.Idx) => by
      rw [eta2 j]
      exact (sAt_apply m c t _ _).trans (congrArg (sF (V m c main_arg4)) (emb8 t _ _).symm))
    (fun (i : S8192x2048.Idx) => by
      obtain ⟨t, r, e⟩ := rows_cover i
      exact ⟨t, flush0_8 t, (congrArg (fun x : S8192x2048.Idx => x ∈ ((cfg0.win 8).blk t).view.set) (e.trans (emb8 t r _).symm)).mpr (View.emb_mem_set _ _)⟩)).trans
    (by rw [V_main_arg4])

end Mixer
end
-- ==== Proof.Mixer.Ref.lean ====
/- The reference's mixer input read element by element: it is the kernel's five functions. -/
module

public import proofs.«01_k».proof.Proof.Mixer.Value
public import proofs.«01_k».proof.Proof.Gen.Reference4Ideal.Read
public import Idealize.ShloMosaic.Lib.Pointwise
public import Idealize.ShloMosaic.PureOps.Ideal.Laws

@[expose] public section

set_option maxRecDepth 16384

noncomputable section

namespace Mixer

open Cert.Reference4Ideal Cert.Reference4Ideal.Gen Cert.Reference4Ideal.Read
open Idealize.ShloMosaic Idealize.ShloMosaic.TcCoe Idealize.ShloMosaic.Tactic

variable (x0 : (⟨S8192x2048, .f32⟩ : BufTy).Contents (Elt Ideal)) (x1 : (⟨S2x1x2048, .f32⟩ : BufTy).Contents (Elt Ideal)) (x2 : (⟨S2x2048x3584, .f32⟩ : BufTy).Contents (Elt Ideal)) (x3 : (⟨S2x1x1024, .f32⟩ : BufTy).Contents (Elt Ideal)) (x4 : (⟨S2x8192x2048, .f32⟩ : BufTy).Contents (Elt Ideal))

/-- The normalised input. -/
theorem v13_at (r : Fin 8192) (c : Fin 2048) : val_main_v13 (F := Ideal) x0 x1 (ix2 r c) = rms (fun c => x0 (ix2 r c)) (x1 (ix3 0 0 c)) c := by
  unfold rms
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The product. -/
theorem v16_at (r : Fin 8192) (c : Fin 3584) : val_main_v16 (F := Ideal) x0 x1 x2 (ix2 r c) = prod x0 x1 x2 r c := by
  unfold prod
  refine Eq.trans ?_ (Finset.sum_congr rfl fun k _ => congrArg (· * _) (v13_at x0 x1 r k))
  unfold val_main_v16
  generalize val_main_v13 (F := Ideal) x0 x1 = y
  pointwise [val_main_v15, val_main_v14]

/-- The four groups of columns. -/
theorem v17_at (r : Fin 8192) (c : Fin 2048) (h : c.val < 3584) : val_main_v17 (F := Ideal) x0 x1 x2 (ix2 r c) = prod x0 x1 x2 r ⟨c.val, h⟩ :=
  (val_main_v17_apply x0 x1 x2 (ix2 r c)).trans ((congrArg (val_main_v16 (F := Ideal) x0 x1 x2) (funext fun a => Fin.ext (by match a with | ⟨0, _⟩ => rfl | ⟨1, _⟩ => rfl))).trans (v16_at x0 x1 x2 r ⟨c.val, h⟩))
theorem v18_at (r : Fin 8192) (c : Fin 512) (h : 2048 + c.val < 3584) : val_main_v18 (F := Ideal) x0 x1 x2 (ix2 r c) = prod x0 x1 x2 r ⟨2048 + c.val, h⟩ :=
  (val_main_v18_apply x0 x1 x2 (ix2 r c)).trans ((congrArg (val_main_v16 (F := Ideal) x0 x1 x2) (funext fun a => Fin.ext (by match a with | ⟨0, _⟩ => rfl | ⟨1, _⟩ => rfl))).trans (v16_at x0 x1 x2 r ⟨2048 + c.val, h⟩))
theorem v19_at (r : Fin 8192) (c : Fin 512) (h : 2560 + c.val < 3584) : val_main_v19 (F := Ideal) x0 x1 x2 (ix2 r c) = prod x0 x1 x2 r ⟨2560 + c.val, h⟩ :=
  (val_main_v19_apply x0 x1 x2 (ix2 r c)).trans ((congrArg (val_main_v16 (F := Ideal) x0 x1 x2) (funext fun a => Fin.ext (by match a with | ⟨0, _⟩ => rfl | ⟨1, _⟩ => rfl))).trans (v16_at x0 x1 x2 r ⟨2560 + c.val, h⟩))
theorem v20_at (r : Fin 8192) (c : Fin 512) (h : 3072 + c.val < 3584) : val_main_v20 (F := Ideal) x0 x1 x2 (ix2 r c) = prod x0 x1 x2 r ⟨3072 + c.val, h⟩ :=
  (val_main_v20_apply x0 x1 x2 (ix2 r c)).trans ((congrArg (val_main_v16 (F := Ideal) x0 x1 x2) (funext fun a => Fin.ext (by match a with | ⟨0, _⟩ => rfl | ⟨1, _⟩ => rfl))).trans (v16_at x0 x1 x2 r ⟨3072 + c.val, h⟩))

/-- The gate. -/
theorem v33_at (r : Fin 8192) (c : Fin 2048) (h : c.val < 3584) : val_main_v33 (F := Ideal) x0 x1 x2 (ix2 r c) = gelu (prod x0 x1 x2 r ⟨c.val, h⟩) := by
  rw [← v17_at x0 x1 x2 r c h]
  unfold gelu
  unfold val_main_v33 val_main_v32 val_main_v31 val_main_v30 val_main_v29 val_main_v28 val_main_v27 val_main_v26 val_main_v25 val_main_v24 val_main_v23 val_main_v22 val_main_v21 val_main_cst_2 val_main_cst_3 val_main_cst_4 val_main_cst_5
  generalize val_main_v17 (F := Ideal) x0 x1 x2 = y
  rw [mul_comm (y (ix2 r c)) (y (ix2 r c) * y (ix2 r c))]
  pointwise []

/-- A head of the other half, before its normalisation. -/
theorem v36_at (r : Fin 8192) (h : Fin 8) (k : Fin 128) : val_main_v36 (F := Ideal) x0 x1 x2 (ix3 r h k) = vrow x0 x1 x2 r h k := by
  have hr := r.isLt; have hh := h.isLt; have hk := k.isLt
  refine (val_main_v36_apply x0 x1 x2 _).trans ((val_main_v35_apply x0 x1 x2 _).trans ?_)
  refine (congrArg (val_main_v33 (F := Ideal) x0 x1 x2) (funext fun a => Fin.ext ?_)).trans (v33_at x0 x1 x2 r ⟨1024 + (128 * h.val + k.val), by omega⟩ (by show 1024 + (128 * h.val + k.val) < 3584; omega))
  match a with
  | ⟨0, _⟩ => show ((r.val * 8 + h.val) * 128 + k.val) / 1024 = r.val; omega
  | ⟨1, _⟩ => show 1024 + ((r.val * 8 + h.val) * 128 + k.val) % 1024 = 1024 + (128 * h.val + k.val); omega

/-- The gains, head by head. -/
theorem v57_at (r : Fin 8192) (h : Fin 8) (k : Fin 128) (e : 128 * h.val + k.val < 1024) : val_main_v57 (F := Ideal) x3 (ix3 r h k) = x3 (ix3 0 0 ⟨128 * h.val + k.val, e⟩) := by
  have hh := h.isLt; have hk := k.isLt
  refine (val_main_v57_apply x3 _).trans ((val_main_v56_apply x3 _).trans ((val_main_v55_apply x3 _).trans ((val_main_v54_apply x3 _).trans ((val_main_v53_apply x3 _).trans ?_))))
  refine congrArg x3 (funext fun a => Fin.ext ?_)
  match a with
  | ⟨0, _⟩ => rfl
  | ⟨1, _⟩ => rfl
  | ⟨2, _⟩ => show (0 * 1024 + (h.val * 128 + k.val) % 1024) % 1024 = 128 * h.val + k.val; omega

/-- The normalised heads. -/
theorem v58_at (r : Fin 8192) (h : Fin 8) (k : Fin 128) (e : 128 * h.val + k.val < 1024) :
    val_main_v58 (F := Ideal) x0 x1 x2 x3 (ix3 r h k) = hn (vrow x0 x1 x2 r h) (x3 (ix3 0 0 ⟨128 * h.val + k.val, e⟩)) k := by
  rw [← v57_at x3 r h k e, show vrow x0 x1 x2 r h = fun k => val_main_v36 (F := Ideal) x0 x1 x2 (ix3 r h k) from funext fun k => (v36_at x0 x1 x2 r h k).symm]
  unfold hn cent
  unfold val_main_v58 val_main_v52 val_main_v51 val_main_v50 val_main_v49 val_main_v48 val_main_v47 val_main_v46 val_main_v45 val_main_v44 val_main_v43 val_main_v42 val_main_v41 val_main_v40 val_main_v39 val_main_v38 val_main_v37 val_main_cst_6 val_main_cst_7 val_main_cst_8 val_main_cst_9 val_main_cst_10
  generalize val_main_v57 (F := Ideal) x3 = g
  generalize val_main_v36 (F := Ideal) x0 x1 x2 = y
  pointwise []

/-- The bit pattern of one. -/
theorem ofBits_one : Ideal.ofBits .f32 0x3F800000#32 = 1 := by
  simp [Ideal.ofBits, Ideal.ieee, -EReal.coe_mul]; norm_num

/-- The reference's gated half is the kernel's function. -/
theorem ref_u : val_main_v59 (F := Ideal) x0 x1 x2 = uF x0 x1 x2 := by
  refine funext fun (i : (⟨2, ![8192, 1024]⟩ : Shape).Idx) => ?_
  have h1 : (i 1).val < 1024 := (i 1).isLt
  refine (val_main_v34_apply x0 x1 x2 i).trans ?_
  refine (congrArg (val_main_v33 (F := Ideal) x0 x1 x2) (funext fun a => Fin.ext ?_)).trans (v33_at x0 x1 x2 ⟨(i 0).val, (i 0).isLt⟩ ⟨(i 1).val, by omega⟩ (by show (i 1).val < 3584; omega))
  match a with
  | ⟨0, _⟩ => rfl
  | ⟨1, _⟩ => rfl

/-- The reference's normalised half is the kernel's function. -/
theorem ref_v : val_main_v61 (F := Ideal) x0 x1 x2 x3 = vF x0 x1 x2 x3 := by
  refine funext fun (i : (⟨2, ![8192, 1024]⟩ : Shape).Idx) => ?_
  have h0 : (i 0).val < 8192 := (i 0).isLt
  have h1 : (i 1).val < 1024 := (i 1).isLt
  refine (val_main_v60_apply x0 x1 x2 x3 i).trans ?_
  refine (congrArg (val_main_v58 (F := Ideal) x0 x1 x2 x3) (funext fun a => Fin.ext ?_)).trans ((v58_at x0 x1 x2 x3 ⟨(i 0).val, h0⟩ ⟨(i 1).val / 128, by omega⟩ ⟨(i 1).val % 128, by omega⟩ (by show 128 * ((i 1).val / 128) + (i 1).val % 128 < 1024; omega)).trans ?_)
  · match a with
    | ⟨0, _⟩ => show ((i 0).val * 1024 + (i 1).val) / 1024 = (i 0).val; omega
    | ⟨1, _⟩ => show ((i 0).val * 1024 + (i 1).val) / 128 % 8 = (i 1).val / 128; omega
    | ⟨2, _⟩ => show ((i 0).val * 1024 + (i 1).val) % 128 = (i 1).val % 128; omega
  · exact congrArg (fun j : Fin 1024 => hn (vrow x0 x1 x2 ⟨(i 0).val, h0⟩ ⟨(i 1).val / 128, by omega⟩) (x3 (ix3 0 0 j)) ⟨(i 1).val % 128, by omega⟩) (Fin.ext (by show 128 * ((i 1).val / 128) + (i 1).val % 128 = (i 1).val; omega))

/-- The reference's pooled input is the kernel's function. -/
theorem ref_p : val_main_v18 (F := Ideal) x0 x1 x2 = pF x0 x1 x2 :=
  funext fun (i : (⟨2, ![8192, 512]⟩ : Shape).Idx) =>
    (congrArg (val_main_v18 (F := Ideal) x0 x1 x2) (eta2 i)).trans (v18_at x0 x1 x2 _ _ (by have h : (i 1).val < 512 := (i 1).isLt; show 2048 + (i 1).val < 3584; omega))

/-- The gated linear unit at a row and a column. -/
theorem v68_at (r : Fin 8192) (c : Fin 512) :
    val_main_v68 (F := Ideal) x0 x1 x2 (ix2 r c) = val_main_v19 (F := Ideal) x0 x1 x2 (ix2 r c) * Ideal.logistic (val_main_v20 (F := Ideal) x0 x1 x2 (ix2 r c)) := by
  unfold val_main_v68 val_main_v67 val_main_v66 val_main_v65 val_main_v64 val_main_v63 val_main_v62 val_main_cst_11 val_main_cst_12
  generalize val_main_v19 (F := Ideal) x0 x1 x2 = a
  generalize val_main_v20 (F := Ideal) x0 x1 x2 = b
  unfold Ideal.logistic
  rw [← ofBits_one]
  pointwise []

/-- The reference's gated linear unit is the kernel's function. -/
theorem ref_g : val_main_v68 (F := Ideal) x0 x1 x2 = gF x0 x1 x2 :=
  funext fun (i : (⟨2, ![8192, 512]⟩ : Shape).Idx) => by
    have h : (i 1).val < 512 := (i 1).isLt
    exact (congrArg (val_main_v68 (F := Ideal) x0 x1 x2) (eta2 i)).trans ((v68_at x0 x1 x2 _ _).trans (congrArg₂ (fun a b => a * Ideal.logistic b)
      (v19_at x0 x1 x2 _ _ (by show 2560 + (i 1).val < 3584; omega)) (v20_at x0 x1 x2 _ _ (by show 3072 + (i 1).val < 3584; omega))))

/-- The later weight's cast at a row and a column. -/
theorem v71_at (r : Fin 8192) (c : Fin 2048) : val_main_v71 (F := Ideal) x4 (ix2 r c) = x4 (ix3 0 r c) := by
  pointwise [val_main_v71, val_main_v70, val_main_v69]

/-- The reference's cast of the later weight is the kernel's function. -/
theorem ref_s : val_main_v71 (F := Ideal) x4 = sF x4 :=
  funext fun (i : (⟨2, ![8192, 2048]⟩ : Shape).Idx) => (congrArg (val_main_v71 (F := Ideal) x4) (eta2 i)).trans (v71_at x4 _ _)

end Mixer
end
-- ==== Proof.Keys.Value.lean ====
/- The keys' and values' result arrays over the extended reals, as functions of the argument arrays. -/
module

public import proofs.«01_k».proof.Proof.Gen.Kernel5Ideal.Frame
public import proofs.«01_k».proof.Proof.Mixer.Value
public import Idealize.ShloMosaic.Lib.Pointwise
public import Idealize.ShloMosaic.Lib.Pipeline.Value
public import Idealize.ShloMosaic.Lib.VecWindow
public import Idealize.ShloMosaic.Lib.WholeRead

@[expose] public section

set_option maxRecDepth 16384

noncomputable section

namespace Keys

open Cert.Kernel5Ideal Cert.Kernel5Ideal.Gen
open Idealize.ShloMosaic Idealize.ShloMosaic.TcCoe Idealize.ShloMosaic.Tactic Idealize.SL.Sem

/-! ## What a point leaves -/

section Points

variable {F : FTy → Type} [FloatOps F] (m : (ℓ : Loc nD τ sig) → Buf (Elt F) ℓ)

/-- A load of a whole memref held at contents that read `x`, at a rectangle. -/
theorem load_ld {sp : Space} {s : Shape} {e : EltTy} {arg : Memref sig .tc sp s e} (harg : arg.IsWhole) (x : s.Idx → Elt F e) (r : Rect s) :
    View.readAt (Elt F) arg.view r.toLoadRect (harg.unread x) = View.ld (Val := Elt F) x r :=
  funext fun j => harg.readAt_unread x _ j

/-- One store of a whole block leaves what was stored. -/
theorem out_whole {sp : Space} {s : Shape} {e : EltTy} (v : View sig .tc sp s e) (f : v.ty.Contents (Elt F)) (o : Fin s.rank → ℕ) (ho : ∀ a, o a = 0) (inb : ∀ a, o a + s.size a ≤ s.size a)
    (b : s.Idx → Elt F e) : View.read (Elt F) v (v.writes (Elt F) f [⟨Rect.unit (s := s) o s.size inb, b⟩]) = b := by
  funext y
  have e1 : (Rect.unit (s := s) o s.size inb).emb y = y := funext fun a => Fin.ext (show o a + 1 * (y a).val = (y a).val by rw [ho a]; omega)
  have h := View.read_writes_cons_emb v f (Rect.unit (s := s) o s.size inb) b [] y
  rwa [e1] at h

/-- Loads of a whole memory block, gain, or block of columns read the contents. -/
theorem ld_mem {e : EltTy} (x : S1024x2048.Idx → Elt F e) : View.ld (Val := Elt F) x (Rect.unit (s := S1024x2048) ![0, 0] S1024x2048.size inb_S1024x2048_S1024x2048_0_0) = x :=
  View.ld_unit_zero (by decide) _ _
theorem ld_gain (x : Vec F S1x1x2048 .f32) : View.ld (Val := Elt F) x (Rect.unit (s := S1x1x2048) ![0, 0, 0] S1x1x2048.size inb_S1x1x2048_S1x1x2048_0_0_0) = x :=
  View.ld_unit_zero (by decide) _ _
theorem ld_cols (x : Vec F S1x2048x256 .f32) : View.ld (Val := Elt F) x (Rect.unit (s := S1x2048x256) ![0, 0, 0] S1x2048x256.size inb_S1x2048x256_S1x2048x256_0_0_0) = x :=
  View.ld_unit_zero (by decide) _ _

/-- A layer's first point normalises the memory, keeps it, and multiplies it with the point's columns of both weights. -/
theorem outs_first (c : Dev nD) (t : Fin cfg0.N) (h0 : t.val % 8 = 0) : outsAt0 m c t.val t.isLt =
    (k0_pay2 (k0_pay1 (iblk m c 0 t) (iblk m c 1 t)) (iblk m c 2 t), k0_pay3 (k0_pay1 (iblk m c 0 t) (iblk m c 1 t)) (iblk m c 3 t), k0_pay1 (iblk m c 0 t) (iblk m c 1 t)) := by
  rw [outsAt0_A m c t h0]
  generalize iblk m c 0 t = x0
  generalize iblk m c 1 t = x1
  generalize iblk m c 2 t = x2
  generalize iblk m c 3 t = x3
  unfold out0_A_4 out0_A_5 sout0_A_0 kernelRun0_A
  dsimp only
  unfold kernelRun0_A.sl.v3 kernelRun0_A.sl.HS0_1
  dsimp only
  have es : k0_pay1 (View.ld (Val := Elt F) x0 (Rect.unit (s := S1024x2048) ![0, 0] S1024x2048.size inb_S1024x2048_S1024x2048_0_0))
      (View.ld (Val := Elt F) x1 (Rect.unit (s := S1x1x2048) ![0, 0, 0] S1x1x2048.size inb_S1x1x2048_S1x1x2048_0_0_0)) = k0_pay1 x0 x1 := congrArg₂ k0_pay1 (ld_mem x0) (ld_gain x1)
  rw [load_ld, load_ld, load_ld, load_ld]
  refine congrArg₂ Prod.mk ((out_whole VO0_4 _ _ (by decide) _ _).trans ?_) (congrArg₂ Prod.mk ((out_whole VO0_5 _ _ (by decide) _ _).trans ?_) ((out_whole VS0_0 _ _ (by decide) _ _).trans es))
  · exact congrArg₂ k0_pay2 ((View.readCov_full _ _ _ _ _).trans es) (ld_cols x2)
  · exact congrArg₂ k0_pay3 ((View.readCov_full _ _ _ _ _).trans es) (ld_cols x3)

/-- A later point multiplies what the point before kept, and keeps it. -/
theorem outs_later (c : Dev nD) (t : Fin cfg0.N) (h0 : ¬t.val % 8 = 0) (y : Vec F S1024x2048 .bf16) (hy : (outsAt0 m c (t.val - 1) (Nat.lt_of_le_of_lt (Nat.sub_le _ _) t.isLt)).2.2 = y) :
    outsAt0 m c t.val t.isLt = (k0_pay2 y (iblk m c 2 t), k0_pay3 y (iblk m c 3 t), y) := by
  rw [outsAt0_B m c t h0, hy]
  generalize iblk m c 0 t = x0
  generalize iblk m c 1 t = x1
  generalize iblk m c 2 t = x2
  generalize iblk m c 3 t = x3
  unfold out0_B_4 out0_B_5 sout0_B_0 kernelRun0_B
  dsimp only
  rw [load_ld, load_ld]
  have ey : View.readAt (Elt F) scM0_0.view (Rect.unit (s := S1024x2048) ![0, 0] S1024x2048.size inb_S1024x2048_S1024x2048_0_0).toLoadRect ((Memref.isWhole_whole _ : scM0_0.IsWhole).unread y) = y :=
    (load_ld (arg := scM0_0) (Memref.isWhole_whole _) y _).trans (ld_mem y)
  refine congrArg₂ Prod.mk ((out_whole VO0_4 _ _ (by decide) _ _).trans ?_) (congrArg₂ Prod.mk ((out_whole VO0_5 _ _ (by decide) _ _).trans ?_) rfl)
  · exact congrArg₂ k0_pay2 ey (ld_cols x2)
  · exact congrArg₂ k0_pay3 ey (ld_cols x3)

end Points

/-! ## The whole arrays' function -/

/-- A normalised row of the memory times a column of a layer's weight. -/
def kvF (X : (⟨2, ![1024, 2048]⟩ : Shape).Idx → EReal) (G : (⟨3, ![2, 1, 2048]⟩ : Shape).Idx → EReal) (W : (⟨3, ![2, 2048, 2048]⟩ : Shape).Idx → EReal) (i : (⟨3, ![2, 1024, 2048]⟩ : Shape).Idx) : EReal :=
  ∑ k : Fin 2048, Mixer.rms (fun k => X (ix2 (⟨(i 1).val, (i 1).isLt⟩ : Fin 1024) k)) (G (ix3 (⟨(i 0).val, (i 0).isLt⟩ : Fin 2) 0 k)) k * W (ix3 (⟨(i 0).val, (i 0).isLt⟩ : Fin 2) k (⟨(i 2).val, (i 2).isLt⟩ : Fin 2048))

/-! ## The body's blocks, element by element -/

theorem pay1_apply (x : Vec Ideal S1024x2048 .f32) (g : Vec Ideal S1x1x2048 .f32) (r : Fin 1024) (k : Fin 2048) :
    k0_pay1 x g (ix2 r k) = Mixer.rms (fun k => x (ix2 r k)) (g (ix3 0 0 k)) k := by
  unfold Mixer.rms
  pointwise [k0_pay1]

theorem pay2_apply (y : Vec Ideal S1024x2048 .bf16) (w : Vec Ideal S1x2048x256 .f32) (r : Fin 1024) (c : Fin 256) :
    k0_pay2 y w (ix3 0 r c) = ∑ k : Fin 2048, y (ix2 r k) * w (ix3 0 k c) := by
  pointwise [k0_pay2]

theorem pay3_apply (y : Vec Ideal S1024x2048 .bf16) (w : Vec Ideal S1x2048x256 .f32) (r : Fin 1024) (c : Fin 256) :
    k0_pay3 y w (ix3 0 r c) = ∑ k : Fin 2048, y (ix2 r k) * w (ix3 0 k c) := by
  pointwise [k0_pay3]

/-! ## The blocks' places in their arrays -/

variable (m : (ℓ : Loc nD τ sig) → Buf (Elt Ideal) ℓ) (ρ : Dev nD → PrngReg)

theorem tlt (t : Fin cfg0.N) : t.val < 16 := lt_of_lt_of_eq t.isLt (show cfg0.N = 16 from N_0)

/-- The layer of a point. -/
def layerOf (t : Fin cfg0.N) : Fin 2 := ⟨t.val / 8, by have := tlt t; omega⟩

/-- Column `c` of the point's block, in the whole array. -/
def colOf (t : Fin cfg0.N) (c : Fin 256) : Fin 2048 := ⟨256 * (t.val % 8) + c.val, by omega⟩

theorem index0 : ∀ t : Fin cfg0.N, win0_0.index t (0 : Fin 2) = 0 ∧ win0_0.index t (1 : Fin 2) = 0 := (by decide +kernel : ∀ t : Fin grid0.N, _)
theorem index1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem index2 : ∀ t : Fin cfg0.N, win0_2.index t (0 : Fin 3) = t.val / 8 ∧ win0_2.index t (1 : Fin 3) = 0 ∧ win0_2.index t (2 : Fin 3) = t.val % 8 :=
  (by decide +kernel : ∀ t : Fin grid0.N, _)
theorem index3 : ∀ t : Fin cfg0.N, win0_3.index t (0 : Fin 3) = t.val / 8 ∧ win0_3.index t (1 : Fin 3) = 0 ∧ win0_3.index t (2 : Fin 3) = t.val % 8 :=
  (by decide +kernel : ∀ t : Fin grid0.N, _)
theorem index4 : ∀ t : Fin cfg0.N, win0_4.index t (0 : Fin 3) = t.val / 8 ∧ win0_4.index t (1 : Fin 3) = 0 ∧ win0_4.index t (2 : Fin 3) = t.val % 8 :=
  (by decide +kernel : ∀ t : Fin grid0.N, _)
theorem index5 : ∀ t : Fin cfg0.N, win0_5.index t (0 : Fin 3) = t.val / 8 ∧ win0_5.index t (1 : Fin 3) = 0 ∧ win0_5.index t (2 : Fin 3) = t.val % 8 :=
  (by decide +kernel : ∀ t : Fin grid0.N, _)

/-- The memory is read whole at every point. -/
theorem iblk0_apply (c : Dev nD) (t : Fin cfg0.N) (r : Fin 1024) (k : Fin 2048) :
    (iblk m c 0 t : Vec Ideal S1024x2048 .f32) (ix2 r k) = (V m c main_arg0 : S1024x2048.Idx → EReal) (ix2 r k) := by
  obtain ⟨e0, e1⟩ := index0 t
  show V m c main_arg0 (((cfg0.win 0).blk t).view.emb (ix2 r k)) = _
  refine congrArg (V m c main_arg0) (funext fun a => Fin.ext ?_)
  match a with
  | ⟨0, _⟩ => show win0_0.index t (0 : Fin 2) * 1024 + 1 * r.val = r.val; omega
  | ⟨1, _⟩ => show win0_0.index t (1 : Fin 2) * 2048 + 1 * k.val = k.val; omega

/-- The gain of the point's layer. -/
theorem iblk1_apply (c : Dev nD) (t : Fin cfg0.N) (k : Fin 2048) :
    (iblk m c 1 t : Vec Ideal S1x1x2048 .f32) (ix3 0 0 k) = (V m c main_arg1 : S2x1x2048.Idx → EReal) (ix3 (layerOf t) 0 k) := by
  obtain ⟨e0, e1, e2⟩ := index1 t
  show V m c main_arg1 (((cfg0.win 1).blk t).view.emb (ix3 0 0 k)) = _
  refine congrArg (V m c main_arg1) (funext fun a => Fin.ext ?_)
  match a with
  | ⟨0, _⟩ => show win0_1.index t (0 : Fin 3) * 1 + 1 * 0 = t.val / 8; omega
  | ⟨1, _⟩ => show win0_1.index t (1 : Fin 3) * 1 + 1 * 0 = 0; omega
  | ⟨2, _⟩ => show win0_1.index t (2 : Fin 3) * 2048 + 1 * k.val = k.val; omega

/-- The point's columns of its layer's key weight. -/
theorem iblk2_apply (c : Dev nD) (t : Fin cfg0.N) (k : Fin 2048) (j : Fin 256) :
    (iblk m c 2 t : Vec Ideal S1x2048x256 .f32) (ix3 0 k j) = (V m c main_arg2 : S2x2048x2048.Idx → EReal) (ix3 (layerOf t) k (colOf t j)) := by
  obtain ⟨e0, e1, e2⟩ := index2 t
  show V m c main_arg2 (((cfg0.win 2).blk t).view.emb (ix3 0 k j)) = _
  refine congrArg (V m c main_arg2) (funext fun a => Fin.ext ?_)
  match a with
  | ⟨0, _⟩ => show win0_2.index t (0 : Fin 3) * 1 + 1 * 0 = t.val / 8; omega
  | ⟨1, _⟩ => show win0_2.index t (1 : Fin 3) * 2048 + 1 * k.val = k.val; omega
  | ⟨2, _⟩ => show win0_2.index t (2 : Fin 3) * 256 + 1 * j.val = 256 * (t.val % 8) + j.val; omega

/-- The point's columns of its layer's value weight. -/
theorem iblk3_apply (c : Dev nD) (t : Fin cfg0.N) (k : Fin 2048) (j : Fin 256) :
    (iblk m c 3 t : Vec Ideal S1x2048x256 .f32) (ix3 0 k j) = (V m c main_arg3 : S2x2048x2048.Idx → EReal) (ix3 (layerOf t) k (colOf t j)) := by
  obtain ⟨e0, e1, e2⟩ := index3 t
  show V m c main_arg3 (((cfg0.win 3).blk t).view.emb (ix3 0 k j)) = _
  refine congrArg (V m c main_arg3) (funext fun a => Fin.ext ?_)
  match a with
  | ⟨0, _⟩ => show win0_3.index t (0 : Fin 3) * 1 + 1 * 0 = t.val / 8; omega
  | ⟨1, _⟩ => show win0_3.index t (1 : Fin 3) * 2048 + 1 * k.val = k.val; omega
  | ⟨2, _⟩ => show win0_3.index t (2 : Fin 3) * 256 + 1 * j.val = 256 * (t.val % 8) + j.val; omega

/-- A point's block of a result stands at its layer and its columns. -/
theorem emb4 (t : Fin cfg0.N) (r : Fin 1024) (j : Fin 256) : ((cfg0.win 4).blk t).view.emb (ix3 0 r j : S1x1024x256.Idx) = (ix3 (layerOf t) r (colOf t j) : S2x1024x2048.Idx) := by
  obtain ⟨e0, e1, e2⟩ := index4 t
  refine funext fun a => Fin.ext ?_
  match a with
  | ⟨0, _⟩ => show win0_4.index t (0 : Fin 3) * 1 + 1 * 0 = t.val / 8; omega
  | ⟨1, _⟩ => show win0_4.index t (1 : Fin 3) * 1024 + 1 * r.val = r.val; omega
  | ⟨2, _⟩ => show win0_4.index t (2 : Fin 3) * 256 + 1 * j.val = 256 * (t.val % 8) + j.val; omega
theorem emb5 (t : Fin cfg0.N) (r : Fin 1024) (j : Fin 256) : ((cfg0.win 5).blk t).view.emb (ix3 0 r j : S1x1024x256.Idx) = (ix3 (layerOf t) r (colOf t j) : S2x1024x2048.Idx) := by
  obtain ⟨e0, e1, e2⟩ := index5 t
  refine funext fun a => Fin.ext ?_
  match a with
  | ⟨0, _⟩ => show win0_5.index t (0 : Fin 3) * 1 + 1 * 0 = t.val / 8; omega
  | ⟨1, _⟩ => show win0_5.index t (1 : Fin 3) * 1024 + 1 * r.val = r.val; omega
  | ⟨2, _⟩ => show win0_5.index t (2 : Fin 3) * 256 + 1 * j.val = 256 * (t.val % 8) + j.val; omega

/-- A block's index is its row and its column. -/
theorem eta_blk (j : S1x1024x256.Idx) : j = ix3 0 (⟨(j 1).val, (j 1).isLt⟩ : Fin 1024) (⟨(j 2).val, (j 2).isLt⟩ : Fin 256) :=
  funext fun a => Fin.ext (by match a with | ⟨0, _⟩ => exact Nat.lt_one_iff.mp (j 0).isLt | ⟨1, _⟩ => rfl | ⟨2, _⟩ => rfl)

/-- Every index of a result lies in some point's block. -/
theorem cover (i : S2x1024x2048.Idx) : ∃ (t : Fin cfg0.N) (r : Fin 1024) (j : Fin 256), i = ix3 (layerOf t) r (colOf t j) := by
  have h0 : (i 0).val < 2 := (i 0).isLt
  have h2 : (i 2).val < 2048 := (i 2).isLt
  refine ⟨⟨8 * (i 0).val + (i 2).val / 256, by rw [show cfg0.N = 16 from N_0]; omega⟩, ⟨(i 1).val, (i 1).isLt⟩, ⟨(i 2).val % 256, Nat.mod_lt _ (by decide)⟩, funext fun a => Fin.ext ?_⟩
  match a with
  | ⟨0, _⟩ => show (i 0).val = (8 * (i 0).val + (i 2).val / 256) / 8; omega
  | ⟨1, _⟩ => rfl
  | ⟨2, _⟩ => show (i 2).val = 256 * ((8 * (i 0).val + (i 2).val / 256) % 8) + (i 2).val % 256; omega

/-! ## The two results of a point -/

/-- The layer's normalised memory, as the whole arrays give it. -/
def normed (c : Dev nD) (l : Fin 2) : Vec Ideal S1024x2048 .bf16 := fun i =>
  Mixer.rms (fun k => (V m c main_arg0 : S1024x2048.Idx → EReal) (ix2 (⟨(i 0).val, (i 0).isLt⟩ : Fin 1024) k)) ((V m c main_arg1 : S2x1x2048.Idx → EReal) (ix3 l 0 (⟨(i 1).val, (i 1).isLt⟩ : Fin 2048))) ⟨(i 1).val, (i 1).isLt⟩

/-- The first point's normalised memory is its layer's. -/
theorem first_normed (c : Dev nD) (t : Fin cfg0.N) : k0_pay1 (iblk m c 0 t) (iblk m c 1 t) = normed m c (layerOf t) := by
  refine funext fun (i : S1024x2048.Idx) => ?_
  rw [Mixer.eta2 i]
  exact (pay1_apply _ _ _ _).trans (congrArg₂ (fun y g => Mixer.rms y g _) (funext fun k => iblk0_apply m c t _ k) (iblk1_apply m c t _))

/-- After every point the kept memory is its layer's, and both results are its products. -/
theorem outs_eq (c : Dev nD) : ∀ (n : ℕ) (h : n < cfg0.N), outsAt0 m c n h =
    (k0_pay2 (normed m c (layerOf ⟨n, h⟩)) (iblk m c 2 ⟨n, h⟩), k0_pay3 (normed m c (layerOf ⟨n, h⟩)) (iblk m c 3 ⟨n, h⟩), normed m c (layerOf ⟨n, h⟩)) := by
  intro n
  induction n with
  | zero => intro h; rw [← first_normed m c ⟨0, h⟩]; exact outs_first m c ⟨0, h⟩ (Nat.zero_mod _)
  | succ n ih =>
    intro h
    by_cases h0 : (n + 1) % 8 = 0
    · rw [← first_normed m c ⟨n + 1, h⟩]; exact outs_first m c ⟨n + 1, h⟩ h0
    · refine outs_later m c ⟨n + 1, h⟩ h0 _ ((congrArg (fun p => p.2.2) (ih (by omega))).trans ?_)
      exact congrArg (normed m c) (Fin.ext (by show n / 8 = (n + 1) / 8; omega))

theorem kAt_apply (c : Dev nD) (t : Fin cfg0.N) (r : Fin 1024) (j : Fin 256) :
    (outsAt0 m c t.val t.isLt).1 (ix3 0 r j) = kvF (V m c main_arg0) (V m c main_arg1) (V m c main_arg2) (ix3 (layerOf t) r (colOf t j)) := by
  rw [outs_eq m c t.val t.isLt]
  exact (pay2_apply _ _ r j).trans (Finset.sum_congr rfl fun k _ => congrArg (_ * ·) (iblk2_apply m c t k j))

theorem vAt_apply (c : Dev nD) (t : Fin cfg0.N) (r : Fin 1024) (j : Fin 256) :
    (outsAt0 m c t.val t.isLt).2.1 (ix3 0 r j) = kvF (V m c main_arg0) (V m c main_arg1) (V m c main_arg3) (ix3 (layerOf t) r (colOf t j)) := by
  rw [outs_eq m c t.val t.isLt]
  exact (pay3_apply _ _ r j).trans (Finset.sum_congr rfl fun k _ => congrArg (_ * ·) (iblk3_apply m c t k j))

/-! ## The arrays after the run -/

/-- The array of the keys after the run: every point writes its block, and the blocks cover it. -/
theorem final4 (c : Dev nD) : (dats m 0 c).arrAt 4 cfg0.N = kvF (m ((c.tc : Thread nD τ).loc main_arg0)) (m ((c.tc : Thread nD τ).loc main_arg1)) (m ((c.tc : Thread nD τ).loc main_arg2)) :=
  ((dats m 0 c).arrAt_eq_of_cover 4 (kvF (V m c main_arg0) (V m c main_arg1) (V m c main_arg2))
    (fun t _ => (after0_4 m c t).trans (funext fun (j : S1x1024x256.Idx) => by
      rw [eta_blk j]
      exact (kAt_apply m c t _ _).trans (congrArg (kvF (V m c main_arg0) (V m c main_arg1) (V m c main_arg2)) (emb4 t _ _).symm)))
    (fun (i : S2x1024x2048.Idx) => by
      obtain ⟨t, r, j, e⟩ := cover i
      exact ⟨t, flush0_4 t, (congrArg (fun x : S2x1024x2048.Idx => x ∈ ((cfg0.win 4).blk t).view.set) (e.trans (emb4 t r j).symm)).mpr (View.emb_mem_set _ _)⟩)).trans
    (by rw [V_main_arg0, V_main_arg1, V_main_arg2])

/-- The array of the values after the run: every point writes its block, and the blocks cover it. -/
theorem final5 (c : Dev nD) : (dats m 0 c).arrAt 5 cfg0.N = kvF (m ((c.tc : Thread nD τ).loc main_arg0)) (m ((c.tc : Thread nD τ).loc main_arg1)) (m ((c.tc : Thread nD τ).loc main_arg3)) :=
  ((dats m 0 c).arrAt_eq_of_cover 5 (kvF (V m c main_arg0) (V m c main_arg1) (V m c main_arg3))
    (fun t _ => (after0_5 m c t).trans (funext fun (j : S1x1024x256.Idx) => by
      rw [eta_blk j]
      exact (vAt_apply m c t _ _).trans (congrArg (kvF (V m c main_arg0) (V m c main_arg1) (V m c main_arg3)) (emb5 t _ _).symm)))
    (fun (i : S2x1024x2048.Idx) => by
      obtain ⟨t, r, j, e⟩ := cover i
      exact ⟨t, flush0_5 t, (congrArg (fun x : S2x1024x2048.Idx => x ∈ ((cfg0.win 5).blk t).view.set) (e.trans (emb5 t r j).symm)).mpr (View.emb_mem_set _ _)⟩)).trans
    (by rw [V_main_arg0, V_main_arg1, V_main_arg3])

/-- What a run ends with: the two result arrays at the proof data's contents, and the arguments unchanged. -/
theorem run_result : θ_run defs (onTc (τ := τ) (main (F := Ideal))) ⟨m, fun _ => 0, ρ⟩ (fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4), ((h c).1 5),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Keys
end
-- ==== Proof.Keys.Ref.lean ====
/- The reference's keys and values read element by element: they are the kernel's function. -/
module

public import proofs.«01_k».proof.Proof.Keys.Value
public import proofs.«01_k».proof.Proof.Gen.Reference5Ideal.Read
public import Idealize.ShloMosaic.Lib.Pointwise
public import Idealize.ShloMosaic.PureOps.Ideal.Laws

@[expose] public section

set_option maxRecDepth 16384

noncomputable section

namespace Keys

open Cert.Reference5Ideal Cert.Reference5Ideal.Gen Cert.Reference5Ideal.Read
open Idealize.ShloMosaic Idealize.ShloMosaic.TcCoe Idealize.ShloMosaic.Tactic

variable (x0 : (⟨S1024x2048, .f32⟩ : BufTy).Contents (Elt Ideal)) (x1 : (⟨S2x1x2048, .f32⟩ : BufTy).Contents (Elt Ideal)) (w : (⟨S2x2048x2048, .f32⟩ : BufTy).Contents (Elt Ideal))

/-- The memory normalised with each layer's gain. -/
theorem v13_at (l : Fin 2) (r : Fin 1024) (k : Fin 2048) : val_main_v13 (F := Ideal) x0 x1 (ix3 l r k) = Mixer.rms (fun k => x0 (ix2 r k)) (x1 (ix3 l 0 k)) k := by
  unfold Mixer.rms
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- An index of a result is its layer, its row and its column. -/
theorem eta3 (i : S2x1024x2048.Idx) : i = ix3 (⟨(i 0).val, (i 0).isLt⟩ : Fin 2) (⟨(i 1).val, (i 1).isLt⟩ : Fin 1024) (⟨(i 2).val, (i 2).isLt⟩ : Fin 2048) :=
  funext fun a => Fin.ext (by match a with | ⟨0, _⟩ => rfl | ⟨1, _⟩ => rfl | ⟨2, _⟩ => rfl)

/-- The product with the stacked key weights. -/
theorem ref_k : val_main_v15 (F := Ideal) x0 x1 w = kvF x0 x1 w := by
  funext i
  rw [eta3 i]
  generalize (⟨(i 0).val, (i 0).isLt⟩ : Fin 2) = l
  generalize (⟨(i 1).val, (i 1).isLt⟩ : Fin 1024) = r
  generalize (⟨(i 2).val, (i 2).isLt⟩ : Fin 2048) = c
  refine Eq.trans ?_ (Finset.sum_congr rfl fun k _ => congrArg (· * _) (v13_at x0 x1 l r k))
  unfold val_main_v15 val_main_v14
  generalize val_main_v13 (F := Ideal) x0 x1 = y
  pointwise []

/-- The product with the stacked value weights. -/
theorem ref_v : val_main_v17 (F := Ideal) x0 x1 w = kvF x0 x1 w := ref_k x0 x1 w

end Keys
end
-- ==== Proof.Words.Same.lean ====
/- Each kernel is printed twice, once for the words and once for the extended reals. No operation is rewritten between the
   two, so that at the same elements they are one program; what is proved of the second printing at any elements is
   then proved of the first at the words. -/
module

public import proofs.«01_k».proof.Proof.Gen.Kernel
public import proofs.«01_k».proof.Proof.Gen.KernelIdeal
public import proofs.«01_k».proof.Proof.Gen.Kernel2
public import proofs.«01_k».proof.Proof.Gen.Kernel2Ideal
public import proofs.«01_k».proof.Proof.Gen.Kernel3
public import proofs.«01_k».proof.Proof.Gen.Kernel3Ideal
public import proofs.«01_k».proof.Proof.Gen.Kernel4
public import proofs.«01_k».proof.Proof.Gen.Kernel4Ideal

@[expose] public section

namespace Words

open Idealize.ShloMosaic

variable {F : FTy → Type} [FloatOps F]

/-- The two printings of the attention kernel have the same bodies. -/
theorem attn_defs₀ : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => exact rfl

/-- The two printings of the attention kernel have the same table of bodies and pipelines. -/
theorem attn_defs : Cert.Kernel.defs (F := F) = Cert.KernelIdeal.defs (F := F) :=
  congrArg (Pipeline.defs (Cert.KernelIdeal.pcfgs (F := F))) attn_defs₀

/-- The two printings of the feed-forward kernel have the same bodies. -/
theorem ffn_defs₀ : Cert.Kernel2.defs₀ (F := F) = Cert.Kernel2Ideal.defs₀ (F := F) := by
  unfold Cert.Kernel2.defs₀ Cert.Kernel2Ideal.defs₀
  refine congrArg Defs.onTc (funext fun l => funext fun a => ?_)
  match l, a with
  | 0, (t, s) => exact rfl

/-- The two printings of the feed-forward kernel have the same table of bodies and pipelines. -/
theorem ffn_defs : Cert.Kernel2.defs (F := F) = Cert.Kernel2Ideal.defs (F := F) :=
  congrArg (Pipeline.defs (Cert.Kernel2Ideal.pcfgs (F := F))) ffn_defs₀

/-- The two printings of the output projection kernel have the same bodies. -/
theorem proj_defs₀ : Cert.Kernel3.defs₀ (F := F) = Cert.Kernel3Ideal.defs₀ (F := F) := by
  unfold Cert.Kernel3.defs₀ Cert.Kernel3Ideal.defs₀
  refine congrArg Defs.onTc (funext fun l => funext fun a => ?_)
  match l, a with
  | 0, (t, s) => exact rfl

/-- The two printings of the output projection kernel have the same table of bodies and pipelines. -/
theorem proj_defs : Cert.Kernel3.defs (F := F) = Cert.Kernel3Ideal.defs (F := F) :=
  congrArg (Pipeline.defs (Cert.Kernel3Ideal.pcfgs (F := F))) proj_defs₀

/-- The two printings of the mixer input kernel have the same bodies. -/
theorem mixer_defs₀ : Cert.Kernel4.defs₀ (F := F) = Cert.Kernel4Ideal.defs₀ (F := F) := by
  unfold Cert.Kernel4.defs₀ Cert.Kernel4Ideal.defs₀
  refine congrArg Defs.onTc (funext fun l => funext fun a => ?_)
  match l, a with
  | 0, (t, s) => exact rfl

/-- The two printings of the mixer input kernel have the same table of bodies and pipelines. -/
theorem mixer_defs : Cert.Kernel4.defs (F := F) = Cert.Kernel4Ideal.defs (F := F) :=
  congrArg (Pipeline.defs (Cert.Kernel4Ideal.pcfgs (F := F))) mixer_defs₀

end Words
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Attn.Algebra
public import proofs.«01_k».proof.Proof.Ffn.Ref
public import proofs.«01_k».proof.Proof.Proj.Ref
public import proofs.«01_k».proof.Proof.Mixer.Ref
public import proofs.«01_k».proof.Proof.Keys.Ref
public import proofs.«01_k».proof.Proof.Words.Same
public import Idealize.ShloMosaic.Adequacy
public import Idealize.ShloMosaic.Init

@[expose] public section

noncomputable section

namespace Cert.Proof

open Idealize.ShloMosaic Idealize.SL.Sem Cert.Kernel

/-- The attention kernel over the words leaves its arguments as they were and every counter at zero. -/
theorem attn_frame_bits : Cert.quiescent_Kernel (hKernel := Cert.Kernel.Gen.facts) := by
  intro m ρ _
  have h := (θ_run Cert.KernelIdeal.defs _ _).mono (fun _ h => (⟨fun c => (h.1 c).2, h.2⟩ : _ ∧ _)) (Attn.run_result (F := Bits) m ρ)
  rw [← Words.attn_defs] at h
  exact h

/-- The attention kernel over the extended reals leaves its arguments as they were and every counter at zero. -/
theorem attn_frame : Cert.quiescent_KernelIdeal (hKernelIdeal := Cert.KernelIdeal.Gen.facts) := fun m ρ _ =>
  (θ_run Cert.KernelIdeal.defs _ _).mono (fun _ h => ⟨fun c => (h.1 c).2, h.2⟩) (Attn.run_result (F := Ideal) m ρ)

/-- The attention reference leaves its arguments as they were; it declares no semaphore. -/
theorem ref_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference compute the same attention over the extended reals, from finite hidden rows, weight and keys. -/
theorem attn_algebraic : Cert.algebraic_KernelIdeal_ReferenceIdeal_pre_finite (hKernelIdeal := Cert.KernelIdeal.Gen.facts)
    (hReferenceIdeal := Cert.ReferenceIdeal.Gen.facts) (hPre_finite := Attn.preFacts) := by
  intro m ρ m' ρ' hp ha
  refine ⟨fun c => Attn.attend (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    (θ_run Cert.KernelIdeal.defs _ _).mono (fun r h c => ⟨(h.1 c).1.trans (Attn.final3 m c), (h.1 c).2⟩) (Attn.run_result (F := Ideal) m ρ),
    (θ_run Cert.ReferenceIdeal.defs _ _).mono (fun r h c => ⟨(h c).1.trans ?_, (h c).2⟩) (Cert.ReferenceIdeal.Value.run (F := Ideal) m' ρ')⟩
  obtain ⟨h0, h1, h2, h3⟩ := ha c
  obtain ⟨hH, hW, hK⟩ := Attn.pre_real (hP := Attn.preFacts) _ _ _ _ (hp c)
  rw [Cert.ReferenceIdeal.Read.val_main_v31_eq, h0, h1, h2, h3]
  exact Attn.ref_attend _ _ _ _ hH hW hK

/-- The feed-forward kernel over the words leaves its arguments as they were and every counter at zero. -/
theorem ffn_frame_bits : Cert.quiescent_Kernel2 (hKernel2 := Cert.Kernel2.Gen.facts) := by
  intro m ρ _
  have h := (θ_run Cert.Kernel2Ideal.defs _ _).mono (fun _ h => (⟨fun c => (h.1 c).2, h.2⟩ : _ ∧ _)) (Ffn.run_result (F := Bits) m ρ)
  rw [← Words.ffn_defs] at h
  exact h

/-- The feed-forward kernel over the extended reals leaves its arguments as they were and every counter at zero. -/
theorem ffn_frame : Cert.quiescent_Kernel2Ideal (hKernel2Ideal := Cert.Kernel2Ideal.Gen.facts) := fun m ρ _ =>
  (θ_run Cert.Kernel2Ideal.defs _ _).mono (fun _ h => ⟨fun c => (h.1 c).2, h.2⟩) (Ffn.run_result (F := Ideal) m ρ)

/-- The feed-forward reference leaves its arguments as they were; it declares no semaphore. -/
theorem ffn_ref_frame : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- Kernel and reference compute the same feed-forward layer over the extended reals, from any arguments. -/
theorem ffn_algebraic : Cert.algebraic_Kernel2Ideal_Reference2Ideal (hKernel2Ideal := Cert.Kernel2Ideal.Gen.facts)
    (hReference2Ideal := Cert.Reference2Ideal.Gen.facts) := by
  intro m ρ m' ρ' _ ha
  refine ⟨fun c => Ffn.ffn (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4)),
    (θ_run Cert.Kernel2Ideal.defs _ _).mono (fun r h c => ⟨(h.1 c).1.trans (Ffn.final2 m c), (h.1 c).2⟩) (Ffn.run_result (F := Ideal) m ρ),
    (θ_run Cert.Reference2Ideal.defs _ _).mono (fun r h c => ⟨(h c).1.trans ?_, (h c).2⟩) (Cert.Reference2Ideal.Value.run (F := Ideal) m' ρ')⟩
  obtain ⟨h0, h1, h2, h3, h4⟩ := ha c
  rw [Cert.Reference2Ideal.Read.val_main_v23_eq, h0, h1, h2, h3, h4]
  exact Ffn.ref_ffn _ _ _ _ _

/-- The output projection kernel over the words leaves its arguments as they were and every counter at zero. -/
theorem proj_frame_bits : Cert.quiescent_Kernel3 (hKernel3 := Cert.Kernel3.Gen.facts) := by
  intro m ρ _
  have h := (θ_run Cert.Kernel3Ideal.defs _ _).mono (fun _ h => (⟨fun c => (h.1 c).2.2, h.2⟩ : _ ∧ _)) (Proj.run_result (F := Bits) m ρ)
  rw [← Words.proj_defs] at h
  exact h

/-- The output projection kernel over the extended reals leaves its arguments as they were and every counter at zero. -/
theorem proj_frame : Cert.quiescent_Kernel3Ideal (hKernel3Ideal := Cert.Kernel3Ideal.Gen.facts) := fun m ρ _ =>
  (θ_run Cert.Kernel3Ideal.defs _ _).mono (fun _ h => ⟨fun c => (h.1 c).2.2, h.2⟩) (Proj.run_result (F := Ideal) m ρ)

/-- The output projection reference leaves its arguments as they were; it declares no semaphore. -/
theorem proj_ref_frame : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- Kernel and reference compute the same new residual and the same normalised rows over the extended reals, from any arguments. -/
theorem proj_algebraic : Cert.algebraic_Kernel3Ideal_Reference3Ideal (hKernel3Ideal := Cert.Kernel3Ideal.Gen.facts)
    (hReference3Ideal := Cert.Reference3Ideal.Gen.facts) := by
  intro m ρ m' ρ' _ ha
  refine ⟨fun c => Proj.xnew (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)),
    fun c => Proj.hnew (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)),
    (θ_run Cert.Kernel3Ideal.defs _ _).mono (fun r h c => ⟨(h.1 c).1.trans (Proj.final4 m c), (h.1 c).2.1.trans (Proj.final5 m c), (h.1 c).2.2⟩) (Proj.run_result (F := Ideal) m ρ),
    (θ_run Cert.Reference3Ideal.defs _ _).mono (fun r h c => ⟨(h c).1.trans ?_, (h c).2.1.trans ?_, (h c).2.2⟩) (Cert.Reference3Ideal.Value.run (F := Ideal) m' ρ')⟩
  · obtain ⟨h0, h1, h2, h3, h4⟩ := ha c
    rw [Cert.Reference3Ideal.Read.val_main_v18_eq, h0, h1, h2, h3]
    exact Proj.ref_xnew _ _ _ _
  · obtain ⟨h0, h1, h2, h3, h4⟩ := ha c
    rw [Cert.Reference3Ideal.Read.val_main_v33_eq, h0, h1, h2, h3, h4]
    exact Proj.ref_hnew _ _ _ _ _

/-- The mixer input kernel over the words leaves its arguments as they were and every counter at zero. -/
theorem mixer_frame_bits : Cert.quiescent_Kernel4 (hKernel4 := Cert.Kernel4.Gen.facts) := by
  intro m ρ _
  have h := (θ_run Cert.Kernel4Ideal.defs _ _).mono (fun _ h => (⟨fun c => (h.1 c).2.2.2.2.2, h.2⟩ : _ ∧ _)) (Mixer.run_result (F := Bits) m ρ)
  rw [← Words.mixer_defs] at h
  exact h

/-- The mixer input kernel over the extended reals leaves its arguments as they were and every counter at zero. -/
theorem mixer_frame : Cert.quiescent_Kernel4Ideal (hKernel4Ideal := Cert.Kernel4Ideal.Gen.facts) := fun m ρ _ =>
  (θ_run Cert.Kernel4Ideal.defs _ _).mono (fun _ h => ⟨fun c => (h.1 c).2.2.2.2.2, h.2⟩) (Mixer.run_result (F := Ideal) m ρ)

/-- The mixer input reference leaves its arguments as they were; it declares no semaphore. -/
theorem mixer_ref_frame : Cert.quiescent_Reference4Ideal (hReference4Ideal := Cert.Reference4Ideal.Gen.facts) := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

/-- Kernel and reference compute the same five results of the mixer input over the extended reals, from any arguments. -/
theorem mixer_algebraic : Cert.algebraic_Kernel4Ideal_Reference4Ideal (hKernel4Ideal := Cert.Kernel4Ideal.Gen.facts)
    (hReference4Ideal := Cert.Reference4Ideal.Gen.facts) := by
  intro m ρ m' ρ' _ ha
  refine ⟨fun c => Mixer.uF (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    fun c => Mixer.vF (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)),
    fun c => Mixer.pF (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    fun c => Mixer.gF (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    fun c => Mixer.sF (m ((c.tc : Thread Cert.Kernel4Ideal.nD Cert.Kernel4Ideal.τ).loc Cert.Kernel4Ideal.main_arg4)),
    (θ_run Cert.Kernel4Ideal.defs _ _).mono (fun r h c => ⟨(h.1 c).1.trans (Mixer.final4 m c), (h.1 c).2.1.trans (Mixer.final5 m c), (h.1 c).2.2.1.trans (Mixer.final6 m c), (h.1 c).2.2.2.1.trans (Mixer.final7 m c), (h.1 c).2.2.2.2.1.trans (Mixer.final8 m c), (h.1 c).2.2.2.2.2⟩) (Mixer.run_result (F := Ideal) m ρ),
    (θ_run Cert.Reference4Ideal.defs _ _).mono (fun r h c => ⟨(h c).1.trans ?_, (h c).2.1.trans ?_, (h c).2.2.1.trans ?_, (h c).2.2.2.1.trans ?_, (h c).2.2.2.2.1.trans ?_, (h c).2.2.2.2.2⟩) (Cert.Reference4Ideal.Value.run (F := Ideal) m' ρ')⟩
  · obtain ⟨h0, h1, h2, h3, h4⟩ := ha c
    rw [Cert.Reference4Ideal.Read.val_main_v59_eq, h0, h1, h2]
    exact Mixer.ref_u _ _ _
  · obtain ⟨h0, h1, h2, h3, h4⟩ := ha c
    rw [Cert.Reference4Ideal.Read.val_main_v61_eq, h0, h1, h2, h3]
    exact Mixer.ref_v _ _ _ _
  · obtain ⟨h0, h1, h2, h3, h4⟩ := ha c
    rw [Cert.Reference4Ideal.Read.val_main_v18_eq, h0, h1, h2]
    exact Mixer.ref_p _ _ _
  · obtain ⟨h0, h1, h2, h3, h4⟩ := ha c
    rw [Cert.Reference4Ideal.Read.val_main_v68_eq, h0, h1, h2]
    exact Mixer.ref_g _ _ _
  · obtain ⟨h0, h1, h2, h3, h4⟩ := ha c
    rw [Cert.Reference4Ideal.Read.val_main_v71_eq, h4]
    exact Mixer.ref_s _

/-- The key-value kernel over the words leaves its arguments as they were and every counter at zero. -/
theorem kv_frame_bits : Cert.quiescent_Kernel5 (hKernel5 := Cert.Kernel5.Gen.facts) := fun m ρ _ => Cert.Kernel5.Gen.frame (F := Bits) m ρ

/-- The key-value kernel over the extended reals leaves its arguments as they were and every counter at zero. -/
theorem kv_frame : Cert.quiescent_Kernel5Ideal (hKernel5Ideal := Cert.Kernel5Ideal.Gen.facts) := fun m ρ _ => Cert.Kernel5Ideal.Gen.frame (F := Ideal) m ρ

/-- The key-value reference leaves its arguments as they were; it declares no semaphore. -/
theorem kv_ref_frame : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- Kernel and reference compute the same keys and the same values of both layers over the extended reals, from any arguments. -/
theorem kv_algebraic : Cert.algebraic_Kernel5Ideal_Reference5Ideal (hKernel5Ideal := Cert.Kernel5Ideal.Gen.facts)
    (hReference5Ideal := Cert.Reference5Ideal.Gen.facts) := by
  intro m ρ m' ρ' _ ha
  refine ⟨fun c => Keys.kvF (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)),
    fun c => Keys.kvF (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg3)),
    (θ_run Cert.Kernel5Ideal.defs _ _).mono (fun r h c => ⟨(h c).1.trans (Keys.final4 m c), (h c).2.1.trans (Keys.final5 m c), (h c).2.2⟩) (Keys.run_result m ρ),
    (θ_run Cert.Reference5Ideal.defs _ _).mono (fun r h c => ⟨(h c).1.trans ?_, (h c).2.1.trans ?_, (h c).2.2⟩) (Cert.Reference5Ideal.Value.run (F := Ideal) m' ρ')⟩
  · obtain ⟨h0, h1, h2, h3⟩ := ha c
    rw [Cert.Reference5Ideal.Read.val_main_v15_eq, h0, h1, h2]
    exact Keys.ref_k _ _ _
  · obtain ⟨h0, h1, h2, h3⟩ := ha c
    rw [Cert.Reference5Ideal.Read.val_main_v17_eq, h0, h1, h3]
    exact Keys.ref_v _ _ _

/-- Everything claimed of the five calls. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Attn.preFacts,
  attn_frame_bits, attn_frame, fun m ρ _ => attn_frame m ρ trivial, ref_frame, fun m ρ _ => ref_frame m ρ trivial,
  ffn_frame_bits, ffn_frame, ffn_ref_frame, proj_frame_bits, proj_frame, proj_ref_frame,
  mixer_frame_bits, mixer_frame, mixer_ref_frame,
  kv_frame_bits, kv_frame, kv_ref_frame,
  trivial, attn_algebraic, trivial, ffn_algebraic, trivial, proj_algebraic, trivial, mixer_algebraic, trivial, kv_algebraic⟩

end Cert.Proof

end
